-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "m_init" .f32 0xF149F2CA#32 ⊥
  ∧ IdealRules.named_const.Statement Cert.KernelIdeal.κ "masked" .f32 0xF1800000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v27)) (v1 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_v29) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v116)) (v1 : (c : Dev Cert.Kernel4Ideal.nD) → Buf (Elt Ideal) ((c.tc : Thread Cert.Kernel4Ideal.nD Cert.Kernel4Ideal.τ).loc Cert.Kernel4Ideal.main_v120)) (v2 : (c : Dev Cert.Kernel4Ideal.nD) → Buf (Elt Ideal) ((c.tc : Thread Cert.Kernel4Ideal.nD Cert.Kernel4Ideal.τ).loc Cert.Kernel4Ideal.main_v124)) (v3 : (c : Dev Cert.Kernel4Ideal.nD) → Buf (Elt Ideal) ((c.tc : Thread Cert.Kernel4Ideal.nD Cert.Kernel4Ideal.τ).loc Cert.Kernel4Ideal.main_v127)) (v4 : (c : Dev Cert.Kernel4Ideal.nD) → Buf (Elt Ideal) ((c.tc : Thread Cert.Kernel4Ideal.nD Cert.Kernel4Ideal.τ).loc Cert.Kernel4Ideal.main_v131)) (v5 : (c : Dev Cert.Kernel4Ideal.nD) → Buf (Elt Ideal) ((c.tc : Thread Cert.Kernel4Ideal.nD Cert.Kernel4Ideal.τ).loc Cert.Kernel4Ideal.main_v134)) (v6 : (c : Dev Cert.Kernel4Ideal.nD) → Buf (Elt Ideal) ((c.tc : Thread Cert.Kernel4Ideal.nD Cert.Kernel4Ideal.τ).loc Cert.Kernel4Ideal.main_v138)) (v7 : (c : Dev Cert.Kernel4Ideal.nD) → Buf (Elt Ideal) ((c.tc : Thread Cert.Kernel4Ideal.nD Cert.Kernel4Ideal.τ).loc Cert.Kernel4Ideal.main_v112)) (v8 : (c : Dev Cert.Kernel4Ideal.nD) → Buf (Elt Ideal) ((c.tc : Thread Cert.Kernel4Ideal.nD Cert.Kernel4Ideal.τ).loc Cert.Kernel4Ideal.main_v145)) (v9 : (c : Dev Cert.Kernel4Ideal.nD) → Buf (Elt Ideal) ((c.tc : Thread Cert.Kernel4Ideal.nD Cert.Kernel4Ideal.τ).loc Cert.Kernel4Ideal.main_v151)) (v10 : (c : Dev Cert.Kernel4Ideal.nD) → Buf (Elt Ideal) ((c.tc : Thread Cert.Kernel4Ideal.nD Cert.Kernel4Ideal.τ).loc Cert.Kernel4Ideal.main_v152)) (v11 : (c : Dev Cert.Kernel4Ideal.nD) → Buf (Elt Ideal) ((c.tc : Thread Cert.Kernel4Ideal.nD Cert.Kernel4Ideal.τ).loc Cert.Kernel4Ideal.main_v153)) (v12 : (c : Dev Cert.Kernel4Ideal.nD) → Buf (Elt Ideal) ((c.tc : Thread Cert.Kernel4Ideal.nD Cert.Kernel4Ideal.τ).loc Cert.Kernel4Ideal.main_v154)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v116) = v0 c
          ∧ r.2.mem ((c.tc : Thread Cert.Kernel4Ideal.nD Cert.Kernel4Ideal.τ).loc Cert.Kernel4Ideal.main_v120) = v1 c
          ∧ r.2.mem ((c.tc : Thread Cert.Kernel4Ideal.nD Cert.Kernel4Ideal.τ).loc Cert.Kernel4Ideal.main_v124) = v2 c
          ∧ r.2.mem ((c.tc : Thread Cert.Kernel4Ideal.nD Cert.Kernel4Ideal.τ).loc Cert.Kernel4Ideal.main_v127) = v3 c
          ∧ r.2.mem ((c.tc : Thread Cert.Kernel4Ideal.nD Cert.Kernel4Ideal.τ).loc Cert.Kernel4Ideal.main_v131) = v4 c
          ∧ r.2.mem ((c.tc : Thread Cert.Kernel4Ideal.nD Cert.Kernel4Ideal.τ).loc Cert.Kernel4Ideal.main_v134) = v5 c
          ∧ r.2.mem ((c.tc : Thread Cert.Kernel4Ideal.nD Cert.Kernel4Ideal.τ).loc Cert.Kernel4Ideal.main_v138) = v6 c
          ∧ r.2.mem ((c.tc : Thread Cert.Kernel4Ideal.nD Cert.Kernel4Ideal.τ).loc Cert.Kernel4Ideal.main_v112) = v7 c
          ∧ r.2.mem ((c.tc : Thread Cert.Kernel4Ideal.nD Cert.Kernel4Ideal.τ).loc Cert.Kernel4Ideal.main_v145) = v8 c
          ∧ r.2.mem ((c.tc : Thread Cert.Kernel4Ideal.nD Cert.Kernel4Ideal.τ).loc Cert.Kernel4Ideal.main_v151) = v9 c
          ∧ r.2.mem ((c.tc : Thread Cert.Kernel4Ideal.nD Cert.Kernel4Ideal.τ).loc Cert.Kernel4Ideal.main_v152) = v10 c
          ∧ r.2.mem ((c.tc : Thread Cert.Kernel4Ideal.nD Cert.Kernel4Ideal.τ).loc Cert.Kernel4Ideal.main_v153) = v11 c
          ∧ r.2.mem ((c.tc : Thread Cert.Kernel4Ideal.nD Cert.Kernel4Ideal.τ).loc Cert.Kernel4Ideal.main_v154) = v12 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_v20) = v3 c
          ∧ r.2.mem ((c.tc : Thread Cert.Reference4Ideal.nD Cert.Reference4Ideal.τ).loc Cert.Reference4Ideal.main_v21) = v4 c
          ∧ r.2.mem ((c.tc : Thread Cert.Reference4Ideal.nD Cert.Reference4Ideal.τ).loc Cert.Reference4Ideal.main_v22) = v5 c
          ∧ r.2.mem ((c.tc : Thread Cert.Reference4Ideal.nD Cert.Reference4Ideal.τ).loc Cert.Reference4Ideal.main_v23) = v6 c
          ∧ r.2.mem ((c.tc : Thread Cert.Reference4Ideal.nD Cert.Reference4Ideal.τ).loc Cert.Reference4Ideal.main_v29) = v7 c
          ∧ r.2.mem ((c.tc : Thread Cert.Reference4Ideal.nD Cert.Reference4Ideal.τ).loc Cert.Reference4Ideal.main_v32) = v8 c
          ∧ r.2.mem ((c.tc : Thread Cert.Reference4Ideal.nD Cert.Reference4Ideal.τ).loc Cert.Reference4Ideal.main_v33) = v9 c
          ∧ r.2.mem ((c.tc : Thread Cert.Reference4Ideal.nD Cert.Reference4Ideal.τ).loc Cert.Reference4Ideal.main_v34) = v10 c
          ∧ r.2.mem ((c.tc : Thread Cert.Reference4Ideal.nD Cert.Reference4Ideal.τ).loc Cert.Reference4Ideal.main_v41) = v11 c
          ∧ r.2.mem ((c.tc : Thread Cert.Reference4Ideal.nD Cert.Reference4Ideal.τ).loc Cert.Reference4Ideal.main_v48) = v12 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v16)) (v1 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_v17) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_v63) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x2048x512 : Shape := ⟨3, ![8, 2048, 512]⟩
abbrev S64 : Shape := ⟨1, ![64]⟩
abbrev S128 : Shape := ⟨1, ![128]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8x2048x512 .f32) (main_arg1 : FVec F S8x2048x512 .f32) (main_arg2 : FVec F S8x2048x512 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S8x2048x512 .f32 := Host.absf main_arg2
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S8x2048x512 : Shape := ⟨3, ![8, 2048, 512]⟩
abbrev S64 : Shape := ⟨1, ![64]⟩
abbrev S128 : Shape := ⟨1, ![128]⟩
abbrev S16384x512 : Shape := ⟨2, ![16384, 512]⟩
abbrev S_ : Shape := ⟨0, ![]⟩
abbrev S16384x2x4x64 : Shape := ⟨4, ![16384, 2, 4, 64]⟩
abbrev S16384x4x2x64 : Shape := ⟨4, ![16384, 4, 2, 64]⟩
abbrev S16384x8x64 : Shape := ⟨3, ![16384, 8, 64]⟩
abbrev S16384x8x128 : Shape := ⟨3, ![16384, 8, 128]⟩
abbrev S16384x1024 : Shape := ⟨2, ![16384, 1024]⟩
abbrev S1024x16384 : Shape := ⟨2, ![1024, 16384]⟩
abbrev S4 : Shape := ⟨1, ![4]⟩
abbrev S4x2 : Shape := ⟨2, ![4, 2]⟩
abbrev S8 : Shape := ⟨1, ![8]⟩
abbrev S8x1 : Shape := ⟨2, ![8, 1]⟩
abbrev S1x128 : Shape := ⟨2, ![1, 128]⟩
abbrev S8x128 : Shape := ⟨2, ![8, 128]⟩
abbrev S1024 : Shape := ⟨1, ![1024]⟩
abbrev S1024x1 : Shape := ⟨2, ![1024, 1]⟩
abbrev S16384x128 : Shape := ⟨2, ![16384, 128]⟩
abbrev S1x64 : Shape := ⟨2, ![1, 64]⟩
abbrev S4x64 : Shape := ⟨2, ![4, 64]⟩
abbrev S128x1 : Shape := ⟨2, ![128, 1]⟩
abbrev S256x1024 : Shape := ⟨2, ![256, 1024]⟩
abbrev S2048x256 : Shape := ⟨2, ![2048, 256]⟩
abbrev S2048x128 : Shape := ⟨2, ![2048, 128]⟩
abbrev S1024x128 : Shape := ⟨2, ![1024, 128]⟩
abbrev S128x1024 : Shape := ⟨2, ![128, 1024]⟩
abbrev S1 : Shape := ⟨1, ![1]⟩
abbrev S1x1 : Shape := ⟨2, ![1, 1]⟩
abbrev S1x1024 : Shape := ⟨2, ![1, 1024]⟩
abbrev S1024x1024 : Shape := ⟨2, ![1024, 1024]⟩
abbrev S512x1 : Shape := ⟨2, ![512, 1]⟩
abbrev S1x512 : Shape := ⟨2, ![1, 512]⟩
abbrev S512x512 : Shape := ⟨2, ![512, 512]⟩
abbrev S512x128 : Shape := ⟨2, ![512, 128]⟩
abbrev S128x512 : Shape := ⟨2, ![128, 512]⟩
abbrev S512 : Shape := ⟨1, ![512]⟩

abbrev nBuf : Space → Nat
  | .hbm => 96
  | .vmem => 10
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S16384x2x4x64, .f32⟩
  | .hbm, ⟨15, _⟩ => ⟨S16384x4x2x64, .f32⟩
  | .hbm, ⟨16, _⟩ => ⟨S16384x512, .f32⟩
  | .hbm, ⟨17, _⟩ => ⟨S16384x8x64, .f32⟩
  | .hbm, ⟨18, _⟩ => ⟨S_, .i32⟩
  | .hbm, ⟨19, _⟩ => ⟨S_, .f32⟩
  | .hbm, ⟨20, _⟩ => ⟨S16384x8x128, .f32⟩
  | .hbm, ⟨21, _⟩ => ⟨S16384x1024, .f32⟩
  | .hbm, ⟨22, _⟩ => ⟨S1024x16384, .f32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i1⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S128, .i1⟩
  | .hbm, ⟨31, _⟩ => ⟨S128, .f32⟩
  | .hbm, ⟨32, _⟩ => ⟨S4, .i32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S4x2, .f32⟩
  | .hbm, ⟨45, _⟩ => ⟨S8, .f32⟩
  | .hbm, ⟨46, _⟩ => ⟨S8x1, .f32⟩
  | .hbm, ⟨47, _⟩ => ⟨S8x1, .f32⟩
  | .hbm, ⟨48, _⟩ => ⟨S1x128, .f32⟩
  | .hbm, ⟨49, _⟩ => ⟨S8x128, .f32⟩
  | .hbm, ⟨50, _⟩ => ⟨S8x128, .f32⟩
  | .hbm, ⟨51, _⟩ => ⟨S8x128, .f32⟩
  | .hbm, ⟨52, _⟩ => ⟨S1024, .f32⟩
  | .hbm, ⟨53, _⟩ => ⟨S1024x1, .f32⟩
  | .hbm, ⟨54, _⟩ => ⟨S1024x16384, .f32⟩
  | .hbm, ⟨55, _⟩ => ⟨S1024x16384, .f32⟩
  | .hbm, ⟨56, _⟩ => ⟨S1024x16384, .bf16⟩
  | .hbm, ⟨57, _⟩ => ⟨S16384x2x4x64, .f32⟩
  | .hbm, ⟨58, _⟩ => ⟨S16384x4x2x64, .f32⟩
  | .hbm, ⟨59, _⟩ => ⟨S16384x512, .f32⟩
  | .hbm, ⟨60, _⟩ => ⟨S16384x8x64, .f32⟩
  | .hbm, ⟨61, _⟩ => ⟨S_, .i32⟩
  | .hbm, ⟨62, _⟩ => ⟨S_, .f32⟩
  | .hbm, ⟨63, _⟩ => ⟨S16384x8x128, .f32⟩
  | .hbm, ⟨64, _⟩ => ⟨S16384x1024, .f32⟩
  | .hbm, ⟨65, _⟩ => ⟨S16384x128, .i32⟩
  | .hbm, ⟨66, _⟩ => ⟨S_, .i32⟩
  | .hbm, ⟨67, _⟩ => ⟨S16384x128, .i32⟩
  | .hbm, ⟨68, _⟩ => ⟨S16384x128, .i32⟩
  | .hbm, ⟨69, _⟩ => ⟨S16384x128, .i32⟩
  | .hbm, ⟨70, _⟩ => ⟨S16384x128, .f32⟩
  | .hbm, ⟨71, _⟩ => ⟨S16384x128, .bf16⟩
  | .hbm, ⟨72, _⟩ => ⟨S16384x128, .f32⟩
  | .hbm, ⟨73, _⟩ => ⟨S16384x128, .f32⟩
  | .hbm, ⟨74, _⟩ => ⟨S_, .i32⟩
  | .hbm, ⟨75, _⟩ => ⟨S16384x128, .i32⟩
  | .hbm, ⟨76, _⟩ => ⟨S16384x128, .i1⟩
  | .hbm, ⟨77, _⟩ => ⟨S_, .i32⟩
  | .hbm, ⟨78, _⟩ => ⟨S16384x128, .i32⟩
  | .hbm, ⟨79, _⟩ => ⟨S16384x128, .i1⟩
  | .hbm, ⟨80, _⟩ => ⟨S_, .f32⟩
  | .hbm, ⟨81, _⟩ => ⟨S_, .f32⟩
  | .hbm, ⟨82, _⟩ => ⟨S16384x128, .f32⟩
  | .hbm, ⟨83, _⟩ => ⟨S16384x128, .f32⟩
  | .hbm, ⟨84, _⟩ => ⟨S16384x128, .f32⟩
  | .hbm, ⟨85, _⟩ => ⟨S16384x1024, .f32⟩
  | .hbm, ⟨86, _⟩ => ⟨S16384x1024, .f32⟩
  | .hbm, ⟨87, _⟩ => ⟨S16384x1024, .bf16⟩
  | .hbm, ⟨88, _⟩ => ⟨S16384x512, .bf16⟩
  | .hbm, ⟨89, _⟩ => ⟨S1x64, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S4x64, .f32⟩
  | .hbm, ⟨94, _⟩ => ⟨S128x1, .f32⟩
  | .hbm, ⟨95, _⟩ => ⟨S16384x512, .bf16⟩
  | .local _ .vmem, ⟨0, _⟩ => ⟨S256x1024, .bf16⟩
  | .local _ .vmem, ⟨1, _⟩ => ⟨S256x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S4x64, .f32⟩
  | .local _ .vmem, ⟨7, _⟩ => ⟨S128x1, .f32⟩
  | .local _ .vmem, ⟨8, _⟩ => ⟨S1024x128, .bf16⟩
  | .local _ .vmem, ⟨9, _⟩ => ⟨S1024x128, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_call1_v0 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_7 : Ref sig .tc := ⟨.hbm, 74, rfl⟩
abbrev main_v55 : Ref sig .tc := ⟨.hbm, 75, rfl⟩
abbrev main_v56 : Ref sig .tc := ⟨.hbm, 76, rfl⟩
abbrev main_c_8 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_call2_v0 : Ref sig .tc := ⟨.hbm, 81, rfl⟩
abbrev main_call2_v1 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 2], ![false, false, false]⟩

@[reducible] def k0_t1_loop (i : grid0.Coords) : Scf.Loop 32 :=
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_12 : BitVec 32 := 1#32
  ⟨c0_i32, v31, c1_i32_12⟩
def k0_mult1 (i : grid0.Coords) (k0_t1 : Fin (k0_t1_loop i).trips) : BitVec 32 :=
  let c0_i32 : BitVec 32 := 0#32
  let c1_i32_12 : BitVec 32 := 1#32
  let arg9 : BitVec 32 := Scf.iv c0_i32 c1_i32_12 k0_t1
  let c1024_i32_65 : BitVec 32 := 1024#32
  let v243 : BitVec 32 := Scalar.muli arg9 c1024_i32_65
  v243
def k0_off1 (i : grid0.Coords) (k0_t1 : Fin (k0_t1_loop i).trips) : Fin 2 → Nat :=
  let c0_i32 : BitVec 32 := 0#32
  let c1_i32_12 : BitVec 32 := 1#32
  let arg9 : BitVec 32 := Scf.iv c0_i32 c1_i32_12 k0_t1
  let c1024_i32_65 : BitVec 32 := 1024#32
  let v243 : BitVec 32 := Scalar.muli arg9 c1024_i32_65
  let v244 : BitVec 32 := v243
  let v245 : Index := Scalar.indexCast v244
  let c0_66 : Index := 0#32
  ![v245.toNat, 0]
def k0_off2 (i : grid0.Coords) (k0_t1 : Fin (k0_t1_loop i).trips) : Fin 2 → Nat :=
  let c0_i32 : BitVec 32 := 0#32
  let c1_i32_12 : BitVec 32 := 1#32
  let arg9 : BitVec 32 := Scf.iv c0_i32 c1_i32_12 k0_t1
  let c1024_i32_65 : BitVec 32 := 1024#32
  let v243 : BitVec 32 := Scalar.muli arg9 c1024_i32_65
  let v244 : BitVec 32 := v243
  let v248 : Index := Scalar.indexCast v244
  let c128_67 : Index := 128#32
  ![v248.toNat, 128]
def k0_off3 (i : grid0.Coords) (k0_t1 : Fin (k0_t1_loop i).trips) : Fin 2 → Nat :=
  let c0_i32 : BitVec 32 := 0#32
  let c1_i32_12 : BitVec 32 := 1#32
  let arg9 : BitVec 32 := Scf.iv c0_i32 c1_i32_12 k0_t1
  let c1024_i32_65 : BitVec 32 := 1024#32
  let v243 : BitVec 32 := Scalar.muli arg9 c1024_i32_65
  let v244 : BitVec 32 := v243
  let v251 : Index := Scalar.indexCast v244
  let c0_68 : Index := 0#32
  ![v251.toNat, 0]
@[reducible] def k0_t2_loop (i : grid0.Coords) : Scf.Loop 32 :=
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let v28 : BitVec 32 := Scalar.addi c0_i32 v27
  let c1_i32_13 : BitVec 32 := 1#32
  ⟨v31, v28, c1_i32_13⟩
def k0_mult2 (i : grid0.Coords) (k0_t2 : Fin (k0_t2_loop i).trips) : BitVec 32 :=
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_13 : BitVec 32 := 1#32
  let arg9 : BitVec 32 := Scf.iv v31 c1_i32_13 k0_t2
  let c1024_i32_65 : BitVec 32 := 1024#32
  let v243 : BitVec 32 := Scalar.muli arg9 c1024_i32_65
  v243
def k0_off4 (i : grid0.Coords) (k0_t2 : Fin (k0_t2_loop i).trips) : Fin 2 → Nat :=
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_13 : BitVec 32 := 1#32
  let arg9 : BitVec 32 := Scf.iv v31 c1_i32_13 k0_t2
  let c1024_i32_65 : BitVec 32 := 1024#32
  let v243 : BitVec 32 := Scalar.muli arg9 c1024_i32_65
  let v244 : BitVec 32 := v243
  let v245 : Index := Scalar.indexCast v244
  let c0_66 : Index := 0#32
  ![v245.toNat, 0]
def k0_off5 (i : grid0.Coords) (k0_t2 : Fin (k0_t2_loop i).trips) : Fin 2 → Nat :=
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_13 : BitVec 32 := 1#32
  let arg9 : BitVec 32 := Scf.iv v31 c1_i32_13 k0_t2
  let c1024_i32_65 : BitVec 32 := 1024#32
  let v243 : BitVec 32 := Scalar.muli arg9 c1024_i32_65
  let v244 : BitVec 32 := v243
  let v248 : Index := Scalar.indexCast v244
  let c128_67 : Index := 128#32
  ![v248.toNat, 128]
def k0_off6 (i : grid0.Coords) (k0_t2 : Fin (k0_t2_loop i).trips) : Fin 2 → Nat :=
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_13 : BitVec 32 := 1#32
  let arg9 : BitVec 32 := Scf.iv v31 c1_i32_13 k0_t2
  let c1024_i32_65 : BitVec 32 := 1024#32
  let v243 : BitVec 32 := Scalar.muli arg9 c1024_i32_65
  let v244 : BitVec 32 := v243
  let v251 : Index := Scalar.indexCast v244
  let c0_68 : Index := 0#32
  ![v251.toNat, 0]
def k0_mult3 (i : grid0.Coords) : BitVec 32 :=
  let arg2 : BitVec 32 := BitVec.ofNat 32 (i 2).val
  let c1024_i32 : BitVec 32 := 1024#32
  let v34 : BitVec 32 := Scalar.muli arg2 c1024_i32
  v34
def k0_off7 (i : grid0.Coords) : Fin 2 → Nat :=
  let arg2 : BitVec 32 := BitVec.ofNat 32 (i 2).val
  let c1024_i32 : BitVec 32 := 1024#32
  let v34 : BitVec 32 := Scalar.muli arg2 c1024_i32
  let v35 : BitVec 32 := v34
  let v41 : Index := Scalar.indexCast v35
  let c0_14 : Index := 0#32
  ![v41.toNat, 0]
def k0_off8 (i : grid0.Coords) : Fin 2 → Nat :=
  let arg2 : BitVec 32 := BitVec.ofNat 32 (i 2).val
  let c1024_i32 : BitVec 32 := 1024#32
  let v34 : BitVec 32 := Scalar.muli arg2 c1024_i32
  let v35 : BitVec 32 := v34
  let v44 : Index := Scalar.indexCast v35
  let c0_15 : Index := 0#32
  ![v44.toNat, 0]
def k0_off9 (i : grid0.Coords) : Fin 2 → Nat :=
  let arg2 : BitVec 32 := BitVec.ofNat 32 (i 2).val
  let c1024_i32 : BitVec 32 := 1024#32
  let v34 : BitVec 32 := Scalar.muli arg2 c1024_i32
  let v35 : BitVec 32 := v34
  let c512_i32 : BitVec 32 := 512#32
  let v47 : BitVec 32 := Scalar.addi v35 c512_i32
  let v48 : Index := Scalar.indexCast v47
  let c0_16 : Index := 0#32
  ![v48.toNat, 0]
def k0_off10 (i : grid0.Coords) : Fin 2 → Nat :=
  let arg2 : BitVec 32 := BitVec.ofNat 32 (i 2).val
  let c1024_i32 : BitVec 32 := 1024#32
  let v34 : BitVec 32 := Scalar.muli arg2 c1024_i32
  let v35 : BitVec 32 := v34
  let c512_i32_17 : BitVec 32 := 512#32
  let v51 : BitVec 32 := Scalar.addi v35 c512_i32_17
  let v52 : Index := Scalar.indexCast v51
  let c0_18 : Index := 0#32
  ![v52.toNat, 0]
def k0_off11 (i : grid0.Coords) : Fin 2 → Nat :=
  let arg2 : BitVec 32 := BitVec.ofNat 32 (i 2).val
  let c1024_i32 : BitVec 32 := 1024#32
  let v34 : BitVec 32 := Scalar.muli arg2 c1024_i32
  let v35 : BitVec 32 := v34
  let v131 : Index := Scalar.indexCast v35
  let c128_35 : Index := 128#32
  ![v131.toNat, 128]
def k0_off12 (i : grid0.Coords) : Fin 2 → Nat :=
  let arg2 : BitVec 32 := BitVec.ofNat 32 (i 2).val
  let c1024_i32 : BitVec 32 := 1024#32
  let v34 : BitVec 32 := Scalar.muli arg2 c1024_i32
  let v35 : BitVec 32 := v34
  let c512_i32_37 : BitVec 32 := 512#32
  let v137 : BitVec 32 := Scalar.addi v35 c512_i32_37
  let v138 : Index := Scalar.indexCast v137
  let c128_38 : Index := 128#32
  ![v138.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "m_init" => some ⊥
  | "masked" => some ⊥
  | _ => none
-- ==== ReferenceIdeal.lean ====
abbrev S8x2048x512 : Shape := ⟨3, ![8, 2048, 512]⟩
abbrev S64 : Shape := ⟨1, ![64]⟩
abbrev S128 : Shape := ⟨1, ![128]⟩
abbrev S8x2048x2x4x64 : Shape := ⟨5, ![8, 2048, 2, 4, 64]⟩
abbrev S_ : Shape := ⟨0, ![]⟩
abbrev S8x2048x1x4x64 : Shape := ⟨5, ![8, 2048, 1, 4, 64]⟩
abbrev S8x2048x4x64 : Shape := ⟨4, ![8, 2048, 4, 64]⟩
abbrev S8x4x2048x64 : Shape := ⟨4, ![8, 4, 2048, 64]⟩
abbrev S8x2048x4x128 : Shape := ⟨4, ![8, 2048, 4, 128]⟩
abbrev S8x4x2048x128 : Shape := ⟨4, ![8, 4, 2048, 128]⟩
abbrev S4 : Shape := ⟨1, ![4]⟩
abbrev S1x4x1x1 : Shape := ⟨4, ![1, 4, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S1x4x2048x2048 : Shape := ⟨4, ![1, 4, 2048, 2048]⟩
abbrev S8x4x2048x2048 : Shape := ⟨4, ![8, 4, 2048, 2048]⟩
abbrev S8x4x2048 : Shape := ⟨3, ![8, 4, 2048]⟩
abbrev S8x4x2048x1 : Shape := ⟨4, ![8, 4, 2048, 1]⟩
abbrev S1x1x1x128 : Shape := ⟨4, ![1, 1, 1, 128]⟩
abbrev S16384x512 : Shape := ⟨2, ![16384, 512]⟩

abbrev nBuf : Space → Nat
  | .hbm => 149
  | .vmem => 0
  | .smem => 0
  | _ => 0

abbrev hbmTy0_0 (i : Nat) : BufTy := match i % 128 with
  | 0 => ⟨S8x2048x512, .f32⟩
  | 1 => ⟨S8x2048x512, .f32⟩
  | 2 => ⟨S8x2048x512, .f32⟩
  | 3 => ⟨S64, .f32⟩
  | 4 => ⟨S64, .f32⟩
  | 5 => ⟨S64, .f32⟩
  | 6 => ⟨S64, .f32⟩
  | 7 => ⟨S128, .f32⟩
  | 8 => ⟨S8x2048x2x4x64, .f32⟩
  | 9 => ⟨S_, .f32⟩
  | 10 => ⟨S8x2048x2x4x64, .f32⟩
  | 11 => ⟨S8x2048x2x4x64, .f32⟩
  | 12 => ⟨S8x2048x2x4x64, .f32⟩
  | 13 => ⟨S8x2048x1x4x64, .f32⟩
  | 14 => ⟨S8x2048x4x64, .f32⟩
  | 15 => ⟨S8x4x2048x64, .f32⟩
  | 16 => ⟨S8x2048x1x4x64, .f32⟩
  | 17 => ⟨S8x2048x4x64, .f32⟩
  | 18 => ⟨S8x4x2048x64, .f32⟩
  | 19 => ⟨S8x2048x1x4x64, .f32⟩
  | 20 => ⟨S8x2048x4x64, .f32⟩
  | 21 => ⟨S8x4x2048x64, .f32⟩
  | 22 => ⟨S8x2048x1x4x64, .f32⟩
  | 23 => ⟨S8x2048x4x64, .f32⟩
  | 24 => ⟨S8x4x2048x64, .f32⟩
  | 25 => ⟨S8x2048x4x128, .f32⟩
  | 26 => ⟨S8x4x2048x128, .f32⟩
  | 27 => ⟨S64, .f32⟩
  | 28 => ⟨S_, .f32⟩
  | 29 => ⟨S_, .f32⟩
  | 30 => ⟨S_, .f32⟩
  | 31 => ⟨S64, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S4, .f32⟩
  | 39 => ⟨S_, .f32⟩
  | 40 => ⟨S4, .f32⟩
  | 41 => ⟨S4, .f32⟩
  | 42 => ⟨S_, .f32⟩
  | 43 => ⟨S4, .f32⟩
  | 44 => ⟨S4, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S1x4x1x1, .f32⟩
  | 53 => ⟨S2048, .i32⟩
  | 54 => ⟨S2048x1, .i32⟩
  | 55 => ⟨S2048, .i32⟩
  | 56 => ⟨S1x2048, .i32⟩
  | 57 => ⟨S2048x2048, .i32⟩
  | 58 => ⟨S2048x2048, .i32⟩
  | 59 => ⟨S2048x2048, .i32⟩
  | 60 => ⟨S2048x2048, .f32⟩
  | 61 => ⟨S_, .f32⟩
  | 62 => ⟨S2048x2048, .f32⟩
  | 63 => ⟨S2048x2048, .i1⟩
  | 64 => ⟨S1x4x1x1, .f32⟩
  | 65 => ⟨S1x1x2048x2048, .f32⟩
  | 66 => ⟨S1x4x2048x2048, .f32⟩
  | 67 => ⟨S1x4x2048x2048, .f32⟩
  | 68 => ⟨S1x4x2048x2048, .f32⟩
  | 69 => ⟨S8x4x2048x2048, .f32⟩
  | 70 => ⟨S8x4x2048x2048, .f32⟩
  | 71 => ⟨S8x4x2048x2048, .f32⟩
  | 72 => ⟨S_, .f32⟩
  | 73 => ⟨S_, .f32⟩
  | 74 => ⟨S8x4x2048x2048, .i1⟩
  | 75 => ⟨S8x4x2048x2048, .f32⟩
  | 76 => ⟨S8x4x2048x2048, .f32⟩
  | 77 => ⟨S_, .f32⟩
  | 78 => ⟨S8x4x2048, .f32⟩
  | 79 => ⟨S8x4x2048x1, .f32⟩
  | 80 => ⟨S8x4x2048x2048, .f32⟩
  | 81 => ⟨S8x4x2048x2048, .f32⟩
  | 82 => ⟨S8x4x2048x2048, .f32⟩
  | 83 => ⟨S_, .f32⟩
  | 84 => ⟨S_, .f32⟩
  | 85 => ⟨S8x4x2048x2048, .i1⟩
  | 86 => ⟨S8x4x2048x2048, .f32⟩
  | 87 => ⟨S8x4x2048x2048, .f32⟩
  | 88 => ⟨S_, .f32⟩
  | 89 => ⟨S8x4x2048, .f32⟩
  | 90 => ⟨S8x4x2048x1, .f32⟩
  | 91 => ⟨S_, .f32⟩
  | 92 => ⟨S8x4x2048x1, .f32⟩
  | 93 => ⟨S8x4x2048x1, .f32⟩
  | 94 => ⟨S8x4x2048x2048, .f32⟩
  | 95 => ⟨S8x4x2048x2048, .f32⟩
  | 96 => ⟨S8x4x2048x2048, .f32⟩
  | 97 => ⟨S8x4x2048x2048, .f32⟩
  | 98 => ⟨S8x4x2048x2048, .f32⟩
  | 99 => ⟨S_, .f32⟩
  | 100 => ⟨S_, .f32⟩
  | 101 => ⟨S8x4x2048x2048, .i1⟩
  | 102 => ⟨S8x4x2048x2048, .f32⟩
  | 103 => ⟨S8x4x2048x2048, .f32⟩
  | 104 => ⟨S_, .f32⟩
  | 105 => ⟨S8x4x2048, .f32⟩
  | 106 => ⟨S8x4x2048x1, .f32⟩
  | 107 => ⟨S8x4x2048x2048, .f32⟩
  | 108 => ⟨S8x4x2048x2048, .f32⟩
  | 109 => ⟨S8x4x2048x2048, .f32⟩
  | 110 => ⟨S_, .f32⟩
  | 111 => ⟨S_, .f32⟩
  | 112 => ⟨S8x4x2048x2048, .i1⟩
  | 113 => ⟨S8x4x2048x2048, .f32⟩
  | 114 => ⟨S8x4x2048x2048, .f32⟩
  | 115 => ⟨S_, .f32⟩
  | 116 => ⟨S8x4x2048, .f32⟩
  | 117 => ⟨S8x4x2048x1, .f32⟩
  | 118 => ⟨S_, .f32⟩
  | 119 => ⟨S8x4x2048x1, .f32⟩
  | 120 => ⟨S8x4x2048x1, .f32⟩
  | 121 => ⟨S8x4x2048x2048, .f32⟩
  | 122 => ⟨S8x4x2048x2048, .f32⟩
  | 123 => ⟨S8x4x2048x2048, .f32⟩
  | 124 => ⟨S8x4x2048x2048, .f32⟩
  | 125 => ⟨S8x4x2048x2048, .f32⟩
  | 126 => ⟨S8x4x2048x128, .f32⟩
  | 127 => ⟨S8x4x2048x128, .f32⟩
  | _ => ⟨S8x2048x512, .f32⟩

abbrev hbmTy0_1 (i : Nat) : BufTy := match i % 128 with
  | 0 => ⟨S_, .f32⟩
  | 1 => ⟨S8x4x2048, .f32⟩
  | 2 => ⟨S8x4x2048x1, .f32⟩
  | 3 => ⟨S_, .f32⟩
  | 4 => ⟨S8x4x2048x1, .f32⟩
  | 5 => ⟨S8x4x2048x1, .f32⟩
  | 6 => ⟨S_, .f32⟩
  | 7 => ⟨S8x4x2048x1, .f32⟩
  | 8 => ⟨S8x4x2048x1, .f32⟩
  | 9 => ⟨S8x4x2048x1, .f32⟩
  | 10 => ⟨S8x4x2048x128, .f32⟩
  | 11 => ⟨S8x4x2048x128, .f32⟩
  | 12 => ⟨S1x1x1x128, .f32⟩
  | 13 => ⟨S8x4x2048x128, .f32⟩
  | 14 => ⟨S8x4x2048x128, .f32⟩
  | 15 => ⟨S_, .f32⟩
  | 16 => ⟨S8x4x2048x128, .f32⟩
  | 17 => ⟨S8x4x2048x128, .f32⟩
  | 18 => ⟨S8x2048x4x128, .f32⟩
  | 19 => ⟨S16384x512, .f32⟩
  | 20 => ⟨S16384x512, .bf16⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v77 : Ref sig .tc := ⟨.hbm, 114, rfl⟩
abbrev main_cst_16 : Ref sig .tc := ⟨.hbm, 115, rfl⟩
abbrev main_v78 : Ref sig .tc := ⟨.hbm, 116, rfl⟩
abbrev main_v79 : Ref sig .tc := ⟨.hbm, 117, rfl⟩
abbrev main_cst_17 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_18 : Ref sig .tc := ⟨.hbm, 128, rfl⟩
abbrev main_v89 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_cst_20 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_21 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x256 : Shape := ⟨3, ![8, 2048, 256]⟩
abbrev S256x1024 : Shape := ⟨2, ![256, 1024]⟩
abbrev S1024x1024 : Shape := ⟨2, ![1024, 1024]⟩
abbrev S1024 : Shape := ⟨1, ![1024]⟩
abbrev S16384x1024 : Shape := ⟨2, ![16384, 1024]⟩
abbrev S1024x16384 : Shape := ⟨2, ![1024, 16384]⟩
abbrev S16384x256 : Shape := ⟨2, ![16384, 256]⟩
abbrev S1x1024 : Shape := ⟨2, ![1, 1024]⟩
abbrev S1024x512 : Shape := ⟨2, ![1024, 512]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x256, .f32⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S1024x16384, .f32⟩
  | .hbm, ⟨9, _⟩ => ⟨S16384x1024, .f32⟩
  | .hbm, ⟨10, _⟩ => ⟨S16384x256, .f32⟩
  | .hbm, ⟨11, _⟩ => ⟨S1024x1024, .bf16⟩
  | .hbm, ⟨12, _⟩ => ⟨S256x1024, .bf16⟩
  | .hbm, ⟨13, _⟩ => ⟨S1x1024, .f32⟩
  | .hbm, ⟨14, _⟩ => ⟨S1x1024, .f32⟩
  | .hbm, ⟨15, _⟩ => ⟨S16384x1024, .f32⟩
  | .hbm, ⟨16, _⟩ => ⟨S8x2048x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x2048x1024 : Shape := ⟨3, ![8, 2048, 1024]⟩
abbrev S8x2048x256 : Shape := ⟨3, ![8, 2048, 256]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x256, .f32⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S1x1x1024, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel3.lean ====
abbrev S8x2048x512 : Shape := ⟨3, ![8, 2048, 512]⟩
abbrev S8x2048x1024 : Shape := ⟨3, ![8, 2048, 1024]⟩
abbrev S512x1024 : Shape := ⟨2, ![512, 1024]⟩
abbrev S1024x1024 : Shape := ⟨2, ![1024, 1024]⟩
abbrev S1024 : Shape := ⟨1, ![1024]⟩
abbrev S16384x512 : Shape := ⟨2, ![16384, 512]⟩
abbrev S16384x1024 : Shape := ⟨2, ![16384, 1024]⟩
abbrev S_ : Shape := ⟨0, ![]⟩
abbrev S1x1024 : Shape := ⟨2, ![1, 1024]⟩
abbrev S1024x16384 : Shape := ⟨2, ![1024, 16384]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 45
  | .vmem => 19
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .bf16⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .bf16⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .bf16⟩
  | .hbm, ⟨34, _⟩ => ⟨S16384x1024, .f32⟩
  | .hbm, ⟨35, _⟩ => ⟨S512x1024, .bf16⟩
  | .hbm, ⟨36, _⟩ => ⟨S512x1024, .bf16⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S16384x1024, .f32⟩
  | .hbm, ⟨41, _⟩ => ⟨S1024x16384, .bf16⟩
  | .hbm, ⟨42, _⟩ => ⟨S8x2048x1024, .f32⟩
  | .hbm, ⟨43, _⟩ => ⟨S16384x1024, .bf16⟩
  | .hbm, ⟨44, _⟩ => ⟨S8x2048x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1024x512, .bf16⟩
  | .local _ .vmem, ⟨18, _⟩ => ⟨S1024x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8x2048x512 : Shape := ⟨3, ![8, 2048, 512]⟩
abbrev S8x2048x1024 : Shape := ⟨3, ![8, 2048, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S1x1x1024, .f32⟩
  | .hbm, ⟨63, _⟩ => ⟨S8x2048x1024, .f32⟩
  | .hbm, ⟨64, _⟩ => ⟨S8x2048x1024, .f32⟩
  | .hbm, ⟨65, _⟩ => ⟨S8x2048x1024, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024x4888 : Shape := ⟨2, ![1024, 4888]⟩
abbrev S1024x512 : Shape := ⟨2, ![1024, 512]⟩
abbrev S1024x768 : Shape := ⟨2, ![1024, 768]⟩
abbrev S1024x24 : Shape := ⟨2, ![1024, 24]⟩
abbrev S1024x1024 : Shape := ⟨2, ![1024, 1024]⟩
abbrev S1024x6x2x64 : Shape := ⟨4, ![1024, 6, 2, 64]⟩
abbrev S1024x2x12 : Shape := ⟨3, ![1024, 2, 12]⟩
abbrev S_ : Shape := ⟨0, ![]⟩
abbrev S1024x2x16 : Shape := ⟨3, ![1024, 2, 16]⟩
abbrev S1024x32 : Shape := ⟨2, ![1024, 32]⟩
abbrev S1024x1x2x64 : Shape := ⟨4, ![1024, 1, 2, 64]⟩
abbrev S1024x2x64 : Shape := ⟨3, ![1024, 2, 64]⟩
abbrev S1024x128 : Shape := ⟨2, ![1024, 128]⟩
abbrev S1024x2x128 : Shape := ⟨3, ![1024, 2, 128]⟩
abbrev S1024x256 : Shape := ⟨2, ![1024, 256]⟩
abbrev S1024x2x1x64 : Shape := ⟨4, ![1024, 2, 1, 64]⟩
abbrev S1024x2x2x64 : Shape := ⟨4, ![1024, 2, 2, 64]⟩
abbrev S1024x2x4x64 : Shape := ⟨4, ![1024, 2, 4, 64]⟩
abbrev S1024x4x2x64 : Shape := ⟨4, ![1024, 4, 2, 64]⟩
abbrev S1024x8x64 : Shape := ⟨3, ![1024, 8, 64]⟩
abbrev S1024x8x128 : Shape := ⟨3, ![1024, 8, 128]⟩
abbrev S1024x4608 : Shape := ⟨2, ![1024, 4608]⟩
abbrev S1024x2080 : Shape := ⟨2, ![1024, 2080]⟩
abbrev S2080x1024 : Shape := ⟨2, ![2080, 1024]⟩
abbrev S16384x1024 : Shape := ⟨2, ![16384, 1024]⟩
abbrev S128 : Shape := ⟨1, ![128]⟩
abbrev S8 : Shape := ⟨1, ![8]⟩
abbrev S4 : Shape := ⟨1, ![4]⟩
abbrev S4x2 : Shape := ⟨2, ![4, 2]⟩
abbrev S8x1 : Shape := ⟨2, ![8, 1]⟩
abbrev S1x128 : Shape := ⟨2, ![1, 128]⟩
abbrev S8x128 : Shape := ⟨2, ![8, 128]⟩
abbrev S1024 : Shape := ⟨1, ![1024]⟩
abbrev S32 : Shape := ⟨1, ![32]⟩
abbrev S2080 : Shape := ⟨1, ![2080]⟩
abbrev S2080x1 : Shape := ⟨2, ![2080, 1]⟩
abbrev S16384x256 : Shape := ⟨2, ![16384, 256]⟩
abbrev S16384x512 : Shape := ⟨2, ![16384, 512]⟩
abbrev S1024x16384 : Shape := ⟨2, ![1024, 16384]⟩
abbrev S32x16384 : Shape := ⟨2, ![32, 16384]⟩
abbrev S256x1024 : Shape := ⟨2, ![256, 1024]⟩
abbrev S256x256 : Shape := ⟨2, ![256, 256]⟩
abbrev S256x512 : Shape := ⟨2, ![256, 512]⟩
abbrev S32x256 : Shape := ⟨2, ![32, 256]⟩
abbrev S256x128 : Shape := ⟨2, ![256, 128]⟩
abbrev S1024x1 : Shape := ⟨2, ![1024, 1]⟩
abbrev S32x1024 : Shape := ⟨2, ![32, 1024]⟩
abbrev S32x1 : Shape := ⟨2, ![32, 1]⟩
abbrev S16384x32 : Shape := ⟨2, ![16384, 32]⟩
abbrev S16384x2x16 : Shape := ⟨3, ![16384, 2, 16]⟩
abbrev S16384x2x12 : Shape := ⟨3, ![16384, 2, 12]⟩
abbrev S8x2048x24 : Shape := ⟨3, ![8, 2048, 24]⟩
abbrev S16384x8x128 : Shape := ⟨3, ![16384, 8, 128]⟩
abbrev S16384x8x64 : Shape := ⟨3, ![16384, 8, 64]⟩
abbrev S8x2048x512 : Shape := ⟨3, ![8, 2048, 512]⟩
abbrev S16384x2x2x64 : Shape := ⟨4, ![16384, 2, 2, 64]⟩
abbrev S16384x2x1x64 : Shape := ⟨4, ![16384, 2, 1, 64]⟩
abbrev S16384x2x64 : Shape := ⟨3, ![16384, 2, 64]⟩
abbrev S8x2048x128 : Shape := ⟨3, ![8, 2048, 128]⟩
abbrev S16384x2x128 : Shape := ⟨3, ![16384, 2, 128]⟩
abbrev S16384x4x2x64 : Shape := ⟨4, ![16384, 4, 2, 64]⟩
abbrev S16384x2x4x64 : Shape := ⟨4, ![16384, 2, 4, 64]⟩

abbrev nBuf : Space → Nat
  | .hbm => 189
  | .vmem => 27
  | .smem => 0
  | _ => 0

abbrev hbmTy0_0 (i : Nat) : BufTy := match i % 128 with
  | 0 => ⟨S8x2048x1024, .f32⟩
  | 1 => ⟨S1024x4888, .f32⟩
  | 2 => ⟨S1024x512, .f32⟩
  | 3 => ⟨S1024x768, .f32⟩
  | 4 => ⟨S1024x24, .f32⟩
  | 5 => ⟨S1024x512, .f32⟩
  | 6 => ⟨S1024x512, .f32⟩
  | 7 => ⟨S1024x512, .f32⟩
  | 8 => ⟨S1024x1024, .f32⟩
  | 9 => ⟨S1024x1024, .f32⟩
  | 10 => ⟨S1024x6x2x64, .f32⟩
  | 11 => ⟨S1024x2x12, .f32⟩
  | 12 => ⟨S_, .i32⟩
  | 13 => ⟨S_, .f32⟩
  | 14 => ⟨S1024x2x16, .f32⟩
  | 15 => ⟨S1024x32, .f32⟩
  | 16 => ⟨S1024x1x2x64, .f32⟩
  | 17 => ⟨S1024x2x64, .f32⟩
  | 18 => ⟨S1024x128, .f32⟩
  | 19 => ⟨S1024x2x64, .f32⟩
  | 20 => ⟨S_, .i32⟩
  | 21 => ⟨S_, .f32⟩
  | 22 => ⟨S1024x2x128, .f32⟩
  | 23 => ⟨S1024x256, .f32⟩
  | 24 => ⟨S1024x1x2x64, .f32⟩
  | 25 => ⟨S1024x2x64, .f32⟩
  | 26 => ⟨S1024x128, .f32⟩
  | 27 => ⟨S1024x2x64, .f32⟩
  | 28 => ⟨S_, .i32⟩
  | 29 => ⟨S_, .f32⟩
  | 30 => ⟨S1024x2x128, .f32⟩
  | 31 => ⟨S1024x256, .f32⟩
  | 32 => ⟨S1024x1x2x64, .f32⟩
  | 33 => ⟨S1024x2x64, .f32⟩
  | 34 => ⟨S1024x1x2x64, .f32⟩
  | 35 => ⟨S1024x2x64, .f32⟩
  | 36 => ⟨S1024x2x1x64, .f32⟩
  | 37 => ⟨S1024x2x1x64, .f32⟩
  | 38 => ⟨S1024x2x2x64, .f32⟩
  | 39 => ⟨S1024x256, .f32⟩
  | 40 => ⟨S1024x1x2x64, .f32⟩
  | 41 => ⟨S1024x2x64, .f32⟩
  | 42 => ⟨S1024x1x2x64, .f32⟩
  | 43 => ⟨S1024x2x64, .f32⟩
  | 44 => ⟨S1024x2x1x64, .f32⟩
  | 45 => ⟨S1024x2x1x64, .f32⟩
  | 46 => ⟨S1024x2x2x64, .f32⟩
  | 47 => ⟨S1024x256, .f32⟩
  | 48 => ⟨S1024x2x4x64, .f32⟩
  | 49 => ⟨S1024x4x2x64, .f32⟩
  | 50 => ⟨S1024x512, .f32⟩
  | 51 => ⟨S1024x8x64, .f32⟩
  | 52 => ⟨S_, .i32⟩
  | 53 => ⟨S_, .f32⟩
  | 54 => ⟨S1024x8x128, .f32⟩
  | 55 => ⟨S1024x1024, .f32⟩
  | 56 => ⟨S_, .f32⟩
  | 57 => ⟨S1024x512, .f32⟩
  | 58 => ⟨S1024x512, .f32⟩
  | 59 => ⟨S1024x8x64, .f32⟩
  | 60 => ⟨S_, .i32⟩
  | 61 => ⟨S_, .f32⟩
  | 62 => ⟨S1024x8x128, .f32⟩
  | 63 => ⟨S1024x1024, .f32⟩
  | 64 => ⟨S1024x2x4x64, .f32⟩
  | 65 => ⟨S1024x4x2x64, .f32⟩
  | 66 => ⟨S1024x512, .f32⟩
  | 67 => ⟨S_, .f32⟩
  | 68 => ⟨S1024x512, .f32⟩
  | 69 => ⟨S1024x512, .f32⟩
  | 70 => ⟨S1024x8x64, .f32⟩
  | 71 => ⟨S_, .i32⟩
  | 72 => ⟨S_, .f32⟩
  | 73 => ⟨S1024x8x128, .f32⟩
  | 74 => ⟨S1024x1024, .f32⟩
  | 75 => ⟨S1024x4608, .f32⟩
  | 76 => ⟨S1024x4608, .bf16⟩
  | 77 => ⟨S1024x2080, .f32⟩
  | 78 => ⟨S2080x1024, .f32⟩
  | 79 => ⟨S2080x1024, .bf16⟩
  | 80 => ⟨S16384x1024, .f32⟩
  | 81 => ⟨S128, .i32⟩
  | 82 => ⟨S_, .i32⟩
  | 83 => ⟨S128, .i32⟩
  | 84 => ⟨S128, .i1⟩
  | 85 => ⟨S_, .i32⟩
  | 86 => ⟨S128, .i32⟩
  | 87 => ⟨S128, .i1⟩
  | 88 => ⟨S128, .i1⟩
  | 89 => ⟨S128, .f32⟩
  | 90 => ⟨S8, .i32⟩
  | 91 => ⟨S8, .f32⟩
  | 92 => ⟨S_, .f32⟩
  | 93 => ⟨S8, .f32⟩
  | 94 => ⟨S8, .f32⟩
  | 95 => ⟨S8, .f32⟩
  | 96 => ⟨S_, .f32⟩
  | 97 => ⟨S8, .f32⟩
  | 98 => ⟨S8, .f32⟩
  | 99 => ⟨S8, .f32⟩
  | 100 => ⟨S4, .i32⟩
  | 101 => ⟨S4, .f32⟩
  | 102 => ⟨S_, .f32⟩
  | 103 => ⟨S4, .f32⟩
  | 104 => ⟨S4, .f32⟩
  | 105 => ⟨S_, .f32⟩
  | 106 => ⟨S4, .f32⟩
  | 107 => ⟨S4, .f32⟩
  | 108 => ⟨S_, .f32⟩
  | 109 => ⟨S4, .f32⟩
  | 110 => ⟨S4, .f32⟩
  | 111 => ⟨S4, .f32⟩
  | 112 => ⟨S4x2, .f32⟩
  | 113 => ⟨S8, .f32⟩
  | 114 => ⟨S8x1, .f32⟩
  | 115 => ⟨S8x1, .f32⟩
  | 116 => ⟨S1x128, .f32⟩
  | 117 => ⟨S8x128, .f32⟩
  | 118 => ⟨S8x128, .f32⟩
  | 119 => ⟨S8x128, .f32⟩
  | 120 => ⟨S1024, .f32⟩
  | 121 => ⟨S_, .f32⟩
  | 122 => ⟨S32, .f32⟩
  | 123 => ⟨S8x1, .f32⟩
  | 124 => ⟨S8x1, .f32⟩
  | 125 => ⟨S1x128, .f32⟩
  | 126 => ⟨S8x128, .f32⟩
  | 127 => ⟨S8x128, .f32⟩
  | _ => ⟨S8x2048x1024, .f32⟩

abbrev hbmTy0_1 (i : Nat) : BufTy := match i % 128 with
  | 0 => ⟨S8x128, .f32⟩
  | 1 => ⟨S1024, .f32⟩
  | 2 => ⟨S2080, .f32⟩
  | 3 => ⟨S2080x1, .f32⟩
  | 4 => ⟨S16384x256, .bf16⟩
  | 5 => ⟨S16384x256, .bf16⟩
  | 6 => ⟨S16384x256, .bf16⟩
  | 7 => ⟨S16384x256, .bf16⟩
  | 8 => ⟨S16384x1024, .bf16⟩
  | 9 => ⟨S16384x512, .bf16⟩
  | 10 => ⟨S16384x1024, .bf16⟩
  | 11 => ⟨S16384x1024, .bf16⟩
  | 12 => ⟨S1024x16384, .bf16⟩
  | 13 => ⟨S32x16384, .f32⟩
  | 14 => ⟨S1024x16384, .bf16⟩
  | 15 => ⟨S16384x32, .f32⟩
  | 16 => ⟨S16384x2x16, .f32⟩
  | 17 => ⟨S16384x2x12, .f32⟩
  | 18 => ⟨S8x2048x24, .f32⟩
  | 19 => ⟨S16384x1024, .bf16⟩
  | 20 => ⟨S16384x8x128, .bf16⟩
  | 21 => ⟨S16384x8x64, .bf16⟩
  | 22 => ⟨S8x2048x512, .bf16⟩
  | 23 => ⟨S16384x2x2x64, .bf16⟩
  | 24 => ⟨S16384x2x1x64, .bf16⟩
  | 25 => ⟨S16384x2x64, .bf16⟩
  | 26 => ⟨S8x2048x128, .bf16⟩
  | 27 => ⟨S16384x2x2x64, .bf16⟩
  | 28 => ⟨S16384x2x1x64, .bf16⟩
  | 29 => ⟨S16384x2x64, .bf16⟩
  | 30 => ⟨S8x2048x128, .bf16⟩
  | 31 => ⟨S16384x2x128, .bf16⟩
  | 32 => ⟨S16384x2x64, .bf16⟩
  | 33 => ⟨S8x2048x128, .bf16⟩
  | 34 => ⟨S16384x2x2x64, .bf16⟩
  | 35 => ⟨S16384x2x1x64, .bf16⟩
  | 36 => ⟨S16384x2x64, .bf16⟩
  | 37 => ⟨S8x2048x128, .bf16⟩
  | 38 => ⟨S16384x2x128, .bf16⟩
  | 39 => ⟨S16384x2x64, .bf16⟩
  | 40 => ⟨S8x2048x128, .bf16⟩
  | 41 => ⟨S16384x2x2x64, .bf16⟩
  | 42 => ⟨S16384x2x1x64, .bf16⟩
  | 43 => ⟨S16384x2x64, .bf16⟩
  | 44 => ⟨S8x2048x128, .bf16⟩
  | 45 => ⟨S16384x1024, .bf16⟩
  | 46 => ⟨S16384x8x128, .bf16⟩
  | 47 => ⟨S16384x8x64, .bf16⟩
  | 48 => ⟨S8x2048x512, .bf16⟩
  | 49 => ⟨S16384x4x2x64, .bf16⟩
  | 50 => ⟨S16384x2x4x64, .bf16⟩
  | 51 => ⟨S8x2048x512, .bf16⟩
  | 52 => ⟨S16384x8x128, .bf16⟩
  | 53 => ⟨S16384x8x64, .bf16⟩
  | 54 => ⟨S8x2048x512, .bf16⟩
  | 55 => ⟨S16384x4x2x64, .bf16⟩
  | 56 => ⟨S16384x2x4x64, .bf16⟩
  | 57 => ⟨S8x2048x512, .bf16⟩
  | 58 => ⟨S8x2048x512, .bf16⟩
  | 59 => ⟨S8x2048x1024, .bf16⟩
  | 60 => ⟨S8x2048x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x4608, .bf16⟩
  | .local _ .vmem, ⟨3, _⟩ => ⟨S2080x1024, .bf16⟩
  | .local _ .vmem, ⟨4, _⟩ => ⟨S2080x1, .f32⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x1024, .bf16⟩
  | .local _ .vmem, ⟨14, _⟩ => ⟨S256x1024, .bf16⟩
  | .local _ .vmem, ⟨15, _⟩ => ⟨S256x512, .bf16⟩
  | .local _ .vmem, ⟨16, _⟩ => ⟨S256x512, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S1024x256, .bf16⟩
  | .local _ .vmem, ⟨22, _⟩ => ⟨S1024x256, .bf16⟩
  | .local _ .vmem, ⟨23, _⟩ => ⟨S32x256, .f32⟩
  | .local _ .vmem, ⟨24, _⟩ => ⟨S32x256, .f32⟩
  | .local _ .vmem, ⟨25, _⟩ => ⟨S1024x256, .bf16⟩
  | .local _ .vmem, ⟨26, _⟩ => ⟨S1024x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_call1_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_call2_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c_2 : Ref sig .tc := ⟨.hbm, 52, rfl⟩
abbrev main_call3_v0 : Ref sig .tc := ⟨.hbm, 53, rfl⟩
abbrev main_v44 : Ref sig .tc := ⟨.hbm, 54, rfl⟩
abbrev main_v45 : Ref sig .tc := ⟨.hbm, 55, rfl⟩
abbrev main_cst : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_3 : Ref sig .tc := ⟨.hbm, 60, rfl⟩
abbrev main_call4_v0 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_5 : Ref sig .tc := ⟨.hbm, 71, rfl⟩
abbrev main_call5_v0 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_6 : Ref sig .tc := ⟨.hbm, 82, rfl⟩
abbrev main_v66 : Ref sig .tc := ⟨.hbm, 83, rfl⟩
abbrev main_v67 : Ref sig .tc := ⟨.hbm, 84, rfl⟩
abbrev main_c_7 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_8 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_10 : Ref sig .tc := ⟨.hbm, 102, rfl⟩
abbrev main_v82 : Ref sig .tc := ⟨.hbm, 103, rfl⟩
abbrev main_v83 : Ref sig .tc := ⟨.hbm, 104, rfl⟩
abbrev main_cst_11 : Ref sig .tc := ⟨.hbm, 105, rfl⟩
abbrev main_v84 : Ref sig .tc := ⟨.hbm, 106, rfl⟩
abbrev main_v85 : Ref sig .tc := ⟨.hbm, 107, rfl⟩
abbrev main_cst_12 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_13 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108_0 : Ref sig .tc := ⟨.hbm, 132, rfl⟩
abbrev main_v108_1 : Ref sig .tc := ⟨.hbm, 133, rfl⟩
abbrev main_v108_2 : Ref sig .tc := ⟨.hbm, 134, rfl⟩
abbrev main_v108_3 : Ref sig .tc := ⟨.hbm, 135, rfl⟩
abbrev main_v108_4 : Ref sig .tc := ⟨.hbm, 136, rfl⟩
abbrev main_v108_5 : Ref sig .tc := ⟨.hbm, 137, rfl⟩
abbrev main_v108_6 : Ref sig .tc := ⟨.hbm, 138, rfl⟩
abbrev main_v108_7 : Ref sig .tc := ⟨.hbm, 139, rfl⟩
abbrev main_v108_8 : Ref sig .tc := ⟨.hbm, 140, rfl⟩
abbrev main_v108_9 : Ref sig .tc := ⟨.hbm, 141, rfl⟩
abbrev main_v108_10 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2080x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2080x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S8x2048x1024 : Shape := ⟨3, ![8, 2048, 1024]⟩
abbrev S1024x4888 : Shape := ⟨2, ![1024, 4888]⟩
abbrev S8x2048x4888 : Shape := ⟨3, ![8, 2048, 4888]⟩
abbrev S8x2048x512 : Shape := ⟨3, ![8, 2048, 512]⟩
abbrev S8x2048x768 : Shape := ⟨3, ![8, 2048, 768]⟩
abbrev S8x2048x24 : Shape := ⟨3, ![8, 2048, 24]⟩
abbrev S8x2048x128 : Shape := ⟨3, ![8, 2048, 128]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x4888, .f32⟩
  | .hbm, ⟨2, _⟩ => ⟨S8x2048x4888, .f32⟩
  | .hbm, ⟨3, _⟩ => ⟨S8x2048x512, .f32⟩
  | .hbm, ⟨4, _⟩ => ⟨S8x2048x768, .f32⟩
  | .hbm, ⟨5, _⟩ => ⟨S8x2048x24, .f32⟩
  | .hbm, ⟨6, _⟩ => ⟨S8x2048x512, .f32⟩
  | .hbm, ⟨7, _⟩ => ⟨S8x2048x512, .f32⟩
  | .hbm, ⟨8, _⟩ => ⟨S8x2048x512, .f32⟩
  | .hbm, ⟨9, _⟩ => ⟨S8x2048x1024, .f32⟩
  | .hbm, ⟨10, _⟩ => ⟨S8x2048x1024, .f32⟩
  | .hbm, ⟨11, _⟩ => ⟨S8x2048x128, .f32⟩
  | .hbm, ⟨12, _⟩ => ⟨S8x2048x128, .f32⟩
  | .hbm, ⟨13, _⟩ => ⟨S8x2048x128, .f32⟩
  | .hbm, ⟨14, _⟩ => ⟨S8x2048x128, .f32⟩
  | .hbm, ⟨15, _⟩ => ⟨S8x2048x128, .f32⟩
  | .hbm, ⟨16, _⟩ => ⟨S8x2048x128, .f32⟩
  | .hbm, ⟨17, _⟩ => ⟨S_, .f32⟩
  | .hbm, ⟨18, _⟩ => ⟨S8x2048x512, .f32⟩
  | .hbm, ⟨19, _⟩ => ⟨S8x2048x512, .f32⟩
  | .hbm, ⟨20, _⟩ => ⟨S8x2048x512, .bf16⟩
  | .hbm, ⟨21, _⟩ => ⟨S8x2048x128, .bf16⟩
  | .hbm, ⟨22, _⟩ => ⟨S8x2048x128, .bf16⟩
  | .hbm, ⟨23, _⟩ => ⟨S8x2048x128, .bf16⟩
  | .hbm, ⟨24, _⟩ => ⟨S8x2048x128, .bf16⟩
  | .hbm, ⟨25, _⟩ => ⟨S8x2048x128, .bf16⟩
  | .hbm, ⟨26, _⟩ => ⟨S8x2048x128, .bf16⟩
  | .hbm, ⟨27, _⟩ => ⟨S8x2048x24, .f32⟩
  | .hbm, ⟨28, _⟩ => ⟨S8x2048x24, .f32⟩
  | .hbm, ⟨29, _⟩ => ⟨S_, .f32⟩
  | .hbm, ⟨30, _⟩ => ⟨S8x2048x24, .f32⟩
  | .hbm, ⟨31, _⟩ => ⟨S8x2048x24, .f32⟩
  | .hbm, ⟨32, _⟩ => ⟨S_, .f32⟩
  | .hbm, ⟨33, _⟩ => ⟨S8x2048x24, .f32⟩
  | .hbm, ⟨34, _⟩ => ⟨S8x2048x24, .f32⟩
  | .hbm, ⟨35, _⟩ => ⟨S_, .f32⟩
  | .hbm, ⟨36, _⟩ => ⟨S8x2048x512, .f32⟩
  | .hbm, ⟨37, _⟩ => ⟨S8x2048x512, .f32⟩
  | .hbm, ⟨38, _⟩ => ⟨S8x2048x512, .bf16⟩
  | .hbm, ⟨39, _⟩ => ⟨S8x2048x512, .bf16⟩
  | .hbm, ⟨40, _⟩ => ⟨S8x2048x512, .bf16⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048x1024, .f32⟩
  | .hbm, ⟨48, _⟩ => ⟨S8x2048x1024, .f32⟩
  | .hbm, ⟨49, _⟩ => ⟨S8x2048x1024, .bf16⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x2048x1024, .f32⟩
  | .hbm, ⟨57, _⟩ => ⟨S8x2048x1024, .f32⟩
  | .hbm, ⟨58, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_v26 : Ref sig .tc := ⟨.hbm, 30, rfl⟩
abbrev main_v27 : Ref sig .tc := ⟨.hbm, 31, rfl⟩
abbrev main_cst_1 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_cst_6 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Kernel5.lean ====
abbrev S8x2048x128 : Shape := ⟨3, ![8, 2048, 128]⟩
abbrev S32x64 : Shape := ⟨2, ![32, 64]⟩
abbrev S2048x256 : Shape := ⟨2, ![2048, 256]⟩
abbrev S256x64 : Shape := ⟨2, ![256, 64]⟩
abbrev S8x2048x2x64 : Shape := ⟨4, ![8, 2048, 2, 64]⟩
abbrev S8x2048x2x1x64 : Shape := ⟨5, ![8, 2048, 2, 1, 64]⟩
abbrev S8x2048x2x2x64 : Shape := ⟨5, ![8, 2048, 2, 2, 64]⟩
abbrev S8x2x2x2048x64 : Shape := ⟨5, ![8, 2, 2, 2048, 64]⟩
abbrev S8x2x2x128x1024 : Shape := ⟨5, ![8, 2, 2, 128, 1024]⟩
abbrev S2x1024 : Shape := ⟨2, ![2, 1024]⟩
abbrev S8x2x128x256 : Shape := ⟨4, ![8, 2, 128, 256]⟩
abbrev S1x1x2x128x1024 : Shape := ⟨5, ![1, 1, 2, 128, 1024]⟩
abbrev S1x1x128x256 : Shape := ⟨4, ![1, 1, 128, 256]⟩
abbrev S1x1x1x128x1024 : Shape := ⟨5, ![1, 1, 1, 128, 1024]⟩
abbrev S128x1024 : Shape := ⟨2, ![128, 1024]⟩
abbrev S1x1024 : Shape := ⟨2, ![1, 1024]⟩
abbrev S1024x256 : Shape := ⟨2, ![1024, 256]⟩
abbrev S128x256 : Shape := ⟨2, ![128, 256]⟩
abbrev S128x64 : Shape := ⟨2, ![128, 64]⟩
abbrev S1x1x128x64 : Shape := ⟨4, ![1, 1, 128, 64]⟩
abbrev S8x2x127x64 : Shape := ⟨4, ![8, 2, 127, 64]⟩

abbrev nBuf : Space → Nat
  | .hbm => 26
  | .vmem => 10
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S8x2048x128, .bf16⟩
  | .hbm, ⟨9, _⟩ => ⟨S8x2048x2x64, .bf16⟩
  | .hbm, ⟨10, _⟩ => ⟨S8x2048x128, .bf16⟩
  | .hbm, ⟨11, _⟩ => ⟨S8x2048x2x64, .bf16⟩
  | .hbm, ⟨12, _⟩ => ⟨S8x2048x2x1x64, .bf16⟩
  | .hbm, ⟨13, _⟩ => ⟨S8x2048x2x1x64, .bf16⟩
  | .hbm, ⟨14, _⟩ => ⟨S8x2048x2x2x64, .bf16⟩
  | .hbm, ⟨15, _⟩ => ⟨S8x2x2x2048x64, .bf16⟩
  | .hbm, ⟨16, _⟩ => ⟨S8x2x2x128x1024, .bf16⟩
  | .hbm, ⟨17, _⟩ => ⟨S2x1024, .f32⟩
  | .hbm, ⟨18, _⟩ => ⟨S2x1024, .f32⟩
  | .hbm, ⟨19, _⟩ => ⟨S2048x256, .bf16⟩
  | .hbm, ⟨20, _⟩ => ⟨S256x64, .bf16⟩
  | .hbm, ⟨21, _⟩ => ⟨S2048x256, .bf16⟩
  | .hbm, ⟨22, _⟩ => ⟨S256x64, .bf16⟩
  | .hbm, ⟨23, _⟩ => ⟨S8x2x128x256, .bf16⟩
  | .hbm, ⟨24, _⟩ => ⟨S8x2x127x64, .bf16⟩
  | .hbm, ⟨25, _⟩ => ⟨S8x2x127x64, .bf16⟩
  | .local _ .vmem, ⟨0, _⟩ => ⟨S1x1x2x128x1024, .bf16⟩
  | .local _ .vmem, ⟨1, _⟩ => ⟨S1x1x2x128x1024, .bf16⟩
  | .local _ .vmem, ⟨2, _⟩ => ⟨S2x1024, .f32⟩
  | .local _ .vmem, ⟨3, _⟩ => ⟨S2x1024, .f32⟩
  | .local _ .vmem, ⟨4, _⟩ => ⟨S2048x256, .bf16⟩
  | .local _ .vmem, ⟨5, _⟩ => ⟨S256x64, .bf16⟩
  | .local _ .vmem, ⟨6, _⟩ => ⟨S2048x256, .bf16⟩
  | .local _ .vmem, ⟨7, _⟩ => ⟨S256x64, .bf16⟩
  | .local _ .vmem, ⟨8, _⟩ => ⟨S1x1x128x256, .bf16⟩
  | .local _ .vmem, ⟨9, _⟩ => ⟨S1x1x128x256, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8x2048x128 : Shape := ⟨3, ![8, 2048, 128]⟩
abbrev S32x64 : Shape := ⟨2, ![32, 64]⟩
abbrev S2048x256 : Shape := ⟨2, ![2048, 256]⟩
abbrev S256x64 : Shape := ⟨2, ![256, 64]⟩
abbrev S8x2048x2x64 : Shape := ⟨4, ![8, 2048, 2, 64]⟩
abbrev S8x2x2048x64 : Shape := ⟨4, ![8, 2, 2048, 64]⟩
abbrev S127 : Shape := ⟨1, ![127]⟩
abbrev S127x1 : Shape := ⟨2, ![127, 1]⟩
abbrev S_ : Shape := ⟨0, ![]⟩
abbrev S32 : Shape := ⟨1, ![32]⟩
abbrev S1x32 : Shape := ⟨2, ![1, 32]⟩
abbrev S127x32 : Shape := ⟨2, ![127, 32]⟩
abbrev S127x32x1 : Shape := ⟨3, ![127, 32, 1]⟩
abbrev S8x2x127x32x64 : Shape := ⟨5, ![8, 2, 127, 32, 64]⟩
abbrev S1x1x1x32x64 : Shape := ⟨5, ![1, 1, 1, 32, 64]⟩
abbrev S8x2x127x2048 : Shape := ⟨4, ![8, 2, 127, 2048]⟩
abbrev S8x2x127x256 : Shape := ⟨4, ![8, 2, 127, 256]⟩
abbrev S8x2x127x64 : Shape := ⟨4, ![8, 2, 127, 64]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S8x2048x2x64, .f32⟩
  | .hbm, ⟨9, _⟩ => ⟨S8x2x2048x64, .f32⟩
  | .hbm, ⟨10, _⟩ => ⟨S127, .i32⟩
  | .hbm, ⟨11, _⟩ => ⟨S127x1, .i32⟩
  | .hbm, ⟨12, _⟩ => ⟨S_, .i32⟩
  | .hbm, ⟨13, _⟩ => ⟨S127x1, .i32⟩
  | .hbm, ⟨14, _⟩ => ⟨S127x1, .i32⟩
  | .hbm, ⟨15, _⟩ => ⟨S32, .i32⟩
  | .hbm, ⟨16, _⟩ => ⟨S1x32, .i32⟩
  | .hbm, ⟨17, _⟩ => ⟨S127x32, .i32⟩
  | .hbm, ⟨18, _⟩ => ⟨S127x32, .i32⟩
  | .hbm, ⟨19, _⟩ => ⟨S127x32, .i32⟩
  | .hbm, ⟨20, _⟩ => ⟨S_, .i32⟩
  | .hbm, ⟨21, _⟩ => ⟨S127x32, .i32⟩
  | .hbm, ⟨22, _⟩ => ⟨S127x32, .i1⟩
  | .hbm, ⟨23, _⟩ => ⟨S_, .i32⟩
  | .hbm, ⟨24, _⟩ => ⟨S127x32, .i32⟩
  | .hbm, ⟨25, _⟩ => ⟨S127x32, .i32⟩
  | .hbm, ⟨26, _⟩ => ⟨S127x32, .i32⟩
  | .hbm, ⟨27, _⟩ => ⟨S127x32x1, .i32⟩
  | .hbm, ⟨28, _⟩ => ⟨S8x2x127x32x64, .f32⟩
  | .hbm, ⟨29, _⟩ => ⟨S1x1x1x32x64, .f32⟩
  | .hbm, ⟨30, _⟩ => ⟨S8x2x127x32x64, .f32⟩
  | .hbm, ⟨31, _⟩ => ⟨S8x2x127x32x64, .f32⟩
  | .hbm, ⟨32, _⟩ => ⟨S8x2x127x2048, .f32⟩
  | .hbm, ⟨33, _⟩ => ⟨S8x2x127x256, .f32⟩
  | .hbm, ⟨34, _⟩ => ⟨S_, .f32⟩
  | .hbm, ⟨35, _⟩ => ⟨S8x2x127x256, .f32⟩
  | .hbm, ⟨36, _⟩ => ⟨S8x2x127x256, .f32⟩
  | .hbm, ⟨37, _⟩ => ⟨S8x2x127x256, .f32⟩
  | .hbm, ⟨38, _⟩ => ⟨S_, .f32⟩
  | .hbm, ⟨39, _⟩ => ⟨S8x2x127x256, .f32⟩
  | .hbm, ⟨40, _⟩ => ⟨S8x2x127x256, .f32⟩
  | .hbm, ⟨41, _⟩ => ⟨S8x2x127x256, .f32⟩
  | .hbm, ⟨42, _⟩ => ⟨S8x2x127x256, .f32⟩
  | .hbm, ⟨43, _⟩ => ⟨S8x2x127x64, .f32⟩
  | .hbm, ⟨44, _⟩ => ⟨S8x2048x2x64, .f32⟩
  | .hbm, ⟨45, _⟩ => ⟨S8x2x2048x64, .f32⟩
  | .hbm, ⟨46, _⟩ => ⟨S127, .i32⟩
  | .hbm, ⟨47, _⟩ => ⟨S127x1, .i32⟩
  | .hbm, ⟨48, _⟩ => ⟨S_, .i32⟩
  | .hbm, ⟨49, _⟩ => ⟨S127x1, .i32⟩
  | .hbm, ⟨50, _⟩ => ⟨S127x1, .i32⟩
  | .hbm, ⟨51, _⟩ => ⟨S32, .i32⟩
  | .hbm, ⟨52, _⟩ => ⟨S1x32, .i32⟩
  | .hbm, ⟨53, _⟩ => ⟨S127x32, .i32⟩
  | .hbm, ⟨54, _⟩ => ⟨S127x32, .i32⟩
  | .hbm, ⟨55, _⟩ => ⟨S127x32, .i32⟩
  | .hbm, ⟨56, _⟩ => ⟨S_, .i32⟩
  | .hbm, ⟨57, _⟩ => ⟨S127x32, .i32⟩
  | .hbm, ⟨58, _⟩ => ⟨S127x32, .i1⟩
  | .hbm, ⟨59, _⟩ => ⟨S_, .i32⟩
  | .hbm, ⟨60, _⟩ => ⟨S127x32, .i32⟩
  | .hbm, ⟨61, _⟩ => ⟨S127x32, .i32⟩
  | .hbm, ⟨62, _⟩ => ⟨S127x32, .i32⟩
  | .hbm, ⟨63, _⟩ => ⟨S127x32x1, .i32⟩
  | .hbm, ⟨64, _⟩ => ⟨S8x2x127x32x64, .f32⟩
  | .hbm, ⟨65, _⟩ => ⟨S1x1x1x32x64, .f32⟩
  | .hbm, ⟨66, _⟩ => ⟨S8x2x127x32x64, .f32⟩
  | .hbm, ⟨67, _⟩ => ⟨S8x2x127x32x64, .f32⟩
  | .hbm, ⟨68, _⟩ => ⟨S8x2x127x2048, .f32⟩
  | .hbm, ⟨69, _⟩ => ⟨S8x2x127x256, .f32⟩
  | .hbm, ⟨70, _⟩ => ⟨S_, .f32⟩
  | .hbm, ⟨71, _⟩ => ⟨S8x2x127x256, .f32⟩
  | .hbm, ⟨72, _⟩ => ⟨S8x2x127x256, .f32⟩
  | .hbm, ⟨73, _⟩ => ⟨S8x2x127x256, .f32⟩
  | .hbm, ⟨74, _⟩ => ⟨S_, .f32⟩
  | .hbm, ⟨75, _⟩ => ⟨S8x2x127x256, .f32⟩
  | .hbm, ⟨76, _⟩ => ⟨S8x2x127x256, .f32⟩
  | .hbm, ⟨77, _⟩ => ⟨S8x2x127x256, .f32⟩
  | .hbm, ⟨78, _⟩ => ⟨S8x2x127x256, .f32⟩
  | .hbm, ⟨79, _⟩ => ⟨S8x2x127x64, .f32⟩
  | .hbm, ⟨80, _⟩ => ⟨S8x2x127x64, .bf16⟩
  | .hbm, ⟨81, _⟩ => ⟨S8x2x127x64, .bf16⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_4 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Proof.Softmax.lean ====
/- UNTRUSTED — a softmax taken a chunk of keys at a time, on the extended reals. The weight of a score against a
   maximum that bounds it is a real number; going from the maximum of some keys to that of more of them multiplies
   every weight by one factor; so the running maximum, the running sum of weights and the running weighted sum of the
   values are, after every chunk, those of the keys read so far. A score of `⊥` weighs nothing, and a shift of every
   score by one real changes no weight. -/
module

public import Idealize.ShloMosaic.PureOps.Ideal
public import Mathlib.Data.EReal.Operations
public import Mathlib.Algebra.BigOperators.Intervals

@[expose] public section

noncomputable section

namespace Cert.Softmax

open Idealize.ShloMosaic

/-- The weight of a score `s` against a maximum `m`, as a real. -/
def wt (s m : EReal) : ℝ := (Ideal.exp (s - m)).toReal

theorem exp_sub {s m : EReal} (h : s ≤ m) : Ideal.exp (s - m) = (wt s m : EReal) := by
  unfold wt
  induction m with
  | bot => obtain rfl := le_bot_iff.mp h; simp
  | top => simp
  | coe r =>
    induction s with
    | bot => simp
    | top => exact absurd h (by simp)
    | coe q => rw [← EReal.coe_sub, Ideal.exp_coe]; rfl

theorem wt_bot (m : EReal) : wt ⊥ m = 0 := by
  simp [wt, sub_eq_add_neg]

theorem wt_mul {s m m' : EReal} (h : s ≤ m) (h' : m ≤ m') : wt m m' * wt s m = wt s m' := by
  unfold wt
  induction m' with
  | bot =>
    obtain rfl := le_bot_iff.mp h'
    obtain rfl := le_bot_iff.mp h
    simp
  | top => simp
  | coe r' =>
    induction m with
    | bot => obtain rfl := le_bot_iff.mp h; simp
    | top => exact absurd h' (by simp)
    | coe r =>
      induction s with
      | bot => simp
      | top => exact absurd h (by simp)
      | coe q =>
        simp only [← EReal.coe_sub, Ideal.exp_coe, EReal.toReal_coe]
        rw [← Real.exp_add]; congr 1; ring

theorem wt_shift (s m : EReal) (c : ℝ) : wt (s + c) (m + c) = wt s m := by
  unfold wt
  congr 2
  induction m with
  | bot => induction s <;> simp [← EReal.coe_add]
  | top => simp
  | coe r =>
    induction s with
    | bot => simp
    | top => simp [← EReal.coe_add, ← EReal.coe_sub]
    | coe q => norm_cast; ring

/-- The greatest score of the first `n` keys. -/
def mx (s : ℕ → EReal) (n : ℕ) : EReal := (Finset.range n).sup s
/-- The sum of their weights. -/
def den (s : ℕ → EReal) (n : ℕ) : ℝ := ∑ j ∈ Finset.range n, wt (s j) (mx s n)
/-- The weighted sum of their values. -/
def num (s : ℕ → EReal) (v : ℕ → ℝ) (n : ℕ) : ℝ := ∑ j ∈ Finset.range n, wt (s j) (mx s n) * v j

theorem le_mx {s : ℕ → EReal} {n j : ℕ} (h : j < n) : s j ≤ mx s n :=
  Finset.le_sup (Finset.mem_range.mpr h)

theorem mx_mono (s : ℕ → EReal) {n n' : ℕ} (h : n ≤ n') : mx s n ≤ mx s n' :=
  Finset.sup_mono (Finset.range_mono h)

theorem mx_zero (s : ℕ → EReal) : mx s 0 = ⊥ := rfl
theorem den_zero (s : ℕ → EReal) : den s 0 = 0 := rfl
theorem num_zero (s : ℕ → EReal) (v : ℕ → ℝ) : num s v 0 = 0 := rfl

theorem mx_add (s : ℕ → EReal) (n c : ℕ) {f : Fin c → EReal} (hf : ∀ k, f k = s (n + k)) :
    max (mx s n) (Finset.univ.fold max ⊥ f) = mx s (n + c) := by
  show mx s n ⊔ Finset.univ.sup f = _
  apply le_antisymm
  · refine sup_le (mx_mono s (Nat.le_add_right n c)) (Finset.sup_le fun k _ => ?_)
    rw [hf]; exact le_mx (Nat.add_lt_add_left k.isLt n)
  · refine Finset.sup_le fun j hj => ?_
    by_cases h : j < n
    · exact le_sup_of_le_left (le_mx h)
    · have hj := Finset.mem_range.mp hj
      refine le_sup_of_le_right ?_
      have := Finset.le_sup (f := f) (Finset.mem_univ (⟨j - n, by omega⟩ : Fin c))
      rwa [hf, show n + (j - n) = j by omega] at this

theorem coe_sum {ι : Type*} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

theorem num_add (s : ℕ → EReal) (v : ℕ → ℝ) (n c : ℕ) {f g : Fin c → EReal} (hf : ∀ k, f k = s (n + k))
    (hg : ∀ k, g k = v (n + k)) :
    Ideal.exp (mx s n - mx s (n + c)) * (num s v n : EReal) + ∑ k, g k * Ideal.exp (f k - mx s (n + c))
      = (num s v (n + c) : EReal) := by
  rw [exp_sub (mx_mono s (Nat.le_add_right n c))]
  have : ∀ k : Fin c, g k * Ideal.exp (f k - mx s (n + c)) = ((wt (s (n + k)) (mx s (n + c)) * v (n + k) : ℝ) : EReal) := by
    intro k
    rw [hf, hg, exp_sub (le_mx (Nat.add_lt_add_left k.isLt n)), ← EReal.coe_mul, mul_comm]
  rw [Finset.sum_congr rfl fun k _ => this k, coe_sum, ← EReal.coe_mul, ← EReal.coe_add]
  congr 1
  unfold num
  rw [Finset.sum_range_add, Finset.mul_sum, Finset.sum_range (fun x => wt (s (n + x)) (mx s (n + c)) * v (n + x))]
  congr 1
  refine Finset.sum_congr rfl fun j hj => ?_
  rw [← mul_assoc, wt_mul (le_mx (Finset.mem_range.mp hj)) (mx_mono s (Nat.le_add_right n c))]

theorem den_eq_num (s : ℕ → EReal) (n : ℕ) : den s n = num s (fun _ => 1) n := by
  simp [den, num]

theorem den_add (s : ℕ → EReal) (n c : ℕ) {f : Fin c → EReal} (hf : ∀ k, f k = s (n + k)) :
    Ideal.exp (mx s n - mx s (n + c)) * (den s n : EReal) + ∑ k, Ideal.exp (f k - mx s (n + c))
      = (den s (n + c) : EReal) := by
  have := num_add s (fun _ => 1) n c (g := fun _ => 1) hf (fun _ => by simp)
  simpa only [one_mul, ← den_eq_num] using this

/-- Keys scored `⊥` beyond the first `n` change nothing. -/
theorem mx_ext {s : ℕ → EReal} {n n' : ℕ} (h : n ≤ n') (hs : ∀ j, n ≤ j → s j = ⊥) : mx s n' = mx s n := by
  refine le_antisymm (Finset.sup_le fun j _ => ?_) (mx_mono s h)
  by_cases hj : j < n
  · exact le_mx hj
  · rw [hs j (by omega)]; exact bot_le

theorem num_ext {s : ℕ → EReal} (v : ℕ → ℝ) {n n' : ℕ} (h : n ≤ n') (hs : ∀ j, n ≤ j → s j = ⊥) :
    num s v n' = num s v n := by
  unfold num
  rw [mx_ext h hs]
  refine (Finset.sum_subset (Finset.range_mono h) fun j _ hj => ?_).symm
  rw [hs j (by simpa using hj), wt_bot, zero_mul]

theorem den_ext {s : ℕ → EReal} {n n' : ℕ} (h : n ≤ n') (hs : ∀ j, n ≤ j → s j = ⊥) : den s n' = den s n := by
  rw [den_eq_num, den_eq_num, num_ext _ h hs]

/-- A shift of every score by one real changes no weight. -/
theorem mx_shift (s : ℕ → EReal) (c : ℝ) {n : ℕ} (hn : 0 < n) : mx (fun j => s j + c) n = mx s n + c := by
  apply le_antisymm
  · exact Finset.sup_le fun j hj => add_le_add_left (le_mx (Finset.mem_range.mp hj)) _
  · have h : mx s n ≤ mx (fun j => s j + c) n - c := by
      refine Finset.sup_le fun j hj => ?_
      rw [EReal.le_sub_iff_add_le (by simp) (by simp)]
      exact le_mx (s := fun j => s j + c) (Finset.mem_range.mp hj)
    rwa [EReal.le_sub_iff_add_le (by simp) (by simp)] at h

theorem num_shift (s : ℕ → EReal) (v : ℕ → ℝ) (c : ℝ) {n : ℕ} (hn : 0 < n) :
    num (fun j => s j + c) v n = num s v n := by
  unfold num
  rw [mx_shift s c hn]
  exact Finset.sum_congr rfl fun j _ => by rw [wt_shift]

theorem den_shift (s : ℕ → EReal) (c : ℝ) {n : ℕ} (hn : 0 < n) : den (fun j => s j + c) n = den s n := by
  rw [den_eq_num, den_eq_num, num_shift _ _ _ hn]

/-- The quotient of two reals, the divisor kept above a positive real. -/
theorem div_clamp (a l ε : ℝ) (hε : 0 < ε) :
    Ideal.div (a : EReal) (max (l : EReal) (ε : EReal)) = ((a / max l ε : ℝ) : EReal) := by
  have h0 : max l ε ≠ 0 := (lt_max_of_lt_right hε).ne'
  have hm : max (l : EReal) (ε : EReal) = ((max l ε : ℝ) : EReal) := (EReal.coe_strictMono.monotone.map_max).symm
  rw [hm, Ideal.div_coe h0, ← EReal.coe_mul, mul_one_div]

end Cert.Softmax

end
-- ==== Proof.Step.lean ====
/- UNTRUSTED — one chunk of keys of the running softmax, as the kernel's vector operations take it and column by
   column: a column holds the queries' running maximum, sum of weights and weighted sums of values, and taking a chunk
   moves each of the three from the first `n` keys to the first `n` plus the chunk's. For chunks of 1024 keys and of 512. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.Hand

open Cert.KernelIdeal Cert.KernelIdeal.Gen Idealize.ShloMosaic Cert.Softmax

theorem neg_inf : Ideal.ofBits .f32 0xFF800000#32 = ⊥ := by simp [Ideal.ofBits, Ideal.ieee]

/-- The three running values of one query, for one lane of the values, after the first `n` keys. -/
def Ran (S : ℕ → EReal) (V : ℕ → ℝ) (n : ℕ) (m l a : EReal) : Prop :=
  m = mx S n ∧ l = (den S n : EReal) ∧ a = (num S V n : EReal)

theorem ran_step {S : ℕ → EReal} {V : ℕ → ℝ} {n c : ℕ} {m l a m' l' a' : EReal} {s v : Fin c → EReal}
    (h : Ran S V n m l a) (hs : ∀ k, s k = S (n + k)) (hv : ∀ k, v k = V (n + k))
    (hm' : m' = max m (Finset.univ.fold max ⊥ s))
    (hl' : l' = Ideal.exp (m - m') * l + ∑ k, Ideal.exp (s k - m'))
    (ha' : a' = Ideal.exp (m - m') * a + ∑ k, v k * Ideal.exp (s k - m')) : Ran S V (n + c) m' l' a' := by
  obtain ⟨rfl, rfl, rfl⟩ := h
  rw [mx_add S n c hs] at hm'
  subst hm'
  exact ⟨rfl, hl'.trans (den_add S n c hs), ha'.trans (num_add S V n c hs hv)⟩

/-! ## A chunk of 1024 keys -/

/-- The new maximum. -/
def mK (m : FVec Ideal S1x1024 .f32) (s : FVec Ideal S1024x1024 .f32) : FVec Ideal S1x1024 .f32 :=
  maximumf m (shapeCast S1x1024 (multiReduction .maximumf [0] S1024 s 0xFF800000#32 reduces_S1024x1024_S1024 (.inl rfl) rfl) shapeCasts_S1024_S1x1024)
/-- The new sum of weights. -/
def lK (m l : FVec Ideal S1x1024 .f32) (s : FVec Ideal S1024x1024 .f32) : FVec Ideal S1x1024 .f32 :=
  addf (mulf (exp (subf m (mK m s))) l) (shapeCast S1x1024 (multiReduction .add [0] S1024
    (exp (subf s (broadcastTo S1024x1024 (mK m s) broadcasts_S1x1024_S1024x1024))) 0x00000000#32 reduces_S1024x1024_S1024 (.inl rfl) rfl) shapeCasts_S1024_S1x1024)
/-- The new weighted sums of the values. -/
def aK (m : FVec Ideal S1x1024 .f32) (a : FVec Ideal S128x1024 .f32) (s : FVec Ideal S1024x1024 .f32) (v : FVec Ideal S1024x128 .bf16) :
    FVec Ideal S128x1024 .f32 :=
  addf (mulf (broadcastTo S128x1024 (exp (subf m (mK m s))) broadcasts_S1x1024_S128x1024) a)
    (matmul dot_S1024x128_S1024x1024_S128x1024_0_0_1_1_n_n none v
      (truncf .bf16 (exp (subf s (broadcastTo S1024x1024 (mK m s) broadcasts_S1x1024_S1024x1024))) bitsLt_bf16_f32)
      (constant S128x1024 .f32 0x00000000#32))

theorem ranK {S : ℕ → EReal} {V : ℕ → ℝ} {n : ℕ} {m l : FVec Ideal S1x1024 .f32} {a : FVec Ideal S128x1024 .f32}
    {s : FVec Ideal S1024x1024 .f32} {v : FVec Ideal S1024x128 .bf16} {col : Fin 1024} {lane : Fin 128}
    (h : Ran S V n (m (ix2 0 col)) (l (ix2 0 col)) (a (ix2 lane col)))
    (hs : ∀ k : Fin 1024, s (ix2 k col) = S (n + k)) (hv : ∀ k : Fin 1024, v (ix2 k lane) = V (n + k)) :
    Ran S V (n + 1024) (mK m s (ix2 0 col)) (lK m l s (ix2 0 col)) (aK m a s v (ix2 lane col)) := by
  refine ran_step h hs hv ?_ ?_ ?_
  · pointwise [mK, neg_inf]
  · unfold lK; generalize mK m s = x; pointwise
  · unfold aK; generalize mK m s = x; pointwise

/-! ## A chunk of 512 keys -/

/-- The new maximum. -/
def mH (m : FVec Ideal S1x512 .f32) (s : FVec Ideal S512x512 .f32) : FVec Ideal S1x512 .f32 :=
  maximumf m (shapeCast S1x512 (multiReduction .maximumf [0] S512 s 0xFF800000#32 reduces_S512x512_S512 (.inl rfl) rfl) shapeCasts_S512_S1x512)
/-- The new sum of weights. -/
def lH (m l : FVec Ideal S1x512 .f32) (s : FVec Ideal S512x512 .f32) : FVec Ideal S1x512 .f32 :=
  addf (mulf (exp (subf m (mH m s))) l) (shapeCast S1x512 (multiReduction .add [0] S512
    (exp (subf s (broadcastTo S512x512 (mH m s) broadcasts_S1x512_S512x512))) 0x00000000#32 reduces_S512x512_S512 (.inl rfl) rfl) shapeCasts_S512_S1x512)
/-- The new weighted sums of the values. -/
def aH (m : FVec Ideal S1x512 .f32) (a : FVec Ideal S128x512 .f32) (s : FVec Ideal S512x512 .f32) (v : FVec Ideal S512x128 .bf16) :
    FVec Ideal S128x512 .f32 :=
  addf (mulf (broadcastTo S128x512 (exp (subf m (mH m s))) broadcasts_S1x512_S128x512) a)
    (matmul dot_S512x128_S512x512_S128x512_0_0_1_1_n_n none v
      (truncf .bf16 (exp (subf s (broadcastTo S512x512 (mH m s) broadcasts_S1x512_S512x512))) bitsLt_bf16_f32)
      (constant S128x512 .f32 0x00000000#32))

theorem ranH {S : ℕ → EReal} {V : ℕ → ℝ} {n : ℕ} {m l : FVec Ideal S1x512 .f32} {a : FVec Ideal S128x512 .f32}
    {s : FVec Ideal S512x512 .f32} {v : FVec Ideal S512x128 .bf16} {col : Fin 512} {lane : Fin 128}
    (h : Ran S V n (m (ix2 0 col)) (l (ix2 0 col)) (a (ix2 lane col)))
    (hs : ∀ k : Fin 512, s (ix2 k col) = S (n + k)) (hv : ∀ k : Fin 512, v (ix2 k lane) = V (n + k)) :
    Ran S V (n + 512) (mH m s (ix2 0 col)) (lH m l s (ix2 0 col)) (aH m a s v (ix2 lane col)) := by
  refine ran_step h hs hv ?_ ?_ ?_
  · pointwise [mH, neg_inf]
  · unfold lH; generalize mH m s = x; pointwise
  · unfold aH; generalize mH m s = x; pointwise

end Cert.Hand

end
-- ==== Proof.Diagonal.lean ====
/- UNTRUSTED — the block of keys that holds the queries' own positions, which the kernel takes in two halves: the early
   512 queries take the early half of the keys up to their own position; the late 512 take all of the early half and
   then the late half up to their own position. Each half ends with the weighted sum over the sum of weights. Read at a
   query and a lane that is the softmax over every key, those after the query scoring `⊥`. -/
module

public import proofs.«01_k».proof.Proof.Step
public import Idealize.ShloMosaic.Lib.WordCmp

@[expose] public section

set_option maxRecDepth 16384

noncomputable section

namespace Cert.Hand

open Cert.KernelIdeal Cert.KernelIdeal.Gen Idealize.ShloMosaic Cert.Softmax

/-- The least sum of weights a quotient is taken by: the literal `1e-30`. -/
def tiny : ℝ := (Ideal.ofBits .f32 0x0DA24260#32).toReal

theorem tiny_eq : Ideal.ofBits .f32 0x0DA24260#32 = (tiny : EReal) := by
  unfold tiny
  simp [Ideal.ofBits, Ideal.ieee, -EReal.coe_mul, EReal.toReal_coe]
theorem tiny_pos : 0 < tiny := by
  unfold tiny
  simp [Ideal.ofBits, Ideal.ieee, -EReal.coe_mul, EReal.toReal_coe]

theorem masked : Named.named (F := Ideal) κ "masked" (φ := .f32) 0xF1800000#32 = (⊥ : EReal) :=
  IdealRules.named_const.ideal_named_scalar _ _ _ _ rfl
theorem m_init : Named.named (F := Ideal) κ "m_init" (φ := .f32) 0xF149F2CA#32 = (⊥ : EReal) :=
  IdealRules.named_const.ideal_named_scalar _ _ _ _ rfl

/-- Key `k` is at or before query `c` of the same half. -/
def tri : IVec S512x512 1 := k0_pay37 (iota .tc S512x1 32 [0] iota_S512x1_d0_w32)

/-- The scores of 512 keys for 512 queries. -/
def sc (q : FVec Ideal S128x512 .bf16) (k : FVec Ideal S512x128 .bf16) : FVec Ideal S512x512 .f32 :=
  matmul dot_S512x128_S128x512_S512x512_1_0_0_1_n_n none k q (constant S512x512 .f32 0x00000000#32)
/-- The same, masked above the diagonal. -/
def scT (q : FVec Ideal S128x512 .bf16) (k : FVec Ideal S512x128 .bf16) : FVec Ideal S512x512 .f32 :=
  select tri (sc q k) (broadcast S512x512 (Named.named κ "masked" (φ := .f32) 0xF1800000#32))
/-- The weighted sums over the sum of weights. -/
def quot (l : FVec Ideal S1x512 .f32) (a : FVec Ideal S128x512 .f32) : FVec Ideal S128x512 .f32 :=
  divf a (broadcastTo S128x512 (maximumf l (broadcast S1x512 (Scalar.ofBits .f32 0x0DA24260#32))) broadcasts_S1x512_S128x512)

/-- The early half's result. -/
def early (q : FVec Ideal S128x1024 .bf16) (m l : FVec Ideal S1x1024 .f32) (a : FVec Ideal S128x1024 .f32)
    (ka va : FVec Ideal S512x128 .bf16) : FVec Ideal S128x512 .f32 :=
  let m0 := extractStridedSlice S1x512 ![0, 0] m slices_S1x1024_o0_0_S1x512
  let s := scT (extractStridedSlice S128x512 ![0, 0] q slices_S128x1024_o0_0_S128x512) ka
  quot (lH m0 (extractStridedSlice S1x512 ![0, 0] l slices_S1x1024_o0_0_S1x512) s)
    (aH m0 (extractStridedSlice S128x512 ![0, 0] a slices_S128x1024_o0_0_S128x512) s va)

/-- The late half's result. -/
def late (q : FVec Ideal S128x1024 .bf16) (m l : FVec Ideal S1x1024 .f32) (a : FVec Ideal S128x1024 .f32)
    (ka va kb vb : FVec Ideal S512x128 .bf16) : FVec Ideal S128x512 .f32 :=
  let m0 := extractStridedSlice S1x512 ![0, 512] m slices_S1x1024_o0_512_S1x512
  let l0 := extractStridedSlice S1x512 ![0, 512] l slices_S1x1024_o0_512_S1x512
  let a0 := extractStridedSlice S128x512 ![0, 512] a slices_S128x1024_o0_512_S128x512
  let q0 := extractStridedSlice S128x512 ![0, 512] q slices_S128x1024_o0_512_S128x512
  quot (lH (mH m0 (sc q0 ka)) (lH m0 l0 (sc q0 ka)) (scT q0 kb))
    (aH (mH m0 (sc q0 ka)) (aH m0 a0 (sc q0 ka) va) (scT q0 kb) vb)

/-- Both halves side by side. -/
def diag (q : FVec Ideal S128x1024 .bf16) (m l : FVec Ideal S1x1024 .f32) (a : FVec Ideal S128x1024 .f32)
    (ka va kb vb : FVec Ideal S512x128 .bf16) : FVec Ideal S128x1024 .f32 :=
  concatenate S128x1024 1 [⟨S128x512, early q m l a ka va⟩, ⟨S128x512, late q m l a ka va kb vb⟩]
    concatenates_S128x512_S128x512_S128x1024_d1

/-- The difference of the two softmaxes' results. -/
def diff (l0 : FVec Ideal S1x1 .f32) (o1 o2 : FVec Ideal S128x1024 .f32) : FVec Ideal S128x1024 .f32 :=
  subf o1 (mulf (broadcastTo S128x1024 l0 broadcasts_S1x1_S128x1024) o2)

/-- The mean of the squares of a query's lanes. -/
def msq (o : FVec Ideal S128x1024 .f32) : FVec Ideal S1x1024 .f32 :=
  divf (shapeCast S1x1024 (multiReduction .add [0] S1024 (mulf o o) 0x00000000#32 reduces_S128x1024_S1024 (.inl rfl) rfl) shapeCasts_S1024_S1x1024)
    (broadcast S1x1024 (Scalar.ofBits .f32 0x43000000#32))

theorem tri_at (k c : Fin 512) : tri (ix2 k c) = if k.val ≤ c.val then 1#1 else 0#1 := by
  unfold tri
  pointwise [k0_pay37]
  rw [Idealize.ShloMosaic.WordCmp.cmpi_sle_ofNat (by omega) (by omega)]
  by_cases h : k.val ≤ c.val <;> simp [h]

theorem sc_at (q : FVec Ideal S128x512 .bf16) (k : FVec Ideal S512x128 .bf16) (j c : Fin 512) :
    sc q k (ix2 j c) = ∑ l : Fin 128, k (ix2 j l) * q (ix2 l c) := by
  unfold sc
  pointwise

theorem scT_at (q : FVec Ideal S128x512 .bf16) (k : FVec Ideal S512x128 .bf16) (j c : Fin 512) :
    scT q k (ix2 j c) = if j.val ≤ c.val then ∑ l : Fin 128, k (ix2 j l) * q (ix2 l c) else ⊥ := by
  unfold scT
  rw [masked]
  pointwise [tri_at, sc_at]
  split <;> rfl

theorem quot_at {S : ℕ → EReal} {V : ℕ → ℝ} {n : ℕ} {m : EReal} {l : FVec Ideal S1x512 .f32} {a : FVec Ideal S128x512 .f32}
    {c : Fin 512} {lane : Fin 128} (h : Ran S V n m (l (ix2 0 c)) (a (ix2 lane c))) :
    quot l a (ix2 lane c) = ((num S V n / max (den S n) tiny : ℝ) : EReal) := by
  have : quot l a (ix2 lane c) = Ideal.div (a (ix2 lane c)) (max (l (ix2 0 c)) (Ideal.ofBits .f32 0x0DA24260#32)) := by
    unfold quot
    pointwise
  rw [this, h.2.1, h.2.2, tiny_eq, div_clamp _ _ _ tiny_pos]

/-- A query's score for key `j` of its own block, before masking. -/
def own (q : FVec Ideal S128x1024 .bf16) (ka kb : FVec Ideal S512x128 .bf16) (c : Fin 1024) (j : ℕ) : EReal :=
  if h : j < 512 then ∑ l : Fin 128, ka (ix2 ⟨j, h⟩ l) * q (ix2 l c)
  else if h : j < 1024 then ∑ l : Fin 128, kb (ix2 ⟨j - 512, by omega⟩ l) * q (ix2 l c) else ⊥

theorem diag_at {S : ℕ → EReal} {V : ℕ → ℝ} {n N : ℕ} {q : FVec Ideal S128x1024 .bf16} {m l : FVec Ideal S1x1024 .f32}
    {a : FVec Ideal S128x1024 .f32} {ka va kb vb : FVec Ideal S512x128 .bf16} {c : Fin 1024} {lane : Fin 128}
    (h : Ran S V n (m (ix2 0 c)) (l (ix2 0 c)) (a (ix2 lane c)))
    (hS : ∀ j ≤ c.val, S (n + j) = own q ka kb c j) (hS' : ∀ j, n + c.val < j → S j = ⊥)
    (hva : ∀ k : Fin 512, va (ix2 k lane) = V (n + k)) (hvb : ∀ k : Fin 512, vb (ix2 k lane) = V (n + (512 + k)))
    (hN : n + 1024 ≤ N) :
    diag q m l a ka va kb vb (ix2 lane c) = ((num S V N / max (den S N) tiny : ℝ) : EReal) := by
  have hd : diag q m l a ka va kb vb (ix2 lane c) = if hc : c.val < 512 then early q m l a ka va (ix2 lane ⟨c, hc⟩)
      else late q m l a ka va kb vb (ix2 lane ⟨c - 512, by omega⟩) := by
    unfold diag
    generalize early q m l a ka va = e
    generalize late q m l a ka va kb vb = e'
    pointwise
  rw [hd]
  split
  · rename_i hc
    unfold early
    have key := ranH (S := S) (V := V) (n := n) (m := extractStridedSlice S1x512 ![0, 0] m slices_S1x1024_o0_0_S1x512)
      (l := extractStridedSlice S1x512 ![0, 0] l slices_S1x1024_o0_0_S1x512)
      (a := extractStridedSlice S128x512 ![0, 0] a slices_S128x1024_o0_0_S128x512)
      (s := scT (extractStridedSlice S128x512 ![0, 0] q slices_S128x1024_o0_0_S128x512) ka) (v := va) (col := ⟨c, hc⟩) (lane := lane)
      (by pointwise; exact h) (fun k => by
        rw [scT_at]
        split
        · rename_i hk
          rw [hS k.val hk]
          simp only [own, k.isLt, dite_true]
          pointwise
        · rename_i hk
          exact (hS' _ (by simp only at hk; omega)).symm) hva
    rw [quot_at key, num_ext V (by omega : n + 512 ≤ N) (fun j hj => hS' j (by omega)), den_ext (by omega : n + 512 ≤ N) (fun j hj => hS' j (by omega))]
  · rename_i hc
    have hcc : ∀ h, (⟨512 + (c.val - 512), h⟩ : Fin 1024) = c := fun h => Fin.ext (by simp only; omega)
    unfold late
    have key := ranH (S := S) (V := V) (n := n) (m := extractStridedSlice S1x512 ![0, 512] m slices_S1x1024_o0_512_S1x512)
      (l := extractStridedSlice S1x512 ![0, 512] l slices_S1x1024_o0_512_S1x512)
      (a := extractStridedSlice S128x512 ![0, 512] a slices_S128x1024_o0_512_S128x512)
      (s := sc (extractStridedSlice S128x512 ![0, 512] q slices_S128x1024_o0_512_S128x512) ka) (v := va) (col := ⟨c - 512, by omega⟩) (lane := lane)
      (by pointwise; simp only [hcc]; exact h) (fun k => by
        rw [sc_at, hS k.val (by omega)]
        simp only [own, k.isLt, dite_true]
        pointwise
        simp only [hcc]) hva
    have key2 := ranH (s := scT (extractStridedSlice S128x512 ![0, 512] q slices_S128x1024_o0_512_S128x512) kb) (v := vb) key (fun k => by
        rw [scT_at, Nat.add_assoc]
        split
        · rename_i hk
          simp only at hk
          rw [hS (512 + k.val) (by omega)]
          simp only [own, show ¬ (512 + k.val < 512) by omega, show 512 + k.val < 1024 by omega, dite_true, dite_false]
          pointwise
          simp only [hcc]
        · rename_i hk
          exact (hS' _ (by simp only at hk; omega)).symm) (fun k => by rw [Nat.add_assoc]; exact hvb k)
    rw [quot_at key2, num_ext V (by omega : n + 512 + 512 ≤ N) (fun j hj => hS' j (by omega)), den_ext (by omega : n + 512 + 512 ≤ N) (fun j hj => hS' j (by omega))]

end Cert.Hand

end
-- ==== Proof.Block.lean ====
/- UNTRUSTED — what the kernel's body leaves for one batch, head and tile of 1024 queries, from the blocks it reads: the
   carried values after the whole blocks of keys before the tile, then the tile's own block; read at a query and a lane
   the difference of two softmaxes over every key, normalised by the root of its mean square. -/
module

public import proofs.«01_k».proof.Proof.Gen.KernelIdeal.Value
public import proofs.«01_k».proof.Proof.Diagonal
public import Idealize.ShloMosaic.Lib.Pipeline.ValueKit

@[expose] public section

set_option maxRecDepth 16384

noncomputable section

namespace Cert.Hand

open Cert.KernelIdeal Cert.KernelIdeal.Gen Idealize.ShloMosaic Idealize.ShloMosaic.TcCoe Idealize.SL.Sem Cert.Softmax

variable (m : (ℓ : Loc nD τ sig) → Buf (Elt Ideal) ℓ)

/-- The first loop runs as many trips as there are tiles of queries before this one, -/
theorem trips1 (i : grid0.Coords) : Scf.trips (0#32) (Scalar.addi (0#32) (Scalar.muli
    (Scalar.divsi (Scalar.subi (BitVec.ofNat 32 (i 2).val) 0#32) 1#32) 1#32)) 1#32 = (i 2).val :=
  (by decide +kernel : ∀ n : Fin 2, Scf.trips (0#32) (Scalar.addi (0#32) (Scalar.muli
    (Scalar.divsi (Scalar.subi (BitVec.ofNat 32 n.val) 0#32) 1#32) 1#32)) 1#32 = n.val) (i 2)
/-- and the second, for the remainder, none. -/
theorem trips2 (i : grid0.Coords) : Scf.trips (Scalar.addi (0#32) (Scalar.muli
    (Scalar.divsi (Scalar.subi (BitVec.ofNat 32 (i 2).val) 0#32) 1#32) 1#32))
    (Scalar.addi (0#32) (Scalar.subi (BitVec.ofNat 32 (i 2).val) 0#32)) 1#32 = 0 :=
  (by decide +kernel : ∀ n : Fin 2, Scf.trips (Scalar.addi (0#32) (Scalar.muli
    (Scalar.divsi (Scalar.subi (BitVec.ofNat 32 n.val) 0#32) 1#32) 1#32))
    (Scalar.addi (0#32) (Scalar.subi (BitVec.ofNat 32 n.val) 0#32)) 1#32 = 0) (i 2)

/-- The scores of 1024 keys for 1024 queries. -/
def scK (q : FVec Ideal S128x1024 .bf16) (k : FVec Ideal S1024x128 .bf16) : FVec Ideal S1024x1024 .f32 :=
  matmul dot_S1024x128_S128x1024_S1024x1024_1_0_0_1_n_n none k q (constant S1024x1024 .f32 0x00000000#32)

theorem scK_at (q : FVec Ideal S128x1024 .bf16) (k : FVec Ideal S1024x128 .bf16) (j c : Fin 1024) :
    scK q k (ix2 j c) = ∑ l : Fin 128, k (ix2 j l) * q (ix2 l c) := by
  unfold scK
  pointwise

/-! ## The loaded blocks at an index -/

theorem ldK (X : Vec Ideal S2048x256 .bf16) {off : Fin 2 → ℕ} {a b : ℕ} (e : off = ![a, b]) (h) (r : Fin 1024) (l : Fin 128)
    (ha : a + r.val < 2048) (hb : b + l.val < 256) :
    shapeCast S1024x128 (View.ld X (Rect.unit off ![1024, 128] h)) shapeCasts_S1024x128_S1024x128 (ix2 r l)
      = X (ix2 ⟨a + r.val, ha⟩ ⟨b + l.val, hb⟩) := by
  subst e
  pointwise
theorem ldV (X : Vec Ideal S2048x128 .bf16) {off : Fin 2 → ℕ} {a : ℕ} (e : off = ![a, 0]) (h) (r : Fin 1024) (l : Fin 128)
    (ha : a + r.val < 2048) :
    shapeCast S1024x128 (View.ld X (Rect.unit off ![1024, 128] h)) shapeCasts_S1024x128_S1024x128 (ix2 r l)
      = X (ix2 ⟨a + r.val, ha⟩ l) := by
  subst e
  pointwise
theorem ldK' (X : Vec Ideal S2048x256 .bf16) {off : Fin 2 → ℕ} {a b : ℕ} (e : off = ![a, b]) (h) (r : Fin 512) (l : Fin 128)
    (ha : a + r.val < 2048) (hb : b + l.val < 256) :
    shapeCast S512x128 (View.ld X (Rect.unit off ![512, 128] h)) shapeCasts_S512x128_S512x128 (ix2 r l)
      = X (ix2 ⟨a + r.val, ha⟩ ⟨b + l.val, hb⟩) := by
  subst e
  pointwise
theorem ldV' (X : Vec Ideal S2048x128 .bf16) {off : Fin 2 → ℕ} {a : ℕ} (e : off = ![a, 0]) (h) (r : Fin 512) (l : Fin 128)
    (ha : a + r.val < 2048) :
    shapeCast S512x128 (View.ld X (Rect.unit off ![512, 128] h)) shapeCasts_S512x128_S512x128 (ix2 r l)
      = X (ix2 ⟨a + r.val, ha⟩ l) := by
  subst e
  pointwise

/-! ## One tile's data -/

section
variable (x0 : Vec Ideal S256x1024 .bf16) (x1 : Vec Ideal S2048x256 .bf16) (x2 : Vec Ideal S2048x128 .bf16)

/-- Query `c`'s score for key `j`, by the queries and keys at lane `o` on. -/
def dots (o : ℕ) (ho : o ≤ 128) (c : Fin 1024) (j : ℕ) : EReal :=
  if h : j < 2048 then ∑ l : Fin 128, x1 (ix2 ⟨j, h⟩ ⟨o + l.val, by omega⟩) * x0 (ix2 ⟨o + l.val, by omega⟩ c) else ⊥
/-- The same, `⊥` for keys after the query. -/
def score (o : ℕ) (ho : o ≤ 128) (i : ℕ) (c : Fin 1024) (j : ℕ) : EReal :=
  if j ≤ 1024 * i + c.val then dots x0 x1 o ho c j else ⊥
/-- Key `j`'s value at a lane. -/
def val (lane : Fin 128) (j : ℕ) : ℝ := if h : j < 2048 then (x2 (ix2 ⟨j, h⟩ lane)).toReal else 0

/-- The query blocks of the first and of the second softmax. -/
def q1 : FVec Ideal S128x1024 .bf16 := k0_pay28 (View.ld x0 (Rect.unit ![0, 0] ![128, 1024] inb_S256x1024_S128x1024_0_0))
def q2 : FVec Ideal S128x1024 .bf16 := k0_pay29 (View.ld x0 (Rect.unit ![128, 0] ![128, 1024] inb_S256x1024_S128x1024_128_0))

theorem q1_at (l : Fin 128) (c : Fin 1024) : q1 x0 (ix2 l c) = x0 (ix2 ⟨0 + l.val, by omega⟩ c) := by
  unfold q1
  pointwise [k0_pay28]
theorem q2_at (l : Fin 128) (c : Fin 1024) : q2 x0 (ix2 l c) = x0 (ix2 ⟨128 + l.val, by omega⟩ c) := by
  unfold q2
  pointwise [k0_pay29]
end

/-- The three values of each softmax a tile carries. -/
abbrev Carried := FVec Ideal S1x1024 .f32 × FVec Ideal S1x1024 .f32 × FVec Ideal S128x1024 .f32 × FVec Ideal S1x1024 .f32 × FVec Ideal S1x1024 .f32 × FVec Ideal S128x1024 .f32

/-- One whole block of keys. -/
def trip (x0 : Vec Ideal S256x1024 .bf16) (k1 k2 v : FVec Ideal S1024x128 .bf16) (a : Carried) : Carried :=
  (mK a.1 (scK (q1 x0) k1), lK a.1 a.2.1 (scK (q1 x0) k1), aK a.1 a.2.2.1 (scK (q1 x0) k1) v,
   mK a.2.2.2.1 (scK (q2 x0) k2), lK a.2.2.2.1 a.2.2.2.2.1 (scK (q2 x0) k2), aK a.2.2.2.1 a.2.2.2.2.2 (scK (q2 x0) k2) v)

section
variable (𝒱 : Variants) (c : Dev nD) (bd : Option 𝒱.V) (i : grid0.Coords) (arg3 : Memref sig .tc .vmem S256x1024 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1024x128 .bf16) (harg8 : arg8.IsWhole)
  (x0 : Vec Ideal S256x1024 .bf16) (x1 : Vec Ideal S2048x256 .bf16) (x2 : Vec Ideal S2048x128 .bf16)

theorem trip_eq (k : Fin (k0_t1_loop i).trips) (acc : Carried) :
    tripR_k0_t1 (F := Ideal) 𝒱 c bd i arg3 harg3 arg4 harg4 arg5 harg5 arg6 harg6 arg7 harg7 arg8 harg8
      (View.ld x0 (Rect.unit ![0, 0] ![128, 1024] inb_S256x1024_S128x1024_0_0))
      (View.ld x0 (Rect.unit ![128, 0] ![128, 1024] inb_S256x1024_S128x1024_128_0)) (harg4.unread x1) (harg5.unread x2) k acc
      = trip x0 (shapeCast S1024x128 (View.ld x1 (Rect.unit (k0_off1 i k) ![1024, 128] (k0_off1_inb i k))) shapeCasts_S1024x128_S1024x128)
          (shapeCast S1024x128 (View.ld x1 (Rect.unit (k0_off2 i k) ![1024, 128] (k0_off2_inb i k))) shapeCasts_S1024x128_S1024x128)
          (shapeCast S1024x128 (View.ld x2 (Rect.unit (k0_off3 i k) ![1024, 128] (k0_off3_inb i k))) shapeCasts_S1024x128_S1024x128) acc := by
  unfold tripR_k0_t1 trip_k0_t1
  frame_out
  rfl

/-- The carried values before trip `k`. -/
abbrev stt (k : ℕ) : Carried :=
  st_k0_t1 (F := Ideal) 𝒱 c bd i arg3 harg3 arg4 harg4 arg5 harg5 arg6 harg6 arg7 harg7 arg8 harg8
      (View.ld x0 (Rect.unit ![0, 0] ![128, 1024] inb_S256x1024_S128x1024_0_0))
      (View.ld x0 (Rect.unit ![128, 0] ![128, 1024] inb_S256x1024_S128x1024_128_0)) (harg4.unread x1) (harg5.unread x2)
      (k0_pay31, k0_pay32, k0_pay33, k0_pay34, k0_pay35, k0_pay36) k

theorem stt_ran (hx2 : ∀ y, x2 y = ((x2 y).toReal : EReal)) (col : Fin 1024) (lane : Fin 128) : ∀ k, k ≤ (i 2).val →
    (let s := stt 𝒱 c bd i arg3 harg3 arg4 harg4 arg5 harg5 arg6 harg6 arg7 harg7 arg8 harg8 x0 x1 x2 k
    Ran (score x0 x1 0 (by omega) (i 2).val col) (val x2 lane) (1024 * k) (s.1 (ix2 0 col)) (s.2.1 (ix2 0 col)) (s.2.2.1 (ix2 lane col))
    ∧ Ran (score x0 x1 128 (by omega) (i 2).val col) (val x2 lane) (1024 * k) (s.2.2.2.1 (ix2 0 col)) (s.2.2.2.2.1 (ix2 0 col)) (s.2.2.2.2.2 (ix2 lane col))) := by
  intro k
  induction k with
  | zero =>
    intro _
    have hm : k0_pay31 (F := Ideal) (ix2 0 col) = ⊥ := by
      unfold k0_pay31; rw [m_init]; pointwise
    have hm' : k0_pay34 (F := Ideal) (ix2 0 col) = ⊥ := by
      unfold k0_pay34; rw [m_init]; pointwise
    refine ⟨⟨hm, ?_, ?_⟩, ⟨hm', ?_, ?_⟩⟩
    · show k0_pay32 (F := Ideal) (ix2 0 col) = _; pointwise [k0_pay32]; rfl
    · show k0_pay33 (F := Ideal) (ix2 lane col) = _; pointwise [k0_pay33]; rfl
    · show k0_pay35 (F := Ideal) (ix2 0 col) = _; pointwise [k0_pay35]; rfl
    · show k0_pay36 (F := Ideal) (ix2 lane col) = _; pointwise [k0_pay36]; rfl
  | succ k ih =>
    intro hk
    have hi : (i 2).val < 2 := (i 2).isLt
    have ht : k < (k0_t1_loop i).trips := by
      have := trips1 i
      show k < Scf.trips _ _ _
      rw [this]; omega
    obtain ⟨h1, h2⟩ := ih (by omega)
    have e := st_k0_t1_succ (F := Ideal) 𝒱 c bd i arg3 harg3 arg4 harg4 arg5 harg5 arg6 harg6 arg7 harg7 arg8 harg8
      (View.ld x0 (Rect.unit ![0, 0] ![128, 1024] inb_S256x1024_S128x1024_0_0))
      (View.ld x0 (Rect.unit ![128, 0] ![128, 1024] inb_S256x1024_S128x1024_128_0)) (harg4.unread x1) (harg5.unread x2)
      (k0_pay31, k0_pay32, k0_pay33, k0_pay34, k0_pay35, k0_pay36) ⟨k, ht⟩
    rw [trip_eq] at e
    simp only [stt] at h1 h2 ⊢
    simp only at e
    rw [e]
    have hv : ∀ r : Fin 1024, (shapeCast S1024x128 (View.ld x2 (Rect.unit (k0_off3 i ⟨k, ht⟩) ![1024, 128] (k0_off3_inb i ⟨k, ht⟩))) shapeCasts_S1024x128_S1024x128) (ix2 r lane)
        = (val x2 lane (1024 * k + r.val) : EReal) := by
      intro r
      rw [val, dif_pos (by omega), ← hx2]
      exact ldV x2 (k0_off3_eq i ⟨k, ht⟩) _ r lane _
    constructor
    · refine ranK (n := 1024 * k) h1 (fun r => ?_) hv
      rw [scK_at, score, if_pos (by omega), dots, dif_pos (by omega)]
      refine Finset.sum_congr rfl fun l _ => ?_
      rw [ldK x1 (k0_off1_eq i ⟨k, ht⟩) _ r l (by show 1024 * k + r.val < 2048; omega) (by omega), q1_at]
    · refine ranK (n := 1024 * k) h2 (fun r => ?_) hv
      rw [scK_at, score, if_pos (by omega), dots, dif_pos (by omega)]
      refine Finset.sum_congr rfl fun l _ => ?_
      rw [ldK x1 (k0_off2_eq i ⟨k, ht⟩) _ r l (by show 1024 * k + r.val < 2048; omega) (by omega), q2_at]
end

/-- What the body leaves, from its blocks and the carried values after the whole blocks. -/
theorem outs_eq (c : Dev nD) (t : Fin cfg0.N) :
    ∃ (h7 : _) (h8 : _) (h9 : _) (h10 : _) (h11 : _) (h12 : _),
    let S := stt Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (grid0.coords t 2).val
    let va := k0_pay39 (View.ld (iblk m c 2 t) (Rect.unit (k0_off8 (grid0.coords t)) ![512, 128] h8))
    let vb := k0_pay41 (View.ld (iblk m c 2 t) (Rect.unit (k0_off10 (grid0.coords t)) ![512, 128] h10))
    let o := diff (k0_pay30 (F := Ideal) (iblk m c 3 t))
      (diag (q1 (iblk m c 0 t)) S.1 S.2.1 S.2.2.1 (k0_pay38 (View.ld (iblk m c 1 t) (Rect.unit (k0_off7 (grid0.coords t)) ![512, 128] h7))) va
        (k0_pay40 (View.ld (iblk m c 1 t) (Rect.unit (k0_off9 (grid0.coords t)) ![512, 128] h9))) vb)
      (diag (q2 (iblk m c 0 t)) S.2.2.2.1 S.2.2.2.2.1 S.2.2.2.2.2 (k0_pay54 (View.ld (iblk m c 1 t) (Rect.unit (k0_off11 (grid0.coords t)) ![512, 128] h11))) va
        (k0_pay56 (View.ld (iblk m c 1 t) (Rect.unit (k0_off12 (grid0.coords t)) ![512, 128] h12))) vb)
    (dats m 0 c).after 5 t = k0_pay1 o (msq o) k0_pay74 (iblk m c 4 t) := by
  refine ⟨k0_off7_inb _, k0_off8_inb _, k0_off9_inb _, k0_off10_inb _, k0_off11_inb _, k0_off12_inb _, ?_⟩
  rw [after0_5]
  unfold outsAt0
  frame_out
  rw [trips1, trips2]
  simp only [st_k0_t2_zero]
  rfl

/-! ## Read at a query and a lane -/

/-- The tile's result before normalisation: the first softmax's weighted mean of the values less the second's. -/
def mean (x0 : Vec Ideal S256x1024 .bf16) (x1 : Vec Ideal S2048x256 .bf16) (x2 : Vec Ideal S2048x128 .bf16) (o : ℕ) (ho : o ≤ 128)
    (i : ℕ) (c : Fin 1024) (lane : Fin 128) : ℝ :=
  num (score x0 x1 o ho i c) (val x2 lane) 2048 / max (den (score x0 x1 o ho i c) 2048) tiny

theorem diag_mean (x0 : Vec Ideal S256x1024 .bf16) (x1 : Vec Ideal S2048x256 .bf16) (x2 : Vec Ideal S2048x128 .bf16) (o : ℕ) (ho : o ≤ 128)
    (hx2 : ∀ y, x2 y = ((x2 y).toReal : EReal)) (i : ℕ) (hi : i < 2)
    {off7 off8 off9 off10 : Fin 2 → ℕ} (e7 : off7 = ![1024 * i, o]) (e8 : off8 = ![1024 * i, 0])
    (e9 : off9 = ![1024 * i + 512, o]) (e10 : off10 = ![1024 * i + 512, 0]) (h7 h8 h9 h10)
    (q : FVec Ideal S128x1024 .bf16) (hq : ∀ l c, q (ix2 l c) = x0 (ix2 ⟨o + l.val, by omega⟩ c))
    (m l : FVec Ideal S1x1024 .f32) (a : FVec Ideal S128x1024 .f32) (c : Fin 1024) (lane : Fin 128)
    (h : Ran (score x0 x1 o ho i c) (val x2 lane) (1024 * i) (m (ix2 0 c)) (l (ix2 0 c)) (a (ix2 lane c))) :
    diag q m l a (shapeCast S512x128 (View.ld x1 (Rect.unit off7 ![512, 128] h7)) shapeCasts_S512x128_S512x128)
      (shapeCast S512x128 (View.ld x2 (Rect.unit off8 ![512, 128] h8)) shapeCasts_S512x128_S512x128)
      (shapeCast S512x128 (View.ld x1 (Rect.unit off9 ![512, 128] h9)) shapeCasts_S512x128_S512x128)
      (shapeCast S512x128 (View.ld x2 (Rect.unit off10 ![512, 128] h10)) shapeCasts_S512x128_S512x128) (ix2 lane c)
      = (mean x0 x1 x2 o ho i c lane : EReal) := by
  refine diag_at (N := 2048) h (fun j hj => ?_) (fun j hj => if_neg (by omega)) (fun k => ?_) (fun k => ?_) (by omega)
  · rw [score, if_pos (by omega), dots, dif_pos (by omega), own]
    split
    · rename_i hj5
      refine Finset.sum_congr rfl fun l _ => ?_
      rw [ldK' x1 e7 h7 ⟨j, hj5⟩ l (by show 1024 * i + j < 2048; omega) (by omega), hq]
    · rename_i hj5
      rw [dif_pos (by omega)]
      refine Finset.sum_congr rfl fun l _ => ?_
      rw [ldK' x1 e9 h9 ⟨j - 512, by omega⟩ l (by show 1024 * i + 512 + (j - 512) < 2048; omega) (by omega), hq]
      congr 3
      exact Fin.ext (by show 1024 * i + j = 1024 * i + 512 + (j - 512); omega)
  · rw [val, dif_pos (by omega), ← hx2]
    exact ldV' x2 e8 h8 k lane _
  · rw [val, dif_pos (by omega), ← hx2, ldV' x2 e10 h10 k lane (by omega)]
    congr 2
    exact Fin.ext (by show 1024 * i + 512 + k.val = 1024 * i + (512 + k.val); omega)

/-- The weight of the second softmax. -/
def lam (x3 : Vec Ideal S4x64 .f32) : EReal :=
  Ideal.exp (∑ l : Fin 64, x3 (ix2 0 l) * x3 (ix2 1 l)) - Ideal.exp (∑ l : Fin 64, x3 (ix2 2 l) * x3 (ix2 3 l)) + Ideal.ofBits .f32 0x3E4CCCCD#32

theorem pay30_at (x3 : Vec Ideal S4x64 .f32) : k0_pay30 (F := Ideal) x3 (ix2 0 0) = lam x3 := by
  unfold lam
  pointwise [k0_pay30]

/-- Difference, mean square and gain at a query and a lane. -/
theorem norm_at (x3 : Vec Ideal S4x64 .f32) (x4 : Vec Ideal S128x1 .f32) (o1 o2 : FVec Ideal S128x1024 .f32) (c : Fin 1024) (lane : Fin 128) :
    k0_pay1 (F := Ideal) (diff (k0_pay30 x3) o1 o2) (msq (diff (k0_pay30 x3) o1 o2)) k0_pay74 x4 (ix2 c lane)
      = (o1 (ix2 lane c) - lam x3 * o2 (ix2 lane c))
        * Ideal.rsqrt (Ideal.div (∑ l : Fin 128, (o1 (ix2 l c) - lam x3 * o2 (ix2 l c)) * (o1 (ix2 l c) - lam x3 * o2 (ix2 l c))) (Ideal.ofBits .f32 0x43000000#32)
            + Ideal.ofBits .f32 0x3727C5AC#32)
        * x4 (ix2 lane 0) * Ideal.ofBits .f32 0x3F4CCCCD#32 := by
  have hd : ∀ l, diff (k0_pay30 (F := Ideal) x3) o1 o2 (ix2 l c) = o1 (ix2 l c) - lam x3 * o2 (ix2 l c) := by
    intro l
    rw [← pay30_at]
    unfold diff
    generalize k0_pay30 (F := Ideal) x3 = w
    pointwise
  simp only [← hd]
  generalize diff (k0_pay30 (F := Ideal) x3) o1 o2 = w
  pointwise [k0_pay1, k0_pay74, msq]

end Cert.Hand

end
-- ==== Proof.Host.lean ====
module

public import proofs.«01_k».proof.Proof.Block
public import Idealize.ShloMosaic.Lib.StableHlo.ReadAt

@[expose] public section

set_option maxRecDepth 16384

noncomputable section

/-! The arrays that the host prepares for the tiles, read at an index. -/

namespace Cert.Hand

open Cert.KernelIdeal Cert.KernelIdeal.Gen Cert.Softmax Idealize.ShloMosaic Idealize.ShloMosaic.TcCoe Idealize.SL.Sem

/-! ## Constants and words -/

/-- The literal that stands for the logarithm of two. -/
def ln2 : ℝ := (Ideal.ofBits .f32 0x3F317218#32).toReal
theorem ln2_eq : Ideal.ofBits .f32 0x3F317218#32 = (ln2 : EReal) := by
  unfold ln2
  simp [Ideal.ofBits, Ideal.ieee, -EReal.coe_mul, EReal.toReal_coe]
theorem neg_two : Ideal.ofBits .f32 0xC0000000#32 = ((-2 : ℝ) : EReal) := by
  simp [Ideal.ofBits, Ideal.ieee, -EReal.coe_mul]
  norm_num
theorem neg_eight : Ideal.ofBits .f32 0xC1000000#32 = ((-8 : ℝ) : EReal) := by
  simp [Ideal.ofBits, Ideal.ieee, -EReal.coe_mul]
  norm_num
theorem four : Ideal.ofBits .f32 0x40800000#32 = ((4 : ℝ) : EReal) := by
  simp [Ideal.ofBits, Ideal.ieee, -EReal.coe_mul]
  norm_num

theorem sitofp_nat (n : ℕ) (h : n < 2 ^ 31) : FloatOps.sitofp (F := Ideal) .f32 (BitVec.ofNat 32 n) = ((n : ℝ) : EReal) := by
  show (((BitVec.ofNat 32 n).toInt : ℝ) : EReal) = _
  have : (BitVec.ofNat 32 n).toInt = n := by
    rw [BitVec.toInt_eq_toNat_of_lt (by rw [BitVec.toNat_ofNat]; omega), BitVec.toNat_ofNat]; omega
  rw [this]
  rfl
theorem andi_mod (n : ℕ) (h : n < 2 ^ 31) : IntOp.andi (BitVec.ofNat 32 n) 2047#32 = BitVec.ofNat 32 (n % 2048) := by
  show BitVec.ofNat 32 n &&& 2047#32 = _
  apply BitVec.eq_of_toNat_eq
  rw [BitVec.toNat_and, BitVec.toNat_ofNat, BitVec.toNat_ofNat]
  have : n % 2 ^ 32 = n := by omega
  rw [this]
  show n &&& (2 ^ 11 - 1) = _
  rw [Nat.and_two_pow_sub_one_eq_mod, BitVec.toNat_ofNat]
  omega
theorem lane_eq : ∀ l : Fin 128, IntOp.cmpi .eq (BitVec.ofNat 32 l.val) 64#32 = (if l.val = 64 then 1#1 else 0#1) := by decide +kernel
theorem lane_eq' : ∀ l : Fin 128, IntOp.cmpi .eq (BitVec.ofNat 32 l.val) 65#32 = (if l.val = 65 then 1#1 else 0#1) := by decide +kernel

/-- A head's slope. -/
def slope (h : ℕ) : ℝ := Real.exp (ln2 * (-2 * (h + 1)))

variable (m : (ℓ : Loc nD τ sig) → Buf (Elt Ideal) ℓ)

/-- The arguments, at their shapes. -/
abbrev aq (c : Dev nD) : FVec Ideal S8x2048x512 .f32 := m ((c : Thread nD τ).loc main_arg0)
abbrev ak (c : Dev nD) : FVec Ideal S8x2048x512 .f32 := m ((c : Thread nD τ).loc main_arg1)
abbrev av (c : Dev nD) : FVec Ideal S8x2048x512 .f32 := m ((c : Thread nD τ).loc main_arg2)
abbrev ag (c : Dev nD) : FVec Ideal S128 .f32 := m ((c : Thread nD τ).loc main_arg7)

/-- Entry `x` of a token, zero outside. -/
def ent (X : FVec Ideal S8x2048x512 .f32) (b : Fin 8) (t : Fin 2048) (x : ℕ) : EReal := if h : x < 512 then X (ix3 b t ⟨x, h⟩) else 0

theorem ent_eq (X : FVec Ideal S8x2048x512 .f32) (b b' : Fin 8) (t t' : Fin 2048) (x : Fin 512) {x' : ℕ} (hb : b.val = b'.val) (ht : t.val = t'.val)
    (hx : x.val = x') : X (ix3 b t x) = ent X b' t' x' := by
  subst hx
  have e : b = b' := Fin.ext hb
  have e' : t = t' := Fin.ext ht
  subst e e'
  rw [ent, dif_pos x.isLt]

theorem glue {A B C a s : EReal} {l : ℕ} (hA : l < 64 → A = a) (hA' : ¬ l < 64 → A = 0) (hB : B = s)
    (hC : C = if l = 64 ∨ l = 65 then 1 else 0) : A + B * C = if l < 64 then a else if l = 64 ∨ l = 65 then s else 0 := by
  subst hB hC
  by_cases h : l < 64
  · rw [hA h, if_pos h, if_neg (by omega), mul_zero, add_zero]
  · rw [hA' h, if_neg h, zero_add]
    split
    · rw [mul_one]
    · rw [mul_zero]

theorem glue' {A B a s : EReal} {l : ℕ} (hA : l < 64 → A = a) (hA' : ¬ l < 64 → A = 0) (hB : B = if l = 64 then s else 0) :
    A + B = if l < 64 then a else if l = 64 then s else 0 := by
  subst hB
  by_cases h : l < 64
  · rw [hA h, if_pos h, if_neg (by omega), add_zero]
  · rw [hA' h, if_neg h, zero_add]

theorem sel {p : Prop} [Decidable p] {q : Prop} {A : p → EReal} {z a : EReal} (h : q → p) (hA : ∀ h, A h = a) :
    q → (if h : p then A h else z) = a := fun hq => by rw [dif_pos (h hq), hA]
theorem sel' {p : Prop} [Decidable p] {q : Prop} {A : p → EReal} {z a : EReal} (h : q → ¬p) (hA : z = a) :
    q → (if h : p then A h else z) = a := fun hq => by rw [dif_neg (h hq), hA]

theorem zero_word : FloatOps.sitofp (F := Ideal) .f32 0#32 = (0 : EReal) := by
  rw [sitofp_nat 0 (by omega)]; simp

theorem on_word (l : Fin 128) : FloatOps.uitofp (F := Ideal) .f32 (IntOp.ori (IntOp.cmpi .eq (BitVec.ofNat 32 l.val) 64#32)
      (IntOp.cmpi .eq (BitVec.ofNat 32 l.val) 65#32)) = ((if l.val = 64 ∨ l.val = 65 then 1 else 0 : EReal)) := by
  rw [lane_eq, lane_eq']
  by_cases h1 : l.val = 64
  · rw [if_pos h1, if_neg (by omega), if_pos (.inl h1)]
    show (((1#1 : BitVec 1).toNat : ℝ) : EReal) = 1
    simp
  · by_cases h2 : l.val = 65
    · rw [if_neg h1, if_pos h2, if_pos (.inr h2)]
      show (((1#1 : BitVec 1).toNat : ℝ) : EReal) = 1
      simp
    · rw [if_neg h1, if_neg h2, if_neg (by omega)]
      show (((0#1 : BitVec 1).toNat : ℝ) : EReal) = 0
      simp

theorem slope_word (r h : ℕ) (hr : r / 2 = h) (hh : h < 4) : Ideal.exp
      (Ideal.ofBits FTy.f32 1060205080#32 *
        (Ideal.ofBits FTy.f32 3221225472#32 * (FloatOps.sitofp (F := Ideal) FTy.f32 (BitVec.ofNat 32 (r / 2)) + 1))) = (slope h : EReal) := by
  rw [hr, sitofp_nat _ (by omega), ln2_eq, neg_two, slope, ← EReal.coe_one, ← EReal.coe_add, ← EReal.coe_mul, ← EReal.coe_mul]
  exact Ideal.exp_coe _

/-- The prepared queries: 64 scaled entries, the slope twice, zeros. -/
theorem qd_at (c : Dev nD) (h w : ℕ) (hh : h < 4) (hw : w < 2) (l : Fin 128) (b : Fin 8) (t : Fin 2048) (x : Fin 1024) (n : Fin 16384)
    (hx : x.val = (2 * h + w) * 128 + l.val) (hn : n.val = b.val * 2048 + t.val) :
    (V m c main_v40 : FVec Ideal S1024x16384 .bf16) (ix2 x n) = (if l.val < 64 then
      ent (aq m c) b t (w * 256 + h * 64 + l.val) * Ideal.ofBits .f32 0x3E000000#32
      else if l.val = 64 ∨ l.val = 65 then (slope h : EReal) else 0) := by
  unfold V
  after_reads_at
  have e1 : x.val / 128 = 2 * h + w := by omega
  have e2 : x.val % 128 = l.val := by omega
  simp only [e1, e2]
  refine glue (sel (fun hl => ⟨by omega, hl⟩) fun hl => ?_) (sel' (fun hl => by omega) zero_word) ?_ (on_word l)
  · have := hl.2
    refine congrArg (· * _) (ent_eq (aq m c) _ b _ t _ ?_ ?_ ?_) <;> dsimp only <;> omega
  · rw [id_eq]
    pointwise
    exact slope_word (2 * h + w) h (by omega) hh

theorem aug_at (c : Dev nD) (n : Fin 16384) (l : Fin 128) :
    (StableHlo.upto [hostOps0, hostOps0_1, hostOps0_2, hostOps0_3, hostOps0_4, hostOps0_5, hostOps0_6, hostOps0_7].flatten
      (fun b => m (c, b)) 77 (Proc.devRef .tc main_v60) : FVec Ideal S16384x128 .f32) (ix2 n l)
      = (if l.val = 64 then (((n.val % 2048 : ℕ) : ℝ) : EReal) else 0) := by
  after_reads_at
  rw [lane_eq l, lane_eq' l, andi_mod _ (by omega), sitofp_nat _ (by omega)]
  have z : (id (constant (F := Ideal) S_ FTy.f32 0#32) ix0 : EReal) = 0 := by
    rw [id_eq]; pointwise;
  rw [z, ← EReal.coe_sub, sub_self, EReal.coe_zero]
  by_cases h1 : l.val = 64
  · rw [if_pos h1, if_pos h1]; rfl
  · rw [if_neg h1, if_neg h1]
    split <;> rfl

theorem ite_both {p : Prop} [Decidable p] {a : p → EReal} {b : ¬p → EReal} {v : EReal} (ha : ∀ h, a h = v) (hb : ∀ h, b h = v) : dite p a b = v := by
  split
  · exact ha _
  · exact hb _

/-- The prepared keys: 64 entries, the position, zeros. -/
theorem kd_at (c : Dev nD) (h w : ℕ) (hh : h < 4) (hw : w < 2) (l : Fin 128) (b : Fin 8) (t : Fin 2048) (x : Fin 1024) (n : Fin 16384)
    (hx : x.val = (2 * h + w) * 128 + l.val) (hn : n.val = b.val * 2048 + t.val) :
    (V m c main_v63 : FVec Ideal S16384x1024 .bf16) (ix2 n x) = (if l.val < 64 then
      ent (ak m c) b t (w * 256 + h * 64 + l.val) else if l.val = 64 then ((t.val : ℝ) : EReal) else 0) := by
  unfold V
  after_reads_at
  have hc : ∀ (l' : ℕ) (hl' : l' < 128), l' = l.val → (StableHlo.upto [hostOps0, hostOps0_1, hostOps0_2, hostOps0_3, hostOps0_4, hostOps0_5, hostOps0_6, hostOps0_7].flatten
      (fun b => m (c, b)) 77 (Proc.devRef .tc main_v60) : FVec Ideal S16384x128 .f32) (ix2 n ⟨l', hl'⟩)
      = (if l.val = 64 then ((t.val : ℝ) : EReal) else 0) := by
    intro l' hl' e
    rw [aug_at]
    have : n.val % 2048 = t.val := by omega
    subst e
    rw [this]
  have e1 : x.val / 128 = 2 * h + w := by omega
  have e2 : x.val % 128 = l.val := by omega
  simp only [e1, e2]
  refine glue' (sel (fun hl => ⟨by omega, hl⟩) fun hl => ?_) (sel' (fun hl => by omega) zero_word) ?_
  · have := hl.2
    refine ent_eq (ak m c) _ b _ t _ ?_ ?_ ?_ <;> dsimp only <;> omega
  · iterate 7 refine ite_both (fun h => hc _ _ (by omega)) (fun h => ?_)
    exact hc _ _ (by omega)

theorem vd_at (c : Dev nD) (b : Fin 8) (t : Fin 2048) (x : Fin 512) (n : Fin 16384) (hn : n.val = b.val * 2048 + t.val) :
    (V m c main_v64 : FVec Ideal S16384x512 .bf16) (ix2 n x) = ent (av m c) b t x.val := by
  unfold V
  after_reads_at
  refine ent_eq (av m c) _ b _ t _ ?_ ?_ ?_ <;> dsimp only <;> omega

theorem lam0_at (c : Dev nD) (l : Fin 64) : (V m c main_v69 : FVec Ideal S4x64 .f32) (ix2 0 l) = (m ((c : Thread nD τ).loc main_arg3) : FVec Ideal S64 .f32) (ix1 l) := by
  unfold V
  after_reads_at
  after_reads_at
theorem lam1_at (c : Dev nD) (l : Fin 64) : (V m c main_v69 : FVec Ideal S4x64 .f32) (ix2 1 l) = (m ((c : Thread nD τ).loc main_arg4) : FVec Ideal S64 .f32) (ix1 l) := by
  unfold V
  after_reads_at
  after_reads_at
theorem lam2_at (c : Dev nD) (l : Fin 64) : (V m c main_v69 : FVec Ideal S4x64 .f32) (ix2 2 l) = (m ((c : Thread nD τ).loc main_arg5) : FVec Ideal S64 .f32) (ix1 l) := by
  unfold V
  after_reads_at
  after_reads_at
theorem lam3_at (c : Dev nD) (l : Fin 64) : (V m c main_v69 : FVec Ideal S4x64 .f32) (ix2 3 l) = (m ((c : Thread nD τ).loc main_arg6) : FVec Ideal S64 .f32) (ix1 l) := by
  unfold V
  after_reads_at
  after_reads_at
theorem gain_at (c : Dev nD) (l : Fin 128) : (V m c main_v70 : FVec Ideal S128x1 .f32) (ix2 l 0) = ag m c (ix1 l) := by
  unfold V
  after_reads_at

end Cert.Hand

end
-- ==== Proof.Tile.lean ====
module

public import proofs.«01_k».proof.Proof.Host

@[expose] public section

set_option maxRecDepth 16384

noncomputable section

/-! The kernel's result array: differential attention at a token, a head and a lane. -/

namespace Cert.Hand

open Cert.KernelIdeal Cert.KernelIdeal.Gen Cert.Softmax Idealize.ShloMosaic Idealize.ShloMosaic.TcCoe Idealize.SL.Sem

/-! ## The function -/

/-- Query `t` with key `j`: softmax `w` of head `h`. -/
def dotq (q k : FVec Ideal S8x2048x512 .f32) (b : Fin 8) (h w : ℕ) (t j : Fin 2048) : EReal :=
  ∑ d : Fin 64, ent k b j (w * 256 + h * 64 + d.val) * (ent q b t (w * 256 + h * 64 + d.val) * Ideal.ofBits .f32 0x3E000000#32)
/-- The score with the head's slope times the key's position; `⊥` for keys after the query. -/
def posScore (q k : FVec Ideal S8x2048x512 .f32) (b : Fin 8) (h w : ℕ) (t : Fin 2048) (j : ℕ) : EReal :=
  if hj : j ≤ t.val then dotq q k b h w t ⟨j, by omega⟩ + ((slope h * j : ℝ) : EReal) else ⊥
/-- Key `j`'s value. -/
def value (v : FVec Ideal S8x2048x512 .f32) (b : Fin 8) (h : ℕ) (lane : Fin 128) (j : ℕ) : ℝ :=
  if hj : j < 2048 then (ent v b ⟨j, hj⟩ (h * 128 + lane.val)).toReal else 0
/-- The weighted mean of the values under softmax `w`. -/
def attn (q k v : FVec Ideal S8x2048x512 .f32) (b : Fin 8) (h w : ℕ) (t : Fin 2048) (lane : Fin 128) : ℝ :=
  num (posScore q k b h w t) (value v b h lane) 2048 / max (den (posScore q k b h w t) 2048) tiny
/-- The second softmax's weight. -/
def weight (a b c d : FVec Ideal S64 .f32) : EReal :=
  Ideal.exp (∑ l : Fin 64, a (ix1 l) * b (ix1 l)) - Ideal.exp (∑ l : Fin 64, c (ix1 l) * d (ix1 l)) + Ideal.ofBits .f32 0x3E4CCCCD#32
/-- A head's row, normalised, with the gain. -/
def normed (u : Fin 128 → EReal) (g : FVec Ideal S128 .f32) (lane : Fin 128) : EReal :=
  u lane * Ideal.rsqrt (Ideal.div (∑ l : Fin 128, u l * u l) (Ideal.ofBits .f32 0x43000000#32) + Ideal.ofBits .f32 0x3727C5AC#32)
    * g (ix1 lane) * Ideal.ofBits .f32 0x3F4CCCCD#32
/-- The result at a token, a head and a lane. -/
def spec (q k v : FVec Ideal S8x2048x512 .f32) (w : EReal) (g : FVec Ideal S128 .f32) (b : Fin 8) (t : Fin 2048) (h : ℕ) (lane : Fin 128) : EReal :=
  normed (fun l => (attn q k v b h 0 t l : EReal) - w * (attn q k v b h 1 t l : EReal)) g lane

theorem spec_congr (q k v : FVec Ideal S8x2048x512 .f32) (w : EReal) (g : FVec Ideal S128 .f32) {b b' : Fin 8} {t t' : Fin 2048} {h h' : ℕ} {l l' : Fin 128}
    (hb : b.val = b'.val) (ht : t.val = t'.val) (hh : h = h') (hl : l.val = l'.val) : spec q k v w g b t h l = spec q k v w g b' t' h' l' := by
  obtain rfl : b = b' := Fin.ext hb
  obtain rfl : t = t' := Fin.ext ht
  obtain rfl : l = l' := Fin.ext hl
  rw [hh]

/-! ## The blocks of a tile -/

variable (m : (ℓ : Loc nD τ sig) → Buf (Elt Ideal) ℓ)

/-- A grid point's batch, head and query tile. -/
abbrev gb (t : Fin cfg0.N) : Fin 8 := ⟨(grid0.coords t 0).val, (grid0.coords t 0).isLt⟩
abbrev gh (t : Fin cfg0.N) : Fin 4 := ⟨(grid0.coords t 1).val, (grid0.coords t 1).isLt⟩
abbrev gi (t : Fin cfg0.N) : Fin 2 := ⟨(grid0.coords t 2).val, (grid0.coords t 2).isLt⟩

theorem idx : ∀ t : Fin cfg0.N, win0_0.index t = ![(grid0.coords t 1).val, (grid0.coords t 0).val * 2 + (grid0.coords t 2).val]
    ∧ win0_1.index t = ![(grid0.coords t 0).val, (grid0.coords t 1).val] ∧ win0_2.index t = ![(grid0.coords t 0).val, (grid0.coords t 1).val]
    ∧ win0_3.index t = ![0, 0] ∧ win0_4.index t = ![0, 0]
    ∧ win0_5.index t = ![(grid0.coords t 0).val * 2 + (grid0.coords t 2).val, (grid0.coords t 1).val] :=
  (by decide +kernel : ∀ t : Fin grid0.N, _)

theorem blk0_at (c : Dev nD) (t : Fin cfg0.N) (a : Fin 256) (col : Fin 1024) : (iblk m c 0 t : Vec Ideal S256x1024 .bf16) (ix2 a col)
    = (V m c main_v40 : FVec Ideal S1024x16384 .bf16) (ix2 ⟨(gh t).val * 256 + a.val, by omega⟩ ⟨((gb t).val * 2 + (gi t).val) * 1024 + col.val, by omega⟩) := by
  blk_ext [iblk, idx t]
theorem blk1_at (c : Dev nD) (t : Fin cfg0.N) (a : Fin 2048) (col : Fin 256) : (iblk m c 1 t : Vec Ideal S2048x256 .bf16) (ix2 a col)
    = (V m c main_v63 : FVec Ideal S16384x1024 .bf16) (ix2 ⟨(gb t).val * 2048 + a.val, by omega⟩ ⟨(gh t).val * 256 + col.val, by omega⟩) := by
  blk_ext [iblk, idx t]
theorem blk2_at (c : Dev nD) (t : Fin cfg0.N) (a : Fin 2048) (col : Fin 128) : (iblk m c 2 t : Vec Ideal S2048x128 .bf16) (ix2 a col)
    = (V m c main_v64 : FVec Ideal S16384x512 .bf16) (ix2 ⟨(gb t).val * 2048 + a.val, by omega⟩ ⟨(gh t).val * 128 + col.val, by omega⟩) := by
  blk_ext [iblk, idx t]
theorem blk3_at (c : Dev nD) (t : Fin cfg0.N) (a : Fin 4) (col : Fin 64) : (iblk m c 3 t : Vec Ideal S4x64 .f32) (ix2 a col)
    = (V m c main_v69 : FVec Ideal S4x64 .f32) (ix2 a col) := by
  blk_ext [iblk, idx t]
theorem blk4_at (c : Dev nD) (t : Fin cfg0.N) (a : Fin 128) (col : Fin 1) : (iblk m c 4 t : Vec Ideal S128x1 .f32) (ix2 a col)
    = (V m c main_v70 : FVec Ideal S128x1 .f32) (ix2 a col) := by
  blk_ext [iblk, idx t]

theorem split128 (f : Fin 128 → EReal) : ∑ l : Fin 128, f l = ∑ d : Fin 64, f ⟨d.val, by omega⟩ + ∑ d : Fin 64, f ⟨64 + d.val, by omega⟩ :=
  Fin.sum_univ_add (a := 64) (b := 64) f

theorem dots_eq (c : Dev nD) (t : Fin cfg0.N) (w : Fin 2) (col : Fin 1024) (j : Fin 2048) (q : Fin 2048) (hq : q.val = 1024 * (gi t).val + col.val) :
    dots (iblk m c 0 t) (iblk m c 1 t) (w.val * 128) (by omega) col j.val
      = dotq (aq m c) (ak m c) (gb t) (gh t).val w.val q j + ((slope (gh t).val * (j.val : ℝ) : ℝ) : EReal) := by
  rw [dots, dif_pos j.isLt]
  have ek : ∀ l : Fin 128, (iblk m c 1 t : Vec Ideal S2048x256 .bf16) (ix2 ⟨j.val, j.isLt⟩ ⟨w.val * 128 + l.val, by omega⟩)
      = (if l.val < 64 then ent (ak m c) (gb t) j (w.val * 256 + (gh t).val * 64 + l.val) else if l.val = 64 then ((j.val : ℝ) : EReal) else 0) := by
    intro l
    rw [blk1_at, kd_at m c (gh t).val w.val (gh t).isLt w.isLt l (gb t) j _ _ (by dsimp only; omega) (by dsimp only)]
  have eq : ∀ l : Fin 128, (iblk m c 0 t : Vec Ideal S256x1024 .bf16) (ix2 ⟨w.val * 128 + l.val, by omega⟩ col)
      = (if l.val < 64 then ent (aq m c) (gb t) q (w.val * 256 + (gh t).val * 64 + l.val) * Ideal.ofBits .f32 0x3E000000#32
            else if l.val = 64 ∨ l.val = 65 then (slope (gh t).val : EReal) else 0) := by
    intro l
    rw [blk0_at, qd_at m c (gh t).val w.val (gh t).isLt w.isLt l (gb t) q _ _ (by dsimp only; omega)
      (by show ((gb t).val * 2 + (gi t).val) * 1024 + col.val = (gb t).val * 2048 + q.val; omega)]
  refine (Finset.sum_congr rfl fun l _ => congrArg₂ (fun a b : EReal => a * b) (ek l) (eq l)).trans ?_
  rw [split128]
  refine congrArg₂ (fun a b : EReal => a + b) (Finset.sum_congr rfl fun d _ => ?_) ?_
  · rw [if_pos d.isLt, if_pos d.isLt]
  · rw [Finset.sum_eq_single (0 : Fin 64)]
    · rw [if_neg (by simp), if_pos (by simp), if_neg (by simp), if_pos (by simp), ← EReal.coe_mul, mul_comm]
    · intro d _ hd
      have : d.val ≠ 0 := fun h => hd (Fin.ext h)
      rw [if_neg (by dsimp only; omega), if_neg (by dsimp only; omega), zero_mul]
    · intro h
      exact absurd (Finset.mem_univ _) h

theorem score_eq (c : Dev nD) (t : Fin cfg0.N) (w : Fin 2) (col : Fin 1024) (q : Fin 2048) (hq : q.val = 1024 * (gi t).val + col.val) :
    score (iblk m c 0 t) (iblk m c 1 t) (w.val * 128) (by omega) (gi t).val col = posScore (aq m c) (ak m c) (gb t) (gh t).val w.val q := by
  funext j
  rw [score, posScore]
  by_cases h : j ≤ q.val
  · rw [if_pos (by omega), dif_pos h]
    exact dots_eq m c t w col ⟨j, by omega⟩ q hq
  · rw [if_neg (by omega), dif_neg h]

theorem val_eq (c : Dev nD) (t : Fin cfg0.N) (lane : Fin 128) : val (iblk m c 2 t) lane = value (av m c) (gb t) (gh t).val lane := by
  funext j
  rw [val, value]
  split
  · rename_i hj
    rw [blk2_at, vd_at m c (gb t) ⟨j, hj⟩ _ _ rfl]
  · rfl

theorem mean_eq (c : Dev nD) (t : Fin cfg0.N) (w : Fin 2) (col : Fin 1024) (lane : Fin 128) (q : Fin 2048) (hq : q.val = 1024 * (gi t).val + col.val) :
    mean (iblk m c 0 t) (iblk m c 1 t) (iblk m c 2 t) (w.val * 128) (by omega) (gi t).val col lane
      = attn (aq m c) (ak m c) (av m c) (gb t) (gh t).val w.val q lane := by
  rw [mean, attn, score_eq m c t w col q hq, val_eq]

/-- The arguments' weight of the second softmax. -/
abbrev aw (c : Dev nD) : EReal := weight (m ((c : Thread nD τ).loc main_arg3)) (m ((c : Thread nD τ).loc main_arg4))
  (m ((c : Thread nD τ).loc main_arg5)) (m ((c : Thread nD τ).loc main_arg6))

theorem lam_eq (c : Dev nD) (t : Fin cfg0.N) : lam (iblk m c 3 t) = aw m c := by
  unfold lam aw weight
  exact congrArg (· + _) (congrArg₂ (fun a b : EReal => a - b)
    (congrArg Ideal.exp (Finset.sum_congr rfl fun l _ => congrArg₂ (fun a b : EReal => a * b)
      ((blk3_at m c t 0 l).trans (lam0_at m c l)) ((blk3_at m c t 1 l).trans (lam1_at m c l))))
    (congrArg Ideal.exp (Finset.sum_congr rfl fun l _ => congrArg₂ (fun a b : EReal => a * b)
      ((blk3_at m c t 2 l).trans (lam2_at m c l)) ((blk3_at m c t 3 l).trans (lam3_at m c l)))))

/-- The body's result at a query and a lane, over its blocks. -/
theorem body_at (c : Dev nD) (t : Fin cfg0.N) (x0 : Vec Ideal S256x1024 .bf16) (x1 : Vec Ideal S2048x256 .bf16) (x2 : Vec Ideal S2048x128 .bf16)
    (x3 : Vec Ideal S4x64 .f32) (x4 : Vec Ideal S128x1 .f32) (hx2 : ∀ y, x2 y = ((x2 y).toReal : EReal)) (r : Fin 1024) (lane : Fin 128)
    (h7 h8 h9 h10 h11 h12) :
    (let S := stt Variants.none c none (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 (grid0.coords t 2).val
    let va := k0_pay39 (View.ld x2 (Rect.unit (k0_off8 (grid0.coords t)) ![512, 128] h8))
    let vb := k0_pay41 (View.ld x2 (Rect.unit (k0_off10 (grid0.coords t)) ![512, 128] h10))
    let o := diff (k0_pay30 (F := Ideal) x3)
      (diag (q1 x0) S.1 S.2.1 S.2.2.1 (k0_pay38 (View.ld x1 (Rect.unit (k0_off7 (grid0.coords t)) ![512, 128] h7))) va
        (k0_pay40 (View.ld x1 (Rect.unit (k0_off9 (grid0.coords t)) ![512, 128] h9))) vb)
      (diag (q2 x0) S.2.2.2.1 S.2.2.2.2.1 S.2.2.2.2.2 (k0_pay54 (View.ld x1 (Rect.unit (k0_off11 (grid0.coords t)) ![512, 128] h11))) va
        (k0_pay56 (View.ld x1 (Rect.unit (k0_off12 (grid0.coords t)) ![512, 128] h12))) vb)
    k0_pay1 o (msq o) k0_pay74 x4) (ix2 r lane)
    = normed (fun l => (mean x0 x1 x2 0 (by omega) (gi t).val r l : EReal) - lam x3 * (mean x0 x1 x2 128 (by omega) (gi t).val r l : EReal))
        (fun y => x4 (ix2 (y 0) 0)) lane := by
  have h0 : ∀ l : Fin 128, _ := fun l => stt_ran Variants.none c none (grid0.coords t) (ms0_0 t) (hs0_0 t) (ms0_1 t) (hs0_1 t) (ms0_2 t) (hs0_2 t) (ms0_3 t) (hs0_3 t) (ms0_4 t) (hs0_4 t) (ms0_5 t) (hs0_5 t)
    x0 x1 x2 hx2 r l (grid0.coords t 2).val le_rfl
  dsimp only
  rw [norm_at]
  have d1 : ∀ l : Fin 128, _ := fun l => diag_mean x0 x1 x2 0 (by omega) hx2 (gi t).val (gi t).isLt
    (k0_off7_eq _) (k0_off8_eq _) (k0_off9_eq _) (k0_off10_eq _) h7 h8 h9 h10 (q1 x0) (q1_at _) _ _ _ r l (h0 l).1
  have d2 : ∀ l : Fin 128, _ := fun l => diag_mean x0 x1 x2 128 (by omega) hx2 (gi t).val (gi t).isLt
    (k0_off11_eq _) (k0_off8_eq _) (k0_off12_eq _) (k0_off10_eq _) h11 h8 h12 h10 (q2 x0) (q2_at _) _ _ _ r l (h0 l).2
  unfold k0_pay38 k0_pay39 k0_pay40 k0_pay41 k0_pay54 k0_pay56
  simp only [d1, d2]
  rfl

/-- What a tile leaves at a query and a lane. -/
theorem tile_at (c : Dev nD) (hv : ∀ y, av m c y = ((av m c y).toReal : EReal)) (t : Fin cfg0.N) (r : Fin 1024) (lane : Fin 128)
    (q : Fin 2048) (hq : q.val = 1024 * (gi t).val + r.val) :
    ((dats m 0 c).after 5 t : Vec Ideal S1024x128 .bf16) (ix2 r lane)
      = spec (aq m c) (ak m c) (av m c) (aw m c) (ag m c) (gb t) q (gh t).val lane := by
  have hx2 : ∀ (a : Fin 2048) (b : Fin 128), (iblk m c 2 t : Vec Ideal S2048x128 .bf16) (ix2 a b) = (((iblk m c 2 t : Vec Ideal S2048x128 .bf16) (ix2 a b)).toReal : EReal) := by
    intro a b
    have hh : (gh t).val < 4 := (gh t).isLt
    rw [blk2_at, vd_at m c (gb t) a _ _ rfl, ent, dif_pos (by show (gh t).val * 128 + b.val < 512; omega)]
    exact hv _
  have hx2' : ∀ y : S2048x128.Idx, (iblk m c 2 t : Vec Ideal S2048x128 .bf16) y = (((iblk m c 2 t : Vec Ideal S2048x128 .bf16) y).toReal : EReal) := by
    intro y
    idx_vars y
    exact hx2 _ _
  obtain ⟨h7, h8, h9, h10, h11, h12, e⟩ := outs_eq m c t
  refine (congrFun e _).trans ((body_at c t (iblk m c 0 t) (iblk m c 1 t) (iblk m c 2 t) (iblk m c 3 t) (iblk m c 4 t) hx2' r lane h7 h8 h9 h10 h11 h12).trans ?_)
  unfold spec
  have m1 : ∀ l : Fin 128, mean (iblk m c 0 t) (iblk m c 1 t) (iblk m c 2 t) 0 (by omega) (gi t).val r l = attn (aq m c) (ak m c) (av m c) (gb t) (gh t).val 0 q l :=
    fun l => mean_eq m c t 0 r l q hq
  have m2 : ∀ l : Fin 128, mean (iblk m c 0 t) (iblk m c 1 t) (iblk m c 2 t) 128 (by omega) (gi t).val r l = attn (aq m c) (ak m c) (av m c) (gb t) (gh t).val 1 q l :=
    fun l => mean_eq m c t 1 r l q hq
  have g4 : (fun y : S128.Idx => (iblk m c 4 t : Vec Ideal S128x1 .f32) (ix2 (y 0) 0)) = ag m c := by
    funext y
    idx_vars y
    exact (blk4_at m c t _ _).trans (gain_at m c _)
  simp only [m1, m2, lam_eq]
  exact congrArg (fun g => normed _ g lane) g4

/-- The kernel's result array, at every index. -/
theorem result (c : Dev nD) (hv : ∀ y, av m c y = ((av m c y).toReal : EReal)) :
    (dats m 0 c).arrAt 5 cfg0.N = (fun y : S16384x512.Idx => spec (aq m c) (ak m c) (av m c) (aw m c) (ag m c)
      ⟨(y 0).val / 2048, by have : (y 0).val < 16384 := (y 0).isLt; omega⟩ ⟨(y 0).val % 2048, by omega⟩ ((y 1).val / 128) ⟨(y 1).val % 128, by omega⟩ : S16384x512.Idx → EReal) := by
  refine (dats m 0 c).arrAt_eq_of_covers 5 _ (by decide +kernel) fun t hf y => ?_
  blk_simp
  idx_vars y
  have e := (idx t).2.2.2.2.2
  have e0 : win0_5.index t 0 = (gb t).val * 2 + (gi t).val := by rw [e]; rfl
  have e1 : win0_5.index t 1 = (gh t).val := by rw [e]; rfl
  have hi : (gi t).val < 2 := (gi t).isLt
  refine (tile_at m c hv t y0 y1 ⟨1024 * (gi t).val + y0.val, by omega⟩ rfl).trans (spec_congr _ _ _ _ _ ?_ ?_ ?_ ?_)
  · show (gb t).val = (win0_5.index t 0 * 1024 + y0.val) / 2048
    rw [e0]; omega
  · show 1024 * (gi t).val + y0.val = (win0_5.index t 0 * 1024 + y0.val) % 2048
    rw [e0]; omega
  · show (gh t).val = (win0_5.index t 1 * 128 + y1.val) / 128
    rw [e1]; omega
  · show y1.val = (win0_5.index t 1 * 128 + y1.val) % 128
    rw [e1]; omega

end Cert.Hand

end
-- ==== Proof.Stages.lean ====
module

public import proofs.«01_k».proof.Proof.Tile
public import proofs.«01_k».proof.Proof.Gen.ReferenceIdeal.Run
public import Idealize.ShloMosaic.Lib.Pointwise

@[expose] public section

set_option maxRecDepth 16384

noncomputable section

/-! The reference's result, stage by stage. -/

namespace Cert.Stages

open Cert.ReferenceIdeal Cert.ReferenceIdeal.Gen Cert.Softmax Cert.Hand Idealize.ShloMosaic Idealize.ShloMosaic.TcCoe Idealize.SL.Sem Idealize.ShloMosaic.StableHlo

/-- Whether a key is read. -/
def keep : IVec S8x4x2048x2048 1 := broadcastInDim S8x4x2048x2048 ![2, 3] bcast_S2048x2048_S8x4x2048x2048_2_3 (cmpf (F := Ideal) (φ := .f32) .oge (sitofp (F := Ideal) .f32 (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (constant S_ .f32 0x00000000#32)))
/-- The first softmax's dots. -/
def dotA (q k : FVec Ideal S8x2048x512 .f32) : FVec Ideal S8x4x2048x2048 .f32 := Host.dotGeneral dot_S8x4x2048x64_S8x4x2048x64_S8x4x2048x2048_3_3_2_2_01_01 none (transpose S8x4x2048x64 [0, 2, 1, 3] (shapeCast _ (extractStridedSlice S8x2048x1x4x64 ![0, 0, 0, 0, 0] (mulf (shapeCast _ q shapeCasts_S8x2048x512_S8x2048x2x4x64) (broadcastInDim S8x2048x2x4x64 ![] bcast_S_S8x2048x2x4x64 (constant S_ .f32 0x3E000000#32))) slices_S8x2048x2x4x64_S8x2048x1x4x64_0_0_0_0_0) shapeCasts_S8x2048x1x4x64_S8x2048x4x64) transposes_S8x2048x4x64_S8x4x2048x64_0_2_1_3) (transpose S8x4x2048x64 [0, 2, 1, 3] (shapeCast _ (extractStridedSlice S8x2048x1x4x64 ![0, 0, 0, 0, 0] (shapeCast _ k shapeCasts_S8x2048x512_S8x2048x2x4x64) slices_S8x2048x2x4x64_S8x2048x1x4x64_0_0_0_0_0) shapeCasts_S8x2048x1x4x64_S8x2048x4x64) transposes_S8x2048x4x64_S8x4x2048x64_0_2_1_3)
/-- The second softmax's dots. -/
def dotB (q k : FVec Ideal S8x2048x512 .f32) : FVec Ideal S8x4x2048x2048 .f32 := Host.dotGeneral dot_S8x4x2048x64_S8x4x2048x64_S8x4x2048x2048_3_3_2_2_01_01 none (transpose S8x4x2048x64 [0, 2, 1, 3] (shapeCast _ (extractStridedSlice S8x2048x1x4x64 ![0, 0, 1, 0, 0] (mulf (shapeCast _ q shapeCasts_S8x2048x512_S8x2048x2x4x64) (broadcastInDim S8x2048x2x4x64 ![] bcast_S_S8x2048x2x4x64 (constant S_ .f32 0x3E000000#32))) slices_S8x2048x2x4x64_S8x2048x1x4x64_0_0_1_0_0) shapeCasts_S8x2048x1x4x64_S8x2048x4x64) transposes_S8x2048x4x64_S8x4x2048x64_0_2_1_3) (transpose S8x4x2048x64 [0, 2, 1, 3] (shapeCast _ (extractStridedSlice S8x2048x1x4x64 ![0, 0, 1, 0, 0] (shapeCast _ k shapeCasts_S8x2048x512_S8x2048x2x4x64) slices_S8x2048x2x4x64_S8x2048x1x4x64_0_0_1_0_0) shapeCasts_S8x2048x1x4x64_S8x2048x4x64) transposes_S8x2048x4x64_S8x4x2048x64_0_2_1_3)
/-- The distance's penalty. -/
def bias : FVec Ideal S8x4x2048x2048 .f32 := broadcastInDim S8x4x2048x2048 ![0, 1, 2, 3] bcast_S1x4x2048x2048_S8x4x2048x2048_0_1_2_3 (mulf (broadcastInDim S1x4x2048x2048 ![0, 1, 2, 3] bcast_S1x4x1x1_S1x4x2048x2048_0_1_2_3 (Host.negf (broadcastInDim S1x4x1x1 ![1] bcast_S4_S1x4x1x1_1 (Host.exp (mulf (broadcastInDim S4 ![] bcast_S_S4 (constant S_ .f32 0x3F317218#32)) (Host.divf (mulf (broadcastInDim S4 ![] bcast_S_S4 (constant S_ .f32 0xC1000000#32)) (addf (broadcastInDim S4 ![] bcast_S_S4 (constant S_ .f32 0x3F800000#32)) (sitofp .f32 (iotaInDim S4 32 0)))) (broadcastInDim S4 ![] bcast_S_S4 (constant S_ .f32 0x40800000#32)))))))) (broadcastInDim S1x4x2048x2048 ![0, 1, 2, 3] bcast_S1x1x2048x2048_S1x4x2048x2048_0_1_2_3 (broadcastInDim S1x1x2048x2048 ![2, 3] bcast_S2048x2048_S1x1x2048x2048_2_3 (sitofp .f32 (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))))))
/-- The scores, with penalty and mask. -/
def scored (d : FVec Ideal S8x4x2048x2048 .f32) : FVec Ideal S8x4x2048x2048 .f32 := select keep (addf d bias) (broadcastInDim S8x4x2048x2048 ![] bcast_S_S8x4x2048x2048 (id (constant S_ .f32 0xFF800000#32)))
/-- A query's largest score. -/
def top (s : FVec Ideal S8x4x2048x2048 .f32) : FVec Ideal S8x4x2048 .f32 := Host.reduce FloatOps.maximumf s (constant S_ .f32 0xFF800000#32) reducesTo_S8x4x2048x2048_S8x4x2048_d3 h_S_
/-- The exponentials. -/
def expo (s : FVec Ideal S8x4x2048x2048 .f32) : FVec Ideal S8x4x2048x2048 .f32 := select keep (Host.exp (subf s (broadcastInDim S8x4x2048x2048 ![0, 1, 2, 3] bcast_S8x4x2048x1_S8x4x2048x2048_0_1_2_3 (broadcastInDim S8x4x2048x1 ![0, 1, 2] bcast_S8x4x2048_S8x4x2048x1_0_1_2 (top s))))) (broadcastInDim S8x4x2048x2048 ![] bcast_S_S8x4x2048x2048 (id (constant S_ .f32 0x00000000#32)))
/-- A query's sum. -/
def total (e : FVec Ideal S8x4x2048x2048 .f32) : FVec Ideal S8x4x2048 .f32 := Host.reduceAdd e (constant S_ .f32 0x00000000#32) reducesTo_S8x4x2048x2048_S8x4x2048_d3 h_S_
/-- The softmax. -/
def soft (e : FVec Ideal S8x4x2048x2048 .f32) : FVec Ideal S8x4x2048x2048 .f32 := Host.divf e (broadcastInDim S8x4x2048x2048 ![0, 1, 2, 3] bcast_S8x4x2048x1_S8x4x2048x2048_0_1_2_3 (maximumf (broadcastInDim S8x4x2048x1 ![0, 1, 2] bcast_S8x4x2048_S8x4x2048x1_0_1_2 (total e)) (broadcastInDim S8x4x2048x1 ![] bcast_S_S8x4x2048x1 (constant S_ .f32 0x0DA24260#32))))
/-- The second softmax's weight. -/
def lamT (l1 l2 l3 l4 : FVec Ideal S64 .f32) : FVec Ideal S_ .f32 := addf (subf (Host.exp (Host.reduceAdd (mulf l1 l2) (constant S_ .f32 0x00000000#32) reducesTo_S64_S_d0 h_S_)) (Host.exp (Host.reduceAdd (mulf l3 l4) (constant S_ .f32 0x00000000#32) reducesTo_S64_S_d0 h_S_))) (constant S_ .f32 0x3E4CCCCD#32)
/-- The difference of the two softmaxes, against the values. -/
def mix (a b : FVec Ideal S8x4x2048x2048 .f32) (w : FVec Ideal S_ .f32) (v : FVec Ideal S8x2048x512 .f32) : FVec Ideal S8x4x2048x128 .f32 :=
  Host.dotGeneral dot_S8x4x2048x2048_S8x4x2048x128_S8x4x2048x128_3_2_2_3_01_01 none (subf a (mulf (broadcastInDim S8x4x2048x2048 ![] bcast_S_S8x4x2048x2048 w) b)) (transpose S8x4x2048x128 [0, 2, 1, 3] (shapeCast _ v shapeCasts_S8x2048x512_S8x2048x4x128) transposes_S8x2048x4x128_S8x4x2048x128_0_2_1_3)
/-- The normalised result. -/
def fin (o : FVec Ideal S8x4x2048x128 .f32) (g : FVec Ideal S128 .f32) : FVec Ideal S16384x512 .bf16 :=
  truncf .bf16 (shapeCast _ (transpose S8x2048x4x128 [0, 2, 1, 3] (mulf (mulf (mulf o (broadcastInDim S8x4x2048x128 ![0, 1, 2, 3] bcast_S8x4x2048x1_S8x4x2048x128_0_1_2_3 (Host.rsqrt (addf (Host.divf (broadcastInDim S8x4x2048x1 ![0, 1, 2] bcast_S8x4x2048_S8x4x2048x1_0_1_2 (Host.reduceAdd (mulf o o) (constant S_ .f32 0x00000000#32) reducesTo_S8x4x2048x128_S8x4x2048_d3 h_S_)) (broadcastInDim S8x4x2048x1 ![] bcast_S_S8x4x2048x1 (constant S_ .f32 0x43000000#32))) (broadcastInDim S8x4x2048x1 ![] bcast_S_S8x4x2048x1 (constant S_ .f32 0x3727C5AC#32)))))) (broadcastInDim S8x4x2048x128 ![0, 1, 2, 3] bcast_S1x1x1x128_S8x4x2048x128_0_1_2_3 (broadcastInDim S1x1x1x128 ![3] bcast_S128_S1x1x1x128_3 g))) (broadcastInDim S8x4x2048x128 ![] bcast_S_S8x4x2048x128 (constant S_ .f32 0x3F4CCCCD#32))) transposes_S8x4x2048x128_S8x2048x4x128_0_2_1_3) shapeCasts_S8x2048x4x128_S16384x512) bitsLt_bf16_f32

theorem stages (m : (ℓ : Loc nD τ sig) → Buf (Elt Ideal) ℓ) (c : Dev nD) : Value.res_main_v105 m c
    = fin (mix (soft (expo (scored (dotA (m ((c.tc : Thread nD τ).loc main_arg0)) (m ((c.tc : Thread nD τ).loc main_arg1))))))
        (soft (expo (scored (dotB (m ((c.tc : Thread nD τ).loc main_arg0)) (m ((c.tc : Thread nD τ).loc main_arg1))))))
        (lamT (m ((c.tc : Thread nD τ).loc main_arg3)) (m ((c.tc : Thread nD τ).loc main_arg4)) (m ((c.tc : Thread nD τ).loc main_arg5)) (m ((c.tc : Thread nD τ).loc main_arg6)))
        (m ((c.tc : Thread nD τ).loc main_arg2))) (m ((c.tc : Thread nD τ).loc main_arg7)) := by
  unfold Value.res_main_v105 fin mix lamT soft total expo top scored bias dotA dotB keep
  rfl

/-! ## Each stage at an index -/

theorem fin_at (o : FVec Ideal S8x4x2048x128 .f32) (g : FVec Ideal S128 .f32) (r : Fin 16384) (l : Fin 512) : fin o g (ix2 r l)
    = normed (fun x => o (ix4 ⟨r.val / 2048, by omega⟩ ⟨l.val / 128, by omega⟩ ⟨r.val % 2048, by omega⟩ x)) g ⟨l.val % 128, by omega⟩ := by
  unfold fin normed
  pointwise
theorem mix_at (a b : FVec Ideal S8x4x2048x2048 .f32) (w : FVec Ideal S_ .f32) (v : FVec Ideal S8x2048x512 .f32) (i : Fin 8) (h : Fin 4) (t : Fin 2048) (l : Fin 128) :
    mix a b w v (ix4 i h t l) = ∑ x, (a (ix4 i h t x) - w ix0 * b (ix4 i h t x)) * v (ix3 i x ⟨h.val * 128 + l.val, by omega⟩) := by
  unfold mix
  pointwise
theorem lamT_at (l1 l2 l3 l4 : FVec Ideal S64 .f32) : lamT l1 l2 l3 l4 ix0 = weight l1 l2 l3 l4 := by
  unfold lamT weight
  pointwise
theorem total_at (e : FVec Ideal S8x4x2048x2048 .f32) (i : Fin 8) (h : Fin 4) (t : Fin 2048) : total e (ix3 i h t) = ∑ x, e (ix4 i h t x) := by
  unfold total
  pointwise
theorem top_at (e : FVec Ideal S8x4x2048x2048 .f32) (i : Fin 8) (h : Fin 4) (t : Fin 2048) :
    top e (ix3 i h t) = Finset.univ.fold max ⊥ (fun x => e (ix4 i h t x)) := by
  unfold top
  pointwise
  rw [neg_inf]
theorem soft_at (e : FVec Ideal S8x4x2048x2048 .f32) (i : Fin 8) (h : Fin 4) (t j : Fin 2048) :
    soft e (ix4 i h t j) = Ideal.div (e (ix4 i h t j)) (max (total e (ix3 i h t)) (tiny : EReal)) := by
  unfold soft
  pointwise
  rw [tiny_eq]

theorem sitofp_sub (t j : Fin 2048) :
    FloatOps.sitofp (F := Ideal) .f32 (IntOp.subi (BitVec.ofNat 32 t.val) (BitVec.ofNat 32 j.val)) = (((t.val : ℝ) - (j.val : ℝ) : ℝ) : EReal) := by
  show (((BitVec.ofNat 32 t.val - BitVec.ofNat 32 j.val).toInt : ℝ) : EReal) = _
  have : (BitVec.ofNat 32 t.val - BitVec.ofNat 32 j.val).toInt = (t.val : ℤ) - j.val := by
    rw [BitVec.toInt_sub, BitVec.toInt_eq_toNat_of_lt (by rw [BitVec.toNat_ofNat]; omega), BitVec.toInt_eq_toNat_of_lt (by rw [BitVec.toNat_ofNat]; omega),
      BitVec.toNat_ofNat, BitVec.toNat_ofNat, Int.bmod_eq_of_le] <;> omega
  rw [this]
  push_cast
  rfl

theorem keep_select {α : Type} (i : Fin 8) (h : Fin 4) (t j : Fin 2048) (x y : α) :
    Scalar.select (keep (ix4 i h t j)) x y = if j.val ≤ t.val then x else y := by
  have : keep (ix4 i h t j) = BitVec.ofBool (decide (0 ≤ FloatOps.sitofp (F := Ideal) .f32 (IntOp.subi (BitVec.ofNat 32 t.val) (BitVec.ofNat 32 j.val)))) := by
    unfold keep
    pointwise
  rw [this, sitofp_sub]
  have e : (0 : EReal) ≤ (((t.val : ℝ) - (j.val : ℝ) : ℝ) : EReal) ↔ j.val ≤ t.val := by
    rw [← EReal.coe_zero, EReal.coe_le_coe_iff, sub_nonneg, Nat.cast_le]
  by_cases hj : j.val ≤ t.val
  · rw [if_pos hj, decide_eq_true (e.mpr hj)]
    rfl
  · rw [if_neg hj, decide_eq_false (fun h => hj (e.mp h))]
    rfl
theorem scored_at (e : FVec Ideal S8x4x2048x2048 .f32) (i : Fin 8) (h : Fin 4) (t j : Fin 2048) :
    scored e (ix4 i h t j) = if j.val ≤ t.val then e (ix4 i h t j) + bias (ix4 i h t j) else ⊥ := by
  unfold scored
  pointwise
  rw [keep_select]
  show (if _ then _ else Ideal.ofBits .f32 0xFF800000#32) = _
  rw [neg_inf]
theorem expo_at (e : FVec Ideal S8x4x2048x2048 .f32) (i : Fin 8) (h : Fin 4) (t j : Fin 2048) :
    expo e (ix4 i h t j) = if j.val ≤ t.val then Ideal.exp (e (ix4 i h t j) - top e (ix3 i h t)) else 0 := by
  unfold expo
  pointwise
  rw [keep_select]
  show (if _ then _ else Ideal.ofBits .f32 0x00000000#32) = _
  simp [Ideal.ofBits, Ideal.ieee]
theorem bias_at (i : Fin 8) (h : Fin 4) (t j : Fin 2048) :
    bias (ix4 i h t j) = ((slope h.val * j.val + -(slope h.val * t.val) : ℝ) : EReal) := by
  unfold bias
  pointwise
  unfold Cert.Hand.slope
  rw [sitofp_sub, sitofp_nat h.val (by omega), ln2_eq, neg_eight, four, ← EReal.coe_one, ← EReal.coe_add, ← EReal.coe_mul,
    Ideal.div_coe (by norm_num), ← EReal.coe_mul, ← EReal.coe_mul, Ideal.exp_coe, ← EReal.coe_neg, ← EReal.coe_mul]
  congr 1
  rw [show ln2 * (-8 * (1 + (h.val : ℝ)) * (1 / 4)) = ln2 * (-2 * (h.val + 1)) by ring]
  ring
theorem dotA_at (q k : FVec Ideal S8x2048x512 .f32) (i : Fin 8) (h : Fin 4) (t j : Fin 2048) : dotA q k (ix4 i h t j) = dotq q k i h.val 0 t j := by
  unfold dotA dotq
  pointwise
  refine Finset.sum_congr rfl fun d _ => ?_
  rw [mul_comm, ent_eq q i i t t _ rfl rfl rfl, ent_eq k i i j j _ rfl rfl rfl]
theorem dotB_at (q k : FVec Ideal S8x2048x512 .f32) (i : Fin 8) (h : Fin 4) (t j : Fin 2048) : dotB q k (ix4 i h t j) = dotq q k i h.val 1 t j := by
  unfold dotB dotq
  pointwise
  refine Finset.sum_congr rfl fun d _ => ?_
  rw [mul_comm, ent_eq q i i t t _ rfl rfl rfl, ent_eq k i i j j _ rfl rfl rfl]

/-! ## A softmax -/

/-- The score as the reference has it: the slope times the distance is taken off. -/
def refScore (q k : FVec Ideal S8x2048x512 .f32) (b : Fin 8) (h w : ℕ) (t : Fin 2048) (j : ℕ) : EReal :=
  posScore q k b h w t j + ((-(slope h * t.val) : ℝ) : EReal)

/-- Scores, maximum, exponentials, sum and quotient of one query. -/
theorem softmax_at (q k : FVec Ideal S8x2048x512 .f32) (d : FVec Ideal S8x4x2048x2048 .f32) (i : Fin 8) (h : Fin 4) (w : ℕ) (t : Fin 2048)
    (hd : ∀ j, d (ix4 i h t j) = dotq q k i h.val w t j) (j : Fin 2048) :
    soft (expo (scored d)) (ix4 i h t j) = ((wt (refScore q k i h.val w t j.val) (mx (refScore q k i h.val w t) 2048)
      / max (den (refScore q k i h.val w t) 2048) tiny : ℝ) : EReal) := by
  have hs : ∀ j : Fin 2048, scored d (ix4 i h t j) = refScore q k i h.val w t j.val := by
    intro j
    rw [scored_at, refScore, posScore]
    by_cases hj : j.val ≤ t.val
    · rw [if_pos hj, dif_pos hj, hd, bias_at, EReal.coe_add, add_assoc]
    · rw [if_neg hj, dif_neg hj, EReal.bot_add]
  have hm : top (scored d) (ix3 i h t) = mx (refScore q k i h.val w t) 2048 := by
    have := mx_add (refScore q k i h.val w t) 0 2048 (f := fun x : Fin 2048 => scored d (ix4 i h t x)) (fun x => by rw [hs, zero_add])
    rw [top_at]
    rw [mx_zero, zero_add, max_eq_right bot_le] at this
    exact this
  have he : ∀ j : Fin 2048, expo (scored d) (ix4 i h t j) = (wt (refScore q k i h.val w t j.val) (mx (refScore q k i h.val w t) 2048) : EReal) := by
    intro j
    rw [expo_at, hs, hm]
    by_cases hj : j.val ≤ t.val
    · rw [if_pos hj, exp_sub (le_mx j.isLt)]
    · rw [if_neg hj, refScore, posScore, dif_neg hj, EReal.bot_add, wt_bot]
      rfl
  have ht : total (expo (scored d)) (ix3 i h t) = (den (refScore q k i h.val w t) 2048 : EReal) := by
    rw [total_at, den, Finset.sum_range, ← coe_sum]
    exact Finset.sum_congr rfl fun j _ => he j
  rw [soft_at, he, ht, div_clamp _ _ _ tiny_pos]

theorem attn_eq (q k v : FVec Ideal S8x2048x512 .f32) (b : Fin 8) (h w : ℕ) (t : Fin 2048) (l : Fin 128) :
    attn q k v b h w t l = ∑ j : Fin 2048, wt (refScore q k b h w t j.val) (mx (refScore q k b h w t) 2048)
      / max (den (refScore q k b h w t) 2048) tiny * value v b h l j.val := by
  have hn := num_shift (posScore q k b h w t) (value v b h l) (-(slope h * t.val)) (n := 2048) (by omega)
  have hd := den_shift (posScore q k b h w t) (-(slope h * t.val)) (n := 2048) (by omega)
  rw [attn, ← hn, ← hd]
  show num (refScore q k b h w t) _ _ / max (den (refScore q k b h w t) _) _ = _
  rw [num, Finset.sum_range, Finset.sum_div]
  exact Finset.sum_congr rfl fun j _ => by ring

/-- The difference against the values is the difference of the two means. -/
theorem mix_eq (q k v : FVec Ideal S8x2048x512 .f32) (w : FVec Ideal S_ .f32) (hw : w ix0 = ((w ix0).toReal : EReal)) (hv : ∀ y, v y = ((v y).toReal : EReal))
    (i : Fin 8) (h : Fin 4) (t : Fin 2048) (l : Fin 128) :
    mix (soft (expo (scored (dotA q k)))) (soft (expo (scored (dotB q k)))) w v (ix4 i h t l)
      = (attn q k v i h.val 0 t l : EReal) - w ix0 * (attn q k v i h.val 1 t l : EReal) := by
  rw [mix_at, attn_eq, attn_eq, hw, ← EReal.coe_mul, ← EReal.coe_sub, Finset.mul_sum, ← Finset.sum_sub_distrib, ← coe_sum]
  refine Finset.sum_congr rfl fun j _ => ?_
  rw [softmax_at q k _ i h 0 t (fun j => dotA_at q k i h t j) j, softmax_at q k _ i h 1 t (fun j => dotB_at q k i h t j) j]
  have e : v (ix3 i j ⟨h.val * 128 + l.val, by omega⟩) = (value v i h.val l j.val : EReal) := by
    rw [value, dif_pos j.isLt, ent, dif_pos (by omega)]
    exact hv _
  rw [e, ← EReal.coe_mul, ← EReal.coe_sub, ← EReal.coe_mul]
  congr 1
  ring

/-- The reference's result, at every index. -/
theorem result (m : (ℓ : Loc nD τ sig) → Buf (Elt Ideal) ℓ) (c : Dev nD)
    (q k v : FVec Ideal S8x2048x512 .f32) (l1 l2 l3 l4 : FVec Ideal S64 .f32) (g : FVec Ideal S128 .f32)
    (h0 : m ((c.tc : Thread nD τ).loc main_arg0) = q) (h1 : m ((c.tc : Thread nD τ).loc main_arg1) = k) (h2 : m ((c.tc : Thread nD τ).loc main_arg2) = v)
    (h3 : m ((c.tc : Thread nD τ).loc main_arg3) = l1) (h4 : m ((c.tc : Thread nD τ).loc main_arg4) = l2) (h5 : m ((c.tc : Thread nD τ).loc main_arg5) = l3)
    (h6 : m ((c.tc : Thread nD τ).loc main_arg6) = l4) (h7 : m ((c.tc : Thread nD τ).loc main_arg7) = g)
    (hw : weight l1 l2 l3 l4 = ((weight l1 l2 l3 l4).toReal : EReal)) (hv : ∀ y, v y = ((v y).toReal : EReal)) (r : Fin 16384) (l : Fin 512) :
    (Value.res_main_v105 m c : FVec Ideal S16384x512 .bf16) (ix2 r l) = spec q k v (weight l1 l2 l3 l4) g ⟨r.val / 2048, by omega⟩ ⟨r.val % 2048, by omega⟩ (l.val / 128) ⟨l.val % 128, by omega⟩ := by
  rw [stages, h0, h1, h2, h3, h4, h5, h6, h7, fin_at, spec]
  refine congrArg (fun u => normed u g _) (funext fun x => ?_)
  rw [← lamT_at] at hw ⊢
  exact mix_eq q k v _ hw hv _ _ _ _

end Cert.Stages

end
-- ==== Proof.Finite.lean ====
module

public import proofs.«01_k».proof.Pre_finite
public import Idealize.ShloMosaic.Lib.Pointwise
public import Idealize.ShloMosaic.Lib.ReduceAll

@[expose] public section

set_option maxRecDepth 16384

noncomputable section

/-! What the precondition says: the values and the four vectors of the second softmax's weight are reals. -/

namespace Cert.Pre_finite

open Idealize.ShloMosaic

theorem facts : Facts where
  bcast_S_S8x2048x512 := by decide
  reducesTo_S8x2048x512_S_d0_1_2 := by decide
  h_S_ := by decide
  bcast_S_S64 := by decide
  reducesTo_S64_S_d0 := by decide

theorem inf_eq : Ideal.ofBits .f32 0x7F800000#32 = ⊤ := by
  simp [Ideal.ofBits, Ideal.ieee]

theorem real_of_abs (x : EReal) (h : BitVec.ofBool (decide (max x (-x) < ⊤)) = 1#1) : x = (x.toReal : EReal) := by
  induction x with
  | bot => simp at h
  | top => simp at h
  | coe r => rfl

variable [Facts]
open Facts

theorem all64 (x : FVec Ideal S64 .f32) (j : S_.Idx)
    (h : Host.reduce IntOp.andi (cmpf .olt (Host.absf x) (broadcastInDim S64 ![] bcast_S_S64 (constant S_ .f32 0x7F800000#32))) (constantI S_ 1 1#1) reducesTo_S64_S_d0 h_S_ j = 1#1)
    (i : S64.Idx) : x i = ((x i).toReal : EReal) := by
  have := Host.reduce_andi_all _ _ _ _ j h i
  idx_vars i
  pointwise at this
  rw [inf_eq] at this
  exact real_of_abs _ this

theorem all_values (x : FVec Ideal S8x2048x512 .f32) (j : S_.Idx)
    (h : Host.reduce IntOp.andi (cmpf .olt (Host.absf x) (broadcastInDim S8x2048x512 ![] bcast_S_S8x2048x512 (constant S_ .f32 0x7F800000#32))) (constantI S_ 1 1#1)
      reducesTo_S8x2048x512_S_d0_1_2 h_S_ j = 1#1)
    (i : S8x2048x512.Idx) : x i = ((x i).toReal : EReal) := by
  have := Host.reduce_andi_all _ _ _ _ j h i
  idx_vars i
  pointwise at this
  rw [inf_eq] at this
  exact real_of_abs _ this

theorem and_one {a b : BitVec 1} (h : IntOp.andi a b = 1#1) : a = 1#1 ∧ b = 1#1 := by
  revert a b
  decide

theorem reals (q k v : FVec Ideal S8x2048x512 .f32) (a b c d : FVec Ideal S64 .f32) (g : FVec Ideal S128 .f32)
    (h : fn q k v a b c d g = fun _ => 1#1) :
    (∀ i, v i = ((v i).toReal : EReal)) ∧ (∀ i, a i = ((a i).toReal : EReal)) ∧ (∀ i, b i = ((b i).toReal : EReal))
      ∧ (∀ i, c i = ((c i).toReal : EReal)) ∧ ∀ i, d i = ((d i).toReal : EReal) := by
  have e := congrFun h ix0
  unfold fn fn_part1 at e
  obtain ⟨e, e6⟩ := and_one e
  obtain ⟨e, e5⟩ := and_one e
  obtain ⟨e, e4⟩ := and_one e
  obtain ⟨e2, e3⟩ := and_one e
  exact ⟨all_values v _ e2, all64 a _ e3, all64 b _ e4, all64 c _ e5, all64 d _ e6⟩

end Cert.Pre_finite

end
-- ==== Proof.Algebraic.lean ====
module

public import proofs.«01_k».proof.Defs
public import proofs.«01_k».proof.Proof.Stages
public import proofs.«01_k».proof.Proof.Finite

@[expose] public section

set_option maxRecDepth 16384

noncomputable section

/-! The kernel's result and the reference's are one array. -/

namespace Cert.Hand

open Cert.KernelIdeal Cert.KernelIdeal.Gen Cert.Softmax Idealize.ShloMosaic Idealize.ShloMosaic.TcCoe Idealize.SL.Sem

/-- The weight of the second softmax is real. -/
theorem weight_real (a b c d : FVec Ideal S64 .f32) (ha : ∀ i, a i = ((a i).toReal : EReal)) (hb : ∀ i, b i = ((b i).toReal : EReal))
    (hc : ∀ i, c i = ((c i).toReal : EReal)) (hd : ∀ i, d i = ((d i).toReal : EReal)) : weight a b c d = ((weight a b c d).toReal : EReal) := by
  have s : ∀ x y : FVec Ideal S64 .f32, (∀ i, x i = ((x i).toReal : EReal)) → (∀ i, y i = ((y i).toReal : EReal)) →
      ∃ r : ℝ, ∑ l : Fin 64, x (ix1 l) * y (ix1 l) = (r : EReal) := by
    intro x y hx hy
    refine ⟨∑ l : Fin 64, (x (ix1 l)).toReal * (y (ix1 l)).toReal, ?_⟩
    rw [← coe_sum]
    exact Finset.sum_congr rfl fun l _ => by rw [EReal.coe_mul, ← hx, ← hy]
  have z : ∃ r : ℝ, Ideal.ofBits .f32 0x3E4CCCCD#32 = (r : EReal) := by
    refine ⟨(Ideal.ofBits .f32 0x3E4CCCCD#32).toReal, ?_⟩
    simp [Ideal.ofBits, Ideal.ieee, -EReal.coe_mul, EReal.toReal_coe]
  obtain ⟨x, hx⟩ := s a b ha hb
  obtain ⟨y, hy⟩ := s c d hc hd
  obtain ⟨z, hz⟩ := z
  unfold weight
  rw [hx, hy, hz, Ideal.exp_coe, Ideal.exp_coe, ← EReal.coe_sub, ← EReal.coe_add, EReal.toReal_coe]

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  letI : Cert.Pre_finite.Facts := Cert.Pre_finite.facts
  intro m ρ m' ρ' hpre hagree
  refine ⟨_, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7⟩ := hagree c
  obtain ⟨hv, ha, hb, hc, hd⟩ := Cert.Pre_finite.reals (aq m c) (ak m c) (av m c)
    (m ((c : Thread nD τ).loc main_arg3)) (m ((c : Thread nD τ).loc main_arg4)) (m ((c : Thread nD τ).loc main_arg5)) (m ((c : Thread nD τ).loc main_arg6)) (ag m c) (hpre c)
  refine Eq.trans ?_ (result m c hv).symm
  funext y
  idx_vars y
  exact Cert.Stages.result m' c _ _ _ _ _ _ _ _ h0 h1 h2 h3 h4 h5 h6 h7 (weight_real _ _ _ _ ha hb hc hd) hv y0 y1

end Cert.Hand

end
-- ==== Proof.Norm.lean ====
module

public import Idealize.ShloMosaic.Lib.Pointwise

@[expose] public section

noncomputable section

/-! The layer norm of a row, and what a residual's row is. -/

namespace Cert.Norm

open Idealize.ShloMosaic

/-- A row's mean. -/
def mean (u : Fin 1024 → EReal) : EReal := Ideal.div (∑ l : Fin 1024, u l) (Ideal.ofBits .f32 0x44800000#32)
/-- A row at a lane: less its mean, over its deviation, with gain and offset. -/
def normRow (u g b : Fin 1024 → EReal) (e : Fin 1024) : EReal :=
  (u e - mean u) * Ideal.rsqrt (mean (fun l => (u l - mean u) * (u l - mean u)) + Ideal.ofBits .f32 0x3727C5AC#32) * g e + b e
/-- The residual's row: the carried row scaled, and what is added to it. -/
def residual (h x : Fin 1024 → EReal) (l : Fin 1024) : EReal := Ideal.ofBits .f32 0x3F9837F0#32 * h l + x l

end Cert.Norm

end
-- ==== Proof.Final.lean ====
module

public import proofs.«01_k».proof.Proof.Norm
public import proofs.«01_k».proof.Proof.Gen.Kernel2Ideal.Frame
public import Idealize.ShloMosaic.Lib.Pipeline.ValueKit
public import Idealize.ShloMosaic.Lib.StableHlo.ReadAt

@[expose] public section

set_option maxRecDepth 16384

noncomputable section

/-! The last call's result array: the layer norm of the residual and the gated embedding, at an index. -/

namespace Cert.Final

open Cert.Kernel2Ideal Cert.Kernel2Ideal.Gen Cert.Norm Idealize.ShloMosaic Idealize.ShloMosaic.TcCoe Idealize.SL.Sem

/-- The result of a token at a lane, from the normalised row, the embedding's row and the two weights. -/
def gated (h : Fin 1024 → EReal) (p : Fin 256 → EReal) (wp : Fin 256 → Fin 1024 → EReal) (wg : Fin 1024 → Fin 1024 → EReal) (e : Fin 1024) : EReal :=
  h e + Ideal.logistic (∑ l, h l * wg l e) * ∑ l, p l * wp l e

/-- The result at a batch, a token and a lane. -/
def spec (ffn h : FVec Ideal S8x2048x1024 .f32) (p : FVec Ideal S8x2048x256 .f32) (wp : FVec Ideal S256x1024 .f32) (wg : FVec Ideal S1024x1024 .f32)
    (g b : FVec Ideal S1024 .f32) (i : Fin 8) (t : Fin 2048) (e : Fin 1024) : EReal :=
  gated (normRow (residual (fun l => h (ix3 i t l)) (fun l => ffn (ix3 i t l))) (fun l => g (ix1 l)) (fun l => b (ix1 l)))
    (fun l => p (ix3 i t l)) (fun l e => wp (ix2 l e)) (fun l e => wg (ix2 l e)) e

/-- The normalised row of a block's token. -/
theorem norm_at (x0 : Vec Ideal S1024x512 .f32) (x1 : Vec Ideal S512x1024 .f32) (x5 x6 : Vec Ideal S1x1024 .f32) (r : Fin 512) (e : Fin 1024) :
    k0_pay2 x0 x1 x5 x6 (ix2 r e)
      = normRow (residual (fun l => x1 (ix2 r l)) (fun l => x0 (ix2 l r))) (fun l => x5 (ix2 0 l)) (fun l => x6 (ix2 0 l)) e := by
  unfold k0_pay2
  pointwise
  rfl

/-- What the body stores, at a token and a lane. -/
theorem body_at (x0 : Vec Ideal S1024x512 .f32) (x1 : Vec Ideal S512x1024 .f32) (x2 : Vec Ideal S512x256 .f32) (x3 : Vec Ideal S1024x1024 .bf16)
    (x4 : Vec Ideal S256x1024 .bf16) (x5 x6 : Vec Ideal S1x1024 .f32) (r : Fin 512) (e : Fin 1024) :
    out0_7 x0 x1 x2 x3 x4 x5 x6 (ix2 r e)
      = gated (normRow (residual (fun l => x1 (ix2 r l)) (fun l => x0 (ix2 l r))) (fun l => x5 (ix2 0 l)) (fun l => x6 (ix2 0 l)))
          (fun l => x2 (ix2 r l)) (fun l e => x4 (ix2 l e)) (fun l e => x3 (ix2 l e)) e := by
  unfold out0_7
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x5 (by decide), View.ld_unit_lit _ x6 (by decide)]
  unfold k0_pay1 k0_pay3 k0_pay4
  pointwise
  simp only [norm_at]
  rfl

/-! ## The arrays the host prepares -/

variable (m : (ℓ : Loc nD τ sig) → Buf (Elt Ideal) ℓ)

/-- The arguments, at their shapes. -/
abbrev a0 (c : Dev nD) : FVec Ideal S8x2048x1024 .f32 := m ((c : Thread nD τ).loc main_arg0)
abbrev a1 (c : Dev nD) : FVec Ideal S8x2048x1024 .f32 := m ((c : Thread nD τ).loc main_arg1)
abbrev a2 (c : Dev nD) : FVec Ideal S8x2048x256 .f32 := m ((c : Thread nD τ).loc main_arg2)
abbrev a3 (c : Dev nD) : FVec Ideal S256x1024 .f32 := m ((c : Thread nD τ).loc main_arg3)
abbrev a4 (c : Dev nD) : FVec Ideal S1024x1024 .f32 := m ((c : Thread nD τ).loc main_arg4)
abbrev a5 (c : Dev nD) : FVec Ideal S1024 .f32 := m ((c : Thread nD τ).loc main_arg5)
abbrev a6 (c : Dev nD) : FVec Ideal S1024 .f32 := m ((c : Thread nD τ).loc main_arg6)

/-- A row of all tokens: its batch and its token. -/
abbrev bat (r : ℕ) (h : r < 16384) : Fin 8 := ⟨r / 2048, by omega⟩
abbrev tok (r : ℕ) : Fin 2048 := ⟨r % 2048, by omega⟩

theorem v1_at (c : Dev nD) (l : Fin 1024) (r : Fin 16384) : (V m c main_v1 : FVec Ideal S1024x16384 .f32) (ix2 l r) = a0 m c (ix3 (bat r r.isLt) (tok r) l) := by
  unfold V
  after_reads_at
theorem v2_at (c : Dev nD) (r : Fin 16384) (l : Fin 1024) : (V m c main_v2 : FVec Ideal S16384x1024 .f32) (ix2 r l) = a1 m c (ix3 (bat r r.isLt) (tok r) l) := by
  unfold V
  after_reads_at
theorem v3_at (c : Dev nD) (r : Fin 16384) (l : Fin 256) : (V m c main_v3 : FVec Ideal S16384x256 .f32) (ix2 r l) = a2 m c (ix3 (bat r r.isLt) (tok r) l) := by
  unfold V
  after_reads_at
theorem v4_at (c : Dev nD) (l e : Fin 1024) : (V m c main_v4 : FVec Ideal S1024x1024 .bf16) (ix2 l e) = a4 m c (ix2 l e) := by
  unfold V
  after_reads_at
theorem v5_at (c : Dev nD) (l : Fin 256) (e : Fin 1024) : (V m c main_v5 : FVec Ideal S256x1024 .bf16) (ix2 l e) = a3 m c (ix2 l e) := by
  unfold V
  after_reads_at
theorem v6_at (c : Dev nD) (l : Fin 1024) : (V m c main_v6 : FVec Ideal S1x1024 .f32) (ix2 0 l) = a5 m c (ix1 l) := by
  unfold V
  after_reads_at
theorem v7_at (c : Dev nD) (l : Fin 1024) : (V m c main_v7 : FVec Ideal S1x1024 .f32) (ix2 0 l) = a6 m c (ix1 l) := by
  unfold V
  after_reads_at

/-! ## The blocks of a tile -/

theorem idx : ∀ t : Fin cfg0.N, win0_0.index t = ![0, (grid0.coords t 0).val] ∧ win0_1.index t = ![(grid0.coords t 0).val, 0]
    ∧ win0_2.index t = ![(grid0.coords t 0).val, 0] ∧ win0_3.index t = ![0, 0] ∧ win0_4.index t = ![0, 0]
    ∧ win0_5.index t = ![0, 0] ∧ win0_6.index t = ![0, 0] ∧ win0_7.index t = ![(grid0.coords t 0).val, 0] :=
  (by decide +kernel : ∀ t : Fin grid0.N, _)

/-- A grid point's first row. -/
abbrev gi (t : Fin cfg0.N) : Fin 32 := ⟨(grid0.coords t 0).val, (grid0.coords t 0).isLt⟩

theorem blk0_at (c : Dev nD) (t : Fin cfg0.N) (l : Fin 1024) (r : Fin 512) : (iblk m c 0 t : Vec Ideal S1024x512 .f32) (ix2 l r)
    = a0 m c (ix3 (bat ((gi t).val * 512 + r.val) (by omega)) (tok ((gi t).val * 512 + r.val)) l) := by
  refine Eq.trans ?_ (v1_at m c l ⟨(gi t).val * 512 + r.val, by omega⟩)
  blk_ext [iblk, idx t]
theorem blk1_at (c : Dev nD) (t : Fin cfg0.N) (r : Fin 512) (l : Fin 1024) : (iblk m c 1 t : Vec Ideal S512x1024 .f32) (ix2 r l)
    = a1 m c (ix3 (bat ((gi t).val * 512 + r.val) (by omega)) (tok ((gi t).val * 512 + r.val)) l) := by
  refine Eq.trans ?_ (v2_at m c ⟨(gi t).val * 512 + r.val, by omega⟩ l)
  blk_ext [iblk, idx t]
theorem blk2_at (c : Dev nD) (t : Fin cfg0.N) (r : Fin 512) (l : Fin 256) : (iblk m c 2 t : Vec Ideal S512x256 .f32) (ix2 r l)
    = a2 m c (ix3 (bat ((gi t).val * 512 + r.val) (by omega)) (tok ((gi t).val * 512 + r.val)) l) := by
  refine Eq.trans ?_ (v3_at m c ⟨(gi t).val * 512 + r.val, by omega⟩ l)
  blk_ext [iblk, idx t]
theorem blk3_at (c : Dev nD) (t : Fin cfg0.N) (l e : Fin 1024) : (iblk m c 3 t : Vec Ideal S1024x1024 .bf16) (ix2 l e)
    = a4 m c (ix2 l e) := by
  refine Eq.trans ?_ (v4_at m c l e)
  blk_ext [iblk, idx t]
theorem blk4_at (c : Dev nD) (t : Fin cfg0.N) (l : Fin 256) (e : Fin 1024) : (iblk m c 4 t : Vec Ideal S256x1024 .bf16) (ix2 l e)
    = a3 m c (ix2 l e) := by
  refine Eq.trans ?_ (v5_at m c l e)
  blk_ext [iblk, idx t]
theorem blk5_at (c : Dev nD) (t : Fin cfg0.N) (l : Fin 1024) : (iblk m c 5 t : Vec Ideal S1x1024 .f32) (ix2 0 l)
    = a5 m c (ix1 l) := by
  refine Eq.trans ?_ (v6_at m c l)
  blk_ext [iblk, idx t]
theorem blk6_at (c : Dev nD) (t : Fin cfg0.N) (l : Fin 1024) : (iblk m c 6 t : Vec Ideal S1x1024 .f32) (ix2 0 l)
    = a6 m c (ix1 l) := by
  refine Eq.trans ?_ (v7_at m c l)
  blk_ext [iblk, idx t]

/-- The function at a row of all tokens. -/
abbrev at_row (c : Dev nD) (r : Fin 16384) (e : Fin 1024) : EReal :=
  spec (a0 m c) (a1 m c) (a2 m c) (a3 m c) (a4 m c) (a5 m c) (a6 m c) (bat r r.isLt) (tok r) e

/-- What a tile leaves at a row and a lane. -/
theorem tile_at (c : Dev nD) (t : Fin cfg0.N) (r : Fin 512) (e : Fin 1024) :
    ((dats m 0 c).after 7 t : Vec Ideal S512x1024 .f32) (ix2 r e) = at_row m c ⟨(gi t).val * 512 + r.val, by omega⟩ e := by
  rw [after0_7, body_at]
  unfold at_row spec
  simp only [blk0_at, blk1_at, blk2_at, blk3_at, blk4_at, blk5_at, blk6_at]

/-- The array the call leaves. -/
theorem array (c : Dev nD) : (dats m 0 c).arrAt 7 cfg0.N = (fun y : S16384x1024.Idx => at_row m c ⟨(y 0).val, (y 0).isLt⟩ ⟨(y 1).val, (y 1).isLt⟩ : S16384x1024.Idx → EReal) := by
  refine (dats m 0 c).arrAt_eq_of_covers 7 _ (by decide +kernel) fun t hf y => ?_
  blk_simp
  idx_vars y
  have e := (idx t).2.2.2.2.2.2.2
  have e0 : win0_7.index t 0 = (gi t).val := by rw [e]; rfl
  have e1 : win0_7.index t 1 = 0 := by rw [e]; rfl
  refine (tile_at m c t y0 y1).trans ?_
  refine congrArg₂ (at_row m c) (Fin.ext ?_) (Fin.ext ?_)
  · show (gi t).val * 512 + y0.val = win0_7.index t 0 * 512 + y0.val
    rw [e0]
  · show y1.val = win0_7.index t 1 * 1024 + y1.val
    rw [e1]; omega

/-! ## The result, after the host's last operation -/

/-- The kernel's result array. -/
def out (c : Dev nD) : FVec Ideal S8x2048x1024 .f32 := fun y =>
  spec (a0 m c) (a1 m c) (a2 m c) (a3 m c) (a4 m c) (a5 m c) (a6 m c) (y 0) (y 1) (y 2)

theorem tail (c : Dev nD) : Pipeline.afterTail₀ cfgs (dats m) 0 (V0 m) [hostOps1] c main_v9 = out m c := by
  have h : Pipeline.withArrays spec0 c (V0 m c) (fun w => (dats m 0 c).arrAt w cfg0.N) (Proc.devRef .tc main_v8)
      = (dats m 0 c).arrAt 7 cfg0.N := Pipeline.withArrays_arr spec0 (by decide) c (V0 m c) _ 7
  unfold Pipeline.afterTail₀
  show StableHlo.after hostOps1 _ _ = _
  funext y
  idx_vars y
  after_reads_at
  refine (congrFun h _).trans ((congrFun (array m c) _).trans ?_)
  unfold out at_row
  refine congrArg₂ (fun a b => spec (a0 m c) (a1 m c) (a2 m c) (a3 m c) (a4 m c) (a5 m c) (a6 m c) a b y2) (Fin.ext ?_) (Fin.ext ?_)
  · show (y0.val * 2048 + y1.val) / 2048 = y0.val
    omega
  · show (y0.val * 2048 + y1.val) % 2048 = y1.val
    omega

/-- The run: the result array, and the arguments unchanged. -/
theorem run (ρ : Dev nD → PrngReg) : θ_run defs (onTc (τ := τ) (main (F := Ideal))) ⟨m, fun _ => 0, ρ⟩ (fun r => ∀ c : Dev nD,
    r.2.mem ((c.tc : Thread nD τ).loc main_v9) = out m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun _ h c => ⟨((h c).2 main_v9 (Pipeline.mem_restRefs_of main_v9 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Final

end
-- ==== Proof.FinalRef.lean ====
module

public import proofs.«01_k».proof.Proof.Final
public import proofs.«01_k».proof.Proof.Gen.Reference2Ideal.Run
public import proofs.«01_k».proof.Defs

@[expose] public section

set_option maxRecDepth 16384

noncomputable section

/-! The last call's reference, at an index, and the claim. -/

namespace Cert.FinalRef

open Cert.Reference2Ideal Cert.Reference2Ideal.Gen Cert.Norm Idealize.ShloMosaic Idealize.ShloMosaic.TcCoe Idealize.SL.Sem Idealize.ShloMosaic.StableHlo

/-- The reference's result at an index. -/
theorem result_at (m : (ℓ : Loc nD τ sig) → Buf (Elt Ideal) ℓ) (c : Dev nD) (i : Fin 8) (t : Fin 2048) (e : Fin 1024) : (Value.res_main_v36 m c : FVec Ideal S8x2048x1024 .f32) (ix3 i t e)
    = Cert.Final.spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i t e := by
  unfold Value.res_main_v36
  generalize m ((c.tc : Thread nD τ).loc main_arg0) = b0
  generalize m ((c.tc : Thread nD τ).loc main_arg1) = b1
  generalize m ((c.tc : Thread nD τ).loc main_arg2) = b2
  generalize m ((c.tc : Thread nD τ).loc main_arg3) = b3
  generalize m ((c.tc : Thread nD τ).loc main_arg4) = b4
  generalize m ((c.tc : Thread nD τ).loc main_arg5) = b5
  generalize m ((c.tc : Thread nD τ).loc main_arg6) = b6
  clean_types
  pointwise
  rfl

theorem algebraic : Cert.algebraic_Kernel2Ideal_Reference2Ideal (hKernel2Ideal := Cert.Kernel2Ideal.Gen.facts)
    (hReference2Ideal := Cert.Reference2Ideal.Gen.facts) := by
  intro m ρ m' ρ' hpre hagree
  refine ⟨_, Cert.Final.run m ρ, ?_⟩
  refine (θ_run Cert.Reference2Ideal.defs _ _).mono (fun _ h c => ⟨(h c).1.trans ?_, (h c).2⟩) (Cert.Reference2Ideal.Value.run (F := Ideal) m' ρ')
  obtain ⟨h0, h1, h2, h3, h4, h5, h6⟩ := hagree c
  funext y
  idx_vars y
  refine (result_at m' c y0 y1 y2).trans ?_
  rw [h0, h1, h2, h3, h4, h5, h6]
  rfl

end Cert.FinalRef

end
-- ==== Proof.Merge.lean ====
module

public import proofs.«01_k».proof.Proof.Norm
public import proofs.«01_k».proof.Proof.Gen.Kernel3Ideal.Frame
public import Idealize.ShloMosaic.Lib.Pipeline.ValueKit
public import Idealize.ShloMosaic.Lib.StableHlo.ReadAt

@[expose] public section

set_option maxRecDepth 16384

noncomputable section

/-! The merging call's two result arrays: the layer norm of the residual and the two gated branches, at an index. -/

namespace Cert.Merge

open Cert.Kernel3Ideal Cert.Kernel3Ideal.Gen Cert.Norm Idealize.ShloMosaic Idealize.ShloMosaic.TcCoe Idealize.SL.Sem

/-- A token's merged branches at a lane, from the branches' rows, the gates' and the two weights. -/
def merged (on od : Fin 512 → EReal) (ga gb : Fin 1024 → EReal) (wn wd : Fin 512 → Fin 1024 → EReal) (e : Fin 1024) : EReal :=
  ga e * (∑ l, on l * wn l e) + gb e * ∑ l, od l * wd l e
/-- A token's normalised row. -/
def row (on od : Fin 512 → EReal) (ga gb x : Fin 1024 → EReal) (wn wd : Fin 512 → Fin 1024 → EReal) (wo : Fin 1024 → Fin 1024 → EReal)
    (g b : Fin 1024 → EReal) (e : Fin 1024) : EReal :=
  normRow (residual x (fun l => ∑ k, merged on od ga gb wn wd k * wo k l)) g b e

/-- The result at a batch, a token and a lane. -/
def spec (on od : FVec Ideal S8x2048x512 .f32) (ga gb x : FVec Ideal S8x2048x1024 .f32) (wn wd : FVec Ideal S512x1024 .f32) (wo : FVec Ideal S1024x1024 .f32)
    (g b : FVec Ideal S1024 .f32) (i : Fin 8) (t : Fin 2048) (e : Fin 1024) : EReal :=
  row (fun l => on (ix3 i t l)) (fun l => od (ix3 i t l)) (fun l => Ideal.logistic (ga (ix3 i t l))) (fun l => Ideal.logistic (gb (ix3 i t l)))
    (fun l => x (ix3 i t l)) (fun l e => wn (ix2 l e)) (fun l e => wd (ix2 l e)) (fun l e => wo (ix2 l e)) (fun l => g (ix1 l)) (fun l => b (ix1 l)) e

/-- A block's row, of the arrays at its point. -/
abbrev rowOf (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S512x1024 .bf16) (x6 : Vec Ideal S512x1024 .bf16) (x7 : Vec Ideal S1024x1024 .bf16) (x8 : Vec Ideal S1x1024 .f32) (x9 : Vec Ideal S1x1024 .f32) (r : Fin 512) (e : Fin 1024) : EReal :=
  row (fun l => x0 (ix2 r l)) (fun l => x1 (ix2 r l)) (fun l => x2 (ix2 r l)) (fun l => x3 (ix2 r l)) (fun l => x4 (ix2 r l))
    (fun l e => x5 (ix2 l e)) (fun l e => x6 (ix2 l e)) (fun l e => x7 (ix2 l e)) (fun l => x8 (ix2 0 l)) (fun l => x9 (ix2 0 l)) e

/-- The residual that the body norms. -/
theorem residual_at (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S512x1024 .bf16) (x6 : Vec Ideal S512x1024 .bf16) (x7 : Vec Ideal S1024x1024 .bf16) (x8 : Vec Ideal S1x1024 .f32) (x9 : Vec Ideal S1x1024 .f32) (r : Fin 512) (l : Fin 1024) :
    k0_pay3 x2 x0 x5 x3 x1 x6 x7 x4 (ix2 r l) = residual (fun l => x4 (ix2 r l)) (fun l => ∑ k, merged (fun l => x0 (ix2 r l)) (fun l => x1 (ix2 r l))
      (fun l => x2 (ix2 r l)) (fun l => x3 (ix2 r l)) (fun l e => x5 (ix2 l e)) (fun l e => x6 (ix2 l e)) k * x7 (ix2 k l)) l := by
  unfold k0_pay3
  pointwise
  rfl
/-- The norm of a block's residual. -/
theorem norm_at (v : FVec Ideal S512x1024 .f32) (g b : FVec Ideal S1x1024 .f32) (s : FVec Ideal S512x1 .f32) (r : Fin 512) (e : Fin 1024)
    (hs : s (ix2 r 0) = ∑ l : Fin 1024, v (ix2 r l)) : k0_pay1 v g b s (ix2 r e)
      = normRow (fun l => v (ix2 r l)) (fun l => g (ix2 0 l)) (fun l => b (ix2 0 l)) e := by
  unfold k0_pay1
  pointwise
  simp only [hs]
  rfl
theorem sum_at (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S512x1024 .bf16) (x6 : Vec Ideal S512x1024 .bf16) (x7 : Vec Ideal S1024x1024 .bf16) (x8 : Vec Ideal S1x1024 .f32) (x9 : Vec Ideal S1x1024 .f32) (r : Fin 512) :
    k0_pay6 x2 x0 x5 x3 x1 x6 x7 x4 (ix2 r 0) = ∑ l : Fin 1024, k0_pay3 x2 x0 x5 x3 x1 x6 x7 x4 (ix2 r l) := by
  unfold k0_pay6
  pointwise
theorem gain_eq (x : Vec Ideal S1x1024 .f32) : k0_pay4 x = x := by
  unfold k0_pay4
  funext y
  idx_vars y
  pointwise
theorem offset_eq (x : Vec Ideal S1x1024 .f32) : k0_pay5 x = x := by
  unfold k0_pay5
  funext y
  idx_vars y
  pointwise

theorem store_at (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S512x1024 .bf16) (x6 : Vec Ideal S512x1024 .bf16) (x7 : Vec Ideal S1024x1024 .bf16) (x8 : Vec Ideal S1x1024 .f32) (x9 : Vec Ideal S1x1024 .f32) (r : Fin 512) (e : Fin 1024) :
    k0_pay1 (k0_pay7 x0 x1 x2 x3 x4 x5 x6 x7 x8 x9) (k0_pay8 x0 x1 x2 x3 x4 x5 x6 x7 x8 x9) (k0_pay9 x0 x1 x2 x3 x4 x5 x6 x7 x8 x9) (k0_pay10 x0 x1 x2 x3 x4 x5 x6 x7 x8 x9) (ix2 r e) = rowOf x0 x1 x2 x3 x4 x5 x6 x7 x8 x9 r e := by
  unfold k0_pay7 k0_pay8 k0_pay9 k0_pay10
  rw [View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide), View.ld_unit_lit _ x7 (by decide), View.ld_unit_lit _ x8 (by decide), View.ld_unit_lit _ x9 (by decide), gain_eq, offset_eq,
    norm_at _ _ _ _ r e (sum_at x0 x1 x2 x3 x4 x5 x6 x7 x8 x9 r)]
  unfold rowOf row
  simp only [residual_at x0 x1 x2 x3 x4 x5 x6 x7 x8 x9]

/-- What the body stores in its first result's block. -/
theorem body_at (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S512x1024 .bf16) (x6 : Vec Ideal S512x1024 .bf16) (x7 : Vec Ideal S1024x1024 .bf16) (x8 : Vec Ideal S1x1024 .f32) (x9 : Vec Ideal S1x1024 .f32) (r : Fin 512) (e : Fin 1024) :
    out0_10 x0 x1 x2 x3 x4 x5 x6 x7 x8 x9 (ix2 r e) = rowOf x0 x1 x2 x3 x4 x5 x6 x7 x8 x9 r e := by
  unfold out0_10
  rw [View.canon_cons_unit_lit _ _ _ (by decide)]
  exact store_at x0 x1 x2 x3 x4 x5 x6 x7 x8 x9 r e
/-- And in its second's, which is the first's turned. -/
theorem turned_at (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S512x1024 .bf16) (x6 : Vec Ideal S512x1024 .bf16) (x7 : Vec Ideal S1024x1024 .bf16) (x8 : Vec Ideal S1x1024 .f32) (x9 : Vec Ideal S1x1024 .f32) (r : Fin 512) (e : Fin 1024) :
    out0_11 x0 x1 x2 x3 x4 x5 x6 x7 x8 x9 (ix2 e r) = rowOf x0 x1 x2 x3 x4 x5 x6 x7 x8 x9 r e := by
  unfold out0_11
  rw [View.canon_cons_unit_lit _ _ _ (by decide)]
  unfold k0_pay2
  pointwise
  exact store_at x0 x1 x2 x3 x4 x5 x6 x7 x8 x9 r e

/-! ## The arrays the host prepares -/

variable (m : (ℓ : Loc nD τ sig) → Buf (Elt Ideal) ℓ)

/-- The arguments, at their shapes. -/
abbrev a0 (c : Dev nD) : FVec Ideal S8x2048x512 .f32 := m ((c : Thread nD τ).loc main_arg0)
abbrev a1 (c : Dev nD) : FVec Ideal S8x2048x512 .f32 := m ((c : Thread nD τ).loc main_arg1)
abbrev a2 (c : Dev nD) : FVec Ideal S8x2048x1024 .f32 := m ((c : Thread nD τ).loc main_arg2)
abbrev a3 (c : Dev nD) : FVec Ideal S8x2048x1024 .f32 := m ((c : Thread nD τ).loc main_arg3)
abbrev a4 (c : Dev nD) : FVec Ideal S8x2048x1024 .f32 := m ((c : Thread nD τ).loc main_arg4)
abbrev a5 (c : Dev nD) : FVec Ideal S512x1024 .f32 := m ((c : Thread nD τ).loc main_arg5)
abbrev a6 (c : Dev nD) : FVec Ideal S512x1024 .f32 := m ((c : Thread nD τ).loc main_arg6)
abbrev a7 (c : Dev nD) : FVec Ideal S1024x1024 .f32 := m ((c : Thread nD τ).loc main_arg7)
abbrev a8 (c : Dev nD) : FVec Ideal S1024 .f32 := m ((c : Thread nD τ).loc main_arg8)
abbrev a9 (c : Dev nD) : FVec Ideal S1024 .f32 := m ((c : Thread nD τ).loc main_arg9)

/-- A row of all tokens: its batch and its token. -/
abbrev bat (r : ℕ) (h : r < 16384) : Fin 8 := ⟨r / 2048, by omega⟩
abbrev tok (r : ℕ) : Fin 2048 := ⟨r % 2048, by omega⟩

theorem v0_at (c : Dev nD) (r : Fin 16384) (l : Fin 512) : (V m c main_v1 : FVec Ideal S16384x512 .bf16) (ix2 r l) = a0 m c (ix3 (bat r r.isLt) (tok r) l) := by
  unfold V
  after_reads_at
theorem v1_at (c : Dev nD) (r : Fin 16384) (l : Fin 512) : (V m c main_v3 : FVec Ideal S16384x512 .bf16) (ix2 r l) = a1 m c (ix3 (bat r r.isLt) (tok r) l) := by
  unfold V
  after_reads_at
theorem v2_at (c : Dev nD) (r : Fin 16384) (l : Fin 1024) : (V m c main_v11 : FVec Ideal S16384x1024 .bf16) (ix2 r l) = Ideal.logistic (a2 m c (ix3 (bat r r.isLt) (tok r) l)) := by
  unfold V
  after_reads_at
  rfl
theorem v3_at (c : Dev nD) (r : Fin 16384) (l : Fin 1024) : (V m c main_v19 : FVec Ideal S16384x1024 .bf16) (ix2 r l) = Ideal.logistic (a3 m c (ix3 (bat r r.isLt) (tok r) l)) := by
  unfold V
  after_reads_at
  rfl
theorem v4_at (c : Dev nD) (r : Fin 16384) (l : Fin 1024) : (V m c main_v20 : FVec Ideal S16384x1024 .f32) (ix2 r l) = a4 m c (ix3 (bat r r.isLt) (tok r) l) := by
  unfold V
  after_reads_at
theorem v5_at (c : Dev nD) (l : Fin 512) (e : Fin 1024) : (V m c main_v21 : FVec Ideal S512x1024 .bf16) (ix2 l e) = a5 m c (ix2 l e) := by
  unfold V
  after_reads_at
theorem v6_at (c : Dev nD) (l : Fin 512) (e : Fin 1024) : (V m c main_v22 : FVec Ideal S512x1024 .bf16) (ix2 l e) = a6 m c (ix2 l e) := by
  unfold V
  after_reads_at
theorem v7_at (c : Dev nD) (l : Fin 1024) (e : Fin 1024) : (V m c main_v23 : FVec Ideal S1024x1024 .bf16) (ix2 l e) = a7 m c (ix2 l e) := by
  unfold V
  after_reads_at
theorem v8_at (c : Dev nD) (l : Fin 1024) : (V m c main_v24 : FVec Ideal S1x1024 .f32) (ix2 0 l) = a8 m c (ix1 l) := by
  unfold V
  after_reads_at
theorem v9_at (c : Dev nD) (l : Fin 1024) : (V m c main_v25 : FVec Ideal S1x1024 .f32) (ix2 0 l) = a9 m c (ix1 l) := by
  unfold V
  after_reads_at

/-! ## The blocks of a tile -/

theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![(grid0.coords t 0).val, 0]
    ∧ win0_11.index t = ![0, (grid0.coords t 0).val] :=
  (by decide +kernel : ∀ t : Fin grid0.N, _)

/-- A grid point's place among the row blocks. -/
abbrev gi (t : Fin cfg0.N) : Fin 32 := ⟨(grid0.coords t 0).val, (grid0.coords t 0).isLt⟩
/-- A block's row among all tokens. -/
abbrev at_block (t : Fin cfg0.N) (r : Fin 512) : Fin 16384 := ⟨(gi t).val * 512 + r.val, by omega⟩

theorem blk0_at (c : Dev nD) (t : Fin cfg0.N) (r : Fin 512) (l : Fin 512) : (iblk m c 0 t : Vec Ideal S512x512 .bf16) (ix2 r l)
    = a0 m c (ix3 (bat (at_block t r).val (at_block t r).isLt) (tok (at_block t r).val) l) := by
  refine Eq.trans ?_ (v0_at m c (at_block t r) l)
  blk_ext [iblk, idx t]
theorem blk1_at (c : Dev nD) (t : Fin cfg0.N) (r : Fin 512) (l : Fin 512) : (iblk m c 1 t : Vec Ideal S512x512 .bf16) (ix2 r l)
    = a1 m c (ix3 (bat (at_block t r).val (at_block t r).isLt) (tok (at_block t r).val) l) := by
  refine Eq.trans ?_ (v1_at m c (at_block t r) l)
  blk_ext [iblk, idx t]
theorem blk2_at (c : Dev nD) (t : Fin cfg0.N) (r : Fin 512) (l : Fin 1024) : (iblk m c 2 t : Vec Ideal S512x1024 .bf16) (ix2 r l)
    = Ideal.logistic (a2 m c (ix3 (bat (at_block t r).val (at_block t r).isLt) (tok (at_block t r).val) l)) := by
  refine Eq.trans ?_ (v2_at m c (at_block t r) l)
  blk_ext [iblk, idx t]
theorem blk3_at (c : Dev nD) (t : Fin cfg0.N) (r : Fin 512) (l : Fin 1024) : (iblk m c 3 t : Vec Ideal S512x1024 .bf16) (ix2 r l)
    = Ideal.logistic (a3 m c (ix3 (bat (at_block t r).val (at_block t r).isLt) (tok (at_block t r).val) l)) := by
  refine Eq.trans ?_ (v3_at m c (at_block t r) l)
  blk_ext [iblk, idx t]
theorem blk4_at (c : Dev nD) (t : Fin cfg0.N) (r : Fin 512) (l : Fin 1024) : (iblk m c 4 t : Vec Ideal S512x1024 .f32) (ix2 r l)
    = a4 m c (ix3 (bat (at_block t r).val (at_block t r).isLt) (tok (at_block t r).val) l) := by
  refine Eq.trans ?_ (v4_at m c (at_block t r) l)
  blk_ext [iblk, idx t]
theorem blk5_at (c : Dev nD) (t : Fin cfg0.N) (l : Fin 512) (e : Fin 1024) : (iblk m c 5 t : Vec Ideal S512x1024 .bf16) (ix2 l e)
    = a5 m c (ix2 l e) := by
  refine Eq.trans ?_ (v5_at m c l e)
  blk_ext [iblk, idx t]
theorem blk6_at (c : Dev nD) (t : Fin cfg0.N) (l : Fin 512) (e : Fin 1024) : (iblk m c 6 t : Vec Ideal S512x1024 .bf16) (ix2 l e)
    = a6 m c (ix2 l e) := by
  refine Eq.trans ?_ (v6_at m c l e)
  blk_ext [iblk, idx t]
theorem blk7_at (c : Dev nD) (t : Fin cfg0.N) (l : Fin 1024) (e : Fin 1024) : (iblk m c 7 t : Vec Ideal S1024x1024 .bf16) (ix2 l e)
    = a7 m c (ix2 l e) := by
  refine Eq.trans ?_ (v7_at m c l e)
  blk_ext [iblk, idx t]
theorem blk8_at (c : Dev nD) (t : Fin cfg0.N) (l : Fin 1024) : (iblk m c 8 t : Vec Ideal S1x1024 .f32) (ix2 0 l)
    = a8 m c (ix1 l) := by
  refine Eq.trans ?_ (v8_at m c l)
  blk_ext [iblk, idx t]
theorem blk9_at (c : Dev nD) (t : Fin cfg0.N) (l : Fin 1024) : (iblk m c 9 t : Vec Ideal S1x1024 .f32) (ix2 0 l)
    = a9 m c (ix1 l) := by
  refine Eq.trans ?_ (v9_at m c l)
  blk_ext [iblk, idx t]

/-- The function at a row of all tokens. -/
abbrev at_row (c : Dev nD) (r : Fin 16384) (e : Fin 1024) : EReal :=
  spec (a0 m c) (a1 m c) (a2 m c) (a3 m c) (a4 m c) (a5 m c) (a6 m c) (a7 m c) (a8 m c) (a9 m c) (bat r r.isLt) (tok r) e

theorem row_eq (c : Dev nD) (t : Fin cfg0.N) (r : Fin 512) (e : Fin 1024) :
    rowOf (iblk m c 0 t) (iblk m c 1 t) (iblk m c 2 t) (iblk m c 3 t) (iblk m c 4 t) (iblk m c 5 t) (iblk m c 6 t) (iblk m c 7 t) (iblk m c 8 t) (iblk m c 9 t) r e = at_row m c (at_block t r) e := by
  unfold rowOf at_row spec
  simp only [blk0_at, blk1_at, blk2_at, blk3_at, blk4_at, blk5_at, blk6_at, blk7_at, blk8_at, blk9_at]

/-- What a tile leaves at a row and a lane. -/
theorem tile_at (c : Dev nD) (t : Fin cfg0.N) (r : Fin 512) (e : Fin 1024) :
    ((dats m 0 c).after 10 t : Vec Ideal S512x1024 .f32) (ix2 r e) = at_row m c (at_block t r) e := by
  rw [after0_10, body_at, row_eq]
theorem tile'_at (c : Dev nD) (t : Fin cfg0.N) (r : Fin 512) (e : Fin 1024) :
    ((dats m 0 c).after 11 t : Vec Ideal S1024x512 .bf16) (ix2 e r) = at_row m c (at_block t r) e := by
  rw [after0_11, turned_at, row_eq]

/-- The arrays the call leaves. -/
theorem array (c : Dev nD) : (dats m 0 c).arrAt 10 cfg0.N = (fun y : S16384x1024.Idx => at_row m c ⟨(y 0).val, (y 0).isLt⟩ ⟨(y 1).val, (y 1).isLt⟩ : S16384x1024.Idx → EReal) := by
  refine (dats m 0 c).arrAt_eq_of_covers 10 _ (by decide +kernel) fun t hf y => ?_
  blk_simp
  idx_vars y
  have e := (idx t).2.2.2.2.2.2.2.2.2.2.1
  have e0 : win0_10.index t 0 = (gi t).val := by rw [e]; rfl
  have e1 : win0_10.index t 1 = 0 := by rw [e]; rfl
  refine (tile_at m c t y0 y1).trans ?_
  refine congrArg₂ (at_row m c) (Fin.ext ?_) (Fin.ext ?_)
  · show (gi t).val * 512 + y0.val = win0_10.index t 0 * 512 + y0.val
    rw [e0]
  · show y1.val = win0_10.index t 1 * 1024 + y1.val
    rw [e1]; omega
theorem array' (c : Dev nD) : (dats m 0 c).arrAt 11 cfg0.N = (fun y : S1024x16384.Idx => at_row m c ⟨(y 1).val, (y 1).isLt⟩ ⟨(y 0).val, (y 0).isLt⟩ : S1024x16384.Idx → EReal) := by
  refine (dats m 0 c).arrAt_eq_of_covers 11 _ (by decide +kernel) fun t hf y => ?_
  blk_simp
  idx_vars y
  have e := (idx t).2.2.2.2.2.2.2.2.2.2.2
  have e0 : win0_11.index t 0 = 0 := by rw [e]; rfl
  have e1 : win0_11.index t 1 = (gi t).val := by rw [e]; rfl
  refine (tile'_at m c t y1 y0).trans ?_
  refine congrArg₂ (at_row m c) (Fin.ext ?_) (Fin.ext ?_)
  · show (gi t).val * 512 + y1.val = win0_11.index t 1 * 512 + y1.val
    rw [e1]
  · show y0.val = win0_11.index t 0 * 1024 + y0.val
    rw [e0]; omega

/-! ## The results, after the host's last operations -/

/-- The kernel's result arrays, which hold the same. -/
def out (c : Dev nD) : S8x2048x1024.Idx → EReal := fun y =>
  spec (a0 m c) (a1 m c) (a2 m c) (a3 m c) (a4 m c) (a5 m c) (a6 m c) (a7 m c) (a8 m c) (a9 m c) (y 0) (y 1) (y 2)

theorem row_out (c : Dev nD) (i : Fin 8) (t : Fin 2048) (e : Fin 1024) (h : i.val * 2048 + t.val < 16384) :
    at_row m c ⟨i.val * 2048 + t.val, h⟩ e = out m c (ix3 i t e) := by
  unfold out at_row
  refine congrArg₂ (fun a b => spec (a0 m c) (a1 m c) (a2 m c) (a3 m c) (a4 m c) (a5 m c) (a6 m c) (a7 m c) (a8 m c) (a9 m c) a b e) (Fin.ext ?_) (Fin.ext ?_)
  · show (i.val * 2048 + t.val) / 2048 = i.val
    omega
  · show (i.val * 2048 + t.val) % 2048 = t.val
    omega

theorem tail (c : Dev nD) : Pipeline.afterTail₀ cfgs (dats m) 0 (V0 m) [hostOps1] c main_v27 = (out m c : FVec Ideal S8x2048x1024 .f32) := by
  have h : Pipeline.withArrays spec0 c (V0 m c) (fun w => (dats m 0 c).arrAt w cfg0.N) (Proc.devRef .tc main_v26_0)
      = (dats m 0 c).arrAt 10 cfg0.N := Pipeline.withArrays_arr spec0 (by decide) c (V0 m c) _ 10
  unfold Pipeline.afterTail₀
  show StableHlo.after hostOps1 _ _ = _
  funext y
  idx_vars y
  after_reads_at
  exact (congrFun h _).trans ((congrFun (array m c) _).trans (row_out m c y0 y1 y2 _))
theorem tail' (c : Dev nD) : Pipeline.afterTail₀ cfgs (dats m) 0 (V0 m) [hostOps1] c main_v29 = (out m c : FVec Ideal S8x2048x1024 .bf16) := by
  have h : Pipeline.withArrays spec0 c (V0 m c) (fun w => (dats m 0 c).arrAt w cfg0.N) (Proc.devRef .tc main_v26_1)
      = (dats m 0 c).arrAt 11 cfg0.N := Pipeline.withArrays_arr spec0 (by decide) c (V0 m c) _ 11
  unfold Pipeline.afterTail₀
  show StableHlo.after hostOps1 _ _ = _
  funext y
  idx_vars y
  after_reads_at
  exact (congrFun h _).trans ((congrFun (array' m c) _).trans (row_out m c y0 y1 y2 _))

/-- The run: the result arrays, and the arguments unchanged. -/
theorem run (ρ : Dev nD → PrngReg) : θ_run defs (onTc (τ := τ) (main (F := Ideal))) ⟨m, fun _ => 0, ρ⟩ (fun r => ∀ c : Dev nD,
    r.2.mem ((c.tc : Thread nD τ).loc main_v27) = (out m c : FVec Ideal S8x2048x1024 .f32)
    ∧ r.2.mem ((c.tc : Thread nD τ).loc main_v29) = (out m c : FVec Ideal S8x2048x1024 .bf16)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) :=
  (θ_run defs _ _).mono (fun _ h c => ⟨((h c).2 main_v27 (Pipeline.mem_restRefs_of main_v27 (by decide) (by decide))).trans (tail m c),
      ((h c).2 main_v29 (Pipeline.mem_restRefs_of main_v29 (by decide) (by decide))).trans (tail' m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.Merge

end
-- ==== Proof.MergeRef.lean ====
module

public import proofs.«01_k».proof.Proof.Merge
public import proofs.«01_k».proof.Proof.Gen.Reference3Ideal.Run
public import proofs.«01_k».proof.Defs

@[expose] public section

set_option maxRecDepth 16384

noncomputable section

/-! The merging call's reference, at an index, and the claim. -/

namespace Cert.MergeRef

open Cert.Reference3Ideal Cert.Reference3Ideal.Gen Cert.Norm Idealize.ShloMosaic Idealize.ShloMosaic.TcCoe Idealize.SL.Sem Idealize.ShloMosaic.StableHlo

/-- The reference's first result at an index. -/
theorem result_at (m : (ℓ : Loc nD τ sig) → Buf (Elt Ideal) ℓ) (c : Dev nD) (i : Fin 8) (t : Fin 2048) (e : Fin 1024) :
    (Value.res_main_v44 m c : FVec Ideal S8x2048x1024 .f32) (ix3 i t e) = Cert.Merge.spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) i t e := by
  unfold Value.res_main_v44
  generalize m ((c.tc : Thread nD τ).loc main_arg0) = b0
  generalize m ((c.tc : Thread nD τ).loc main_arg1) = b1
  generalize m ((c.tc : Thread nD τ).loc main_arg2) = b2
  generalize m ((c.tc : Thread nD τ).loc main_arg3) = b3
  generalize m ((c.tc : Thread nD τ).loc main_arg4) = b4
  generalize m ((c.tc : Thread nD τ).loc main_arg5) = b5
  generalize m ((c.tc : Thread nD τ).loc main_arg6) = b6
  generalize m ((c.tc : Thread nD τ).loc main_arg7) = b7
  generalize m ((c.tc : Thread nD τ).loc main_arg8) = b8
  generalize m ((c.tc : Thread nD τ).loc main_arg9) = b9
  clean_types
  pointwise
  rfl
/-- The reference's second result at an index. -/
theorem result'_at (m : (ℓ : Loc nD τ sig) → Buf (Elt Ideal) ℓ) (c : Dev nD) (i : Fin 8) (t : Fin 2048) (e : Fin 1024) :
    (Value.res_main_v45 m c : FVec Ideal S8x2048x1024 .bf16) (ix3 i t e) = Cert.Merge.spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) i t e := by
  refine Eq.trans ?_ (result_at m c i t e)
  unfold Value.res_main_v45 Value.res_main_v44
  rfl

theorem algebraic : Cert.algebraic_Kernel3Ideal_Reference3Ideal (hKernel3Ideal := Cert.Kernel3Ideal.Gen.facts)
    (hReference3Ideal := Cert.Reference3Ideal.Gen.facts) := by
  intro m ρ m' ρ' hpre hagree
  refine ⟨_, _, Cert.Merge.run m ρ, ?_⟩
  refine (θ_run Cert.Reference3Ideal.defs _ _).mono (fun _ h c => ⟨(h c).1.trans ?_, (h c).2.1.trans ?_, (h c).2.2⟩) (Cert.Reference3Ideal.Value.run (F := Ideal) m' ρ')
  · obtain ⟨h0, h1, h2, h3, h4, h5, h6, h7, h8, h9⟩ := hagree c
    funext y
    idx_vars y
    refine (result_at m' c y0 y1 y2).trans ?_
    rw [h0, h1, h2, h3, h4, h5, h6, h7, h8, h9]
    rfl
  · obtain ⟨h0, h1, h2, h3, h4, h5, h6, h7, h8, h9⟩ := hagree c
    funext y
    idx_vars y
    refine (result'_at m' c y0 y1 y2).trans ?_
    rw [h0, h1, h2, h3, h4, h5, h6, h7, h8, h9]
    rfl

end Cert.MergeRef

end
-- ==== Proof.Project.lean ====
module

public import proofs.«01_k».proof.Proof.Gen.Kernel4Ideal.Frame
public import Idealize.ShloMosaic.Lib.Pipeline.ValueKit
public import Idealize.ShloMosaic.Lib.StableHlo.ReadAt

@[expose] public section

set_option maxRecDepth 16384

noncomputable section

/-! The projection call's arrays and bodies, at an index. -/

namespace Cert.Project

open Cert.Kernel4Ideal Cert.Kernel4Ideal.Gen Idealize.ShloMosaic Idealize.ShloMosaic.TcCoe Idealize.SL.Sem

variable (m : (ℓ : Loc nD τ sig) → Buf (Elt Ideal) ℓ)

/-- The arguments, at their shapes. -/
abbrev ax (c : Dev nD) : FVec Ideal S8x2048x1024 .f32 := m ((c : Thread nD τ).loc main_arg0)
abbrev aw (c : Dev nD) : FVec Ideal S1024x4888 .f32 := m ((c : Thread nD τ).loc main_arg1)

/-- A weight's entry in a column, zero outside. -/
def ent (W : FVec Ideal S1024x4888 .f32) (k : Fin 1024) (x : ℕ) : EReal := if h : x < 4888 then W (ix2 k ⟨x, h⟩) else 0

theorem ent_eq (W : FVec Ideal S1024x4888 .f32) (k k' : Fin 1024) (x : Fin 4888) {x' : ℕ} (hk : k.val = k'.val) (hx : x.val = x') :
    W (ix2 k x) = ent W k' x' := by
  subst hx
  have e : k = k' := Fin.ext hk
  subst e
  rw [ent, dif_pos x.isLt]

/-- Away from the two position lanes nothing is added. -/
theorem off_lane (s : EReal) (l : ℕ) (h : l < 64) : s * FloatOps.uitofp (F := Ideal) .f32 (IntOp.ori (IntOp.cmpi .eq (BitVec.ofNat 32 l) 64#32)
      (IntOp.cmpi .eq (BitVec.ofNat 32 l) 65#32)) = 0 := by
  have e : ∀ l : Fin 64, IntOp.ori (IntOp.cmpi .eq (BitVec.ofNat 32 l.val) 64#32) (IntOp.cmpi .eq (BitVec.ofNat 32 l.val) 65#32) = 0#1 := by
    decide +kernel
  rw [e ⟨l, h⟩]
  show s * (((0#1 : BitVec 1).toNat : ℝ) : EReal) = 0
  simp

/-! ## The arranged weights -/

theorem ksel_col (c : Dev nD) (k : Fin 1024) (g d : ℕ) (hg : g < 2) (hd : d < 64) (x : Fin 4608) (hx : x.val = 128 * g + d) :
    (V m c main_v60 : FVec Ideal S1024x4608 .bf16) (ix2 k x) = ent (aw m c) k (768 + (64 * g + d)) := by
  unfold V
  after_reads_at
  refine (dif_pos (by omega)).trans ?_
  after_reads_at
  refine (dif_pos (by omega)).trans ?_
  refine ent_eq (aw m c) _ _ _ ?_ ?_ <;> dsimp only <;> omega
theorem kwin_col (c : Dev nD) (k : Fin 1024) (g d : ℕ) (hg : g < 2) (hd : d < 64) (x : Fin 4608) (hx : x.val = 256 + (128 * g + d)) :
    (V m c main_v60 : FVec Ideal S1024x4608 .bf16) (ix2 k x) = ent (aw m c) k (1024 + (64 * g + d)) := by
  unfold V
  after_reads_at
  iterate 1 refine (dif_neg (by omega)).trans ?_
  refine (dif_pos (by omega)).trans ?_
  after_reads_at
  refine (dif_pos (by omega)).trans ?_
  refine ent_eq (aw m c) _ _ _ ?_ ?_ <;> dsimp only <;> omega
theorem vs_col (c : Dev nD) (k : Fin 1024) (g d : ℕ) (hg : g < 2) (hd : d < 64) (x : Fin 4608) (hx : x.val = 512 + (128 * g + d)) :
    (V m c main_v60 : FVec Ideal S1024x4608 .bf16) (ix2 k x) = ent (aw m c) k (896 + (64 * g + d)) := by
  unfold V
  after_reads_at
  iterate 2 refine (dif_neg (by omega)).trans ?_
  refine (dif_pos (by omega)).trans ?_
  after_reads_at
  refine (dif_pos (by omega)).trans ?_
  after_reads_at
  refine ent_eq (aw m c) _ _ _ ?_ ?_ <;> dsimp only <;> omega
theorem vw_col (c : Dev nD) (k : Fin 1024) (g d : ℕ) (hg : g < 2) (hd : d < 64) (x : Fin 4608) (hx : x.val = 512 + (128 * g + 64 + d)) :
    (V m c main_v60 : FVec Ideal S1024x4608 .bf16) (ix2 k x) = ent (aw m c) k (1152 + (64 * g + d)) := by
  unfold V
  after_reads_at
  iterate 2 refine (dif_neg (by omega)).trans ?_
  refine (dif_pos (by omega)).trans ?_
  after_reads_at
  refine (dif_neg (by omega)).trans ?_
  after_reads_at
  refine ent_eq (aw m c) _ _ _ ?_ ?_ <;> dsimp only <;> omega
theorem kc_col (c : Dev nD) (k : Fin 1024) (g d : ℕ) (hg : g < 2) (hd : d < 64) (x : Fin 4608) (hx : x.val = 768 + (128 * g + d)) :
    (V m c main_v60 : FVec Ideal S1024x4608 .bf16) (ix2 k x) = ent (aw m c) k (512 + (64 * g + d)) := by
  unfold V
  after_reads_at
  iterate 3 refine (dif_neg (by omega)).trans ?_
  refine (dif_pos (by omega)).trans ?_
  after_reads_at
  refine (dif_pos (by omega)).trans ?_
  after_reads_at
  refine ent_eq (aw m c) _ _ _ ?_ ?_ <;> dsimp only <;> omega
theorem vc_col (c : Dev nD) (k : Fin 1024) (g d : ℕ) (hg : g < 2) (hd : d < 64) (x : Fin 4608) (hx : x.val = 768 + (128 * g + 64 + d)) :
    (V m c main_v60 : FVec Ideal S1024x4608 .bf16) (ix2 k x) = ent (aw m c) k (640 + (64 * g + d)) := by
  unfold V
  after_reads_at
  iterate 3 refine (dif_neg (by omega)).trans ?_
  refine (dif_pos (by omega)).trans ?_
  after_reads_at
  refine (dif_neg (by omega)).trans ?_
  after_reads_at
  refine ent_eq (aw m c) _ _ _ ?_ ?_ <;> dsimp only <;> omega
theorem kd_col (c : Dev nD) (k : Fin 1024) (h w d : ℕ) (hh : h < 4) (hw : w < 2) (hd : d < 64) (x : Fin 4608) (hx : x.val = 1024 + (128 * (2 * h + w) + d)) :
    (V m c main_v60 : FVec Ideal S1024x4608 .bf16) (ix2 k x) = ent (aw m c) k (1816 + (256 * w + 64 * h + d)) := by
  unfold V
  after_reads_at
  iterate 4 refine (dif_neg (by omega)).trans ?_
  refine (dif_pos (by omega)).trans ?_
  after_reads_at
  refine (dif_pos (by omega)).trans ?_
  refine ent_eq (aw m c) _ _ _ ?_ ?_ <;> dsimp only <;> omega
theorem vd_col (c : Dev nD) (k : Fin 1024) (e : ℕ) (he : e < 512) (x : Fin 4608) (hx : x.val = 2048 + e) :
    (V m c main_v60 : FVec Ideal S1024x4608 .bf16) (ix2 k x) = ent (aw m c) k (2328 + e) := by
  unfold V
  after_reads_at
  iterate 5 refine (dif_neg (by omega)).trans ?_
  refine (dif_pos (by omega)).trans ?_
  after_reads_at
  refine ent_eq (aw m c) _ _ _ ?_ ?_ <;> dsimp only <;> omega
theorem ga_col (c : Dev nD) (k : Fin 1024) (e : ℕ) (he : e < 1024) (x : Fin 4608) (hx : x.val = 2560 + e) :
    (V m c main_v60 : FVec Ideal S1024x4608 .bf16) (ix2 k x) = ent (aw m c) k (2840 + e) := by
  unfold V
  after_reads_at
  iterate 6 refine (dif_neg (by omega)).trans ?_
  refine (dif_pos (by omega)).trans ?_
  after_reads_at
  refine ent_eq (aw m c) _ _ _ ?_ ?_ <;> dsimp only <;> omega
theorem gb_col (c : Dev nD) (k : Fin 1024) (e : ℕ) (he : e < 1024) (x : Fin 4608) (hx : x.val = 3584 + e) :
    (V m c main_v60 : FVec Ideal S1024x4608 .bf16) (ix2 k x) = ent (aw m c) k (3864 + e) := by
  unfold V
  after_reads_at
  iterate 7 refine (dif_neg (by omega)).trans ?_
  after_reads_at
  refine ent_eq (aw m c) _ _ _ ?_ ?_ <;> dsimp only <;> omega
theorem qn_row (c : Dev nD) (k : Fin 1024) (j d : ℕ) (hj : j < 8) (hd : d < 64) (x : Fin 2080) (hx : x.val = 128 * j + d) :
    (V m c main_v63 : FVec Ideal S2080x1024 .bf16) (ix2 x k) = ent (aw m c) k (64 * j + d) * Ideal.ofBits .f32 0x3E000000#32 := by
  unfold V
  after_reads_at
  refine (dif_pos (by omega)).trans ?_
  after_reads_at
  refine (dif_pos (by omega)).trans ?_
  refine congrArg (· * _) ?_
  refine ent_eq (aw m c) _ _ _ ?_ ?_ <;> dsimp only <;> omega
theorem g_row (c : Dev nD) (k : Fin 1024) (g r : ℕ) (hg : g < 2) (hr : r < 12) (x : Fin 2080) (hx : x.val = 1024 + (16 * g + r)) :
    (V m c main_v63 : FVec Ideal S2080x1024 .bf16) (ix2 x k) = ent (aw m c) k (1280 + (12 * g + r)) := by
  unfold V
  after_reads_at
  refine (dif_neg (by omega)).trans ?_
  refine (dif_pos (by omega)).trans ?_
  after_reads_at
  refine (dif_pos (by omega)).trans ?_
  refine ent_eq (aw m c) _ _ _ ?_ ?_ <;> dsimp only <;> omega
theorem qd_row (c : Dev nD) (k : Fin 1024) (h w d : ℕ) (hh : h < 4) (hw : w < 2) (hd : d < 64) (x : Fin 2080) (hx : x.val = 1056 + (128 * (2 * h + w) + d)) :
    (V m c main_v63 : FVec Ideal S2080x1024 .bf16) (ix2 x k) = ent (aw m c) k (1304 + (256 * w + 64 * h + d)) * Ideal.ofBits .f32 0x3E000000#32 := by
  unfold V
  after_reads_at
  refine (dif_neg (by omega)).trans ?_
  refine (dif_neg (by omega)).trans ?_
  after_reads_at
  refine (dif_pos (by omega)).trans ?_
  refine congrArg (· * _) ?_
  refine ent_eq (aw m c) _ _ _ ?_ ?_ <;> dsimp only <;> omega
theorem qn_aug (c : Dev nD) (j d : ℕ) (hj : j < 8) (hd : d < 64) (x : Fin 2080) (hx : x.val = 128 * j + d) :
    (V m c main_v107 : FVec Ideal S2080x1 .f32) (ix2 x 0) = (0 : EReal) := by
  unfold V
  after_reads_at
  refine (dif_pos (by omega)).trans ?_
  after_reads_at
  exact off_lane _ _ (by omega)
theorem g_aug (c : Dev nD) (g r : ℕ) (hg : g < 2) (hr : r < 12) (x : Fin 2080) (hx : x.val = 1024 + (16 * g + r)) :
    (V m c main_v107 : FVec Ideal S2080x1 .f32) (ix2 x 0) = (0 : EReal) := by
  unfold V
  after_reads_at
  refine (dif_neg (by omega)).trans ?_
  refine (dif_pos (by omega)).trans ?_
  after_reads_at
theorem qd_aug (c : Dev nD) (h w d : ℕ) (hh : h < 4) (hw : w < 2) (hd : d < 64) (x : Fin 2080) (hx : x.val = 1056 + (128 * (2 * h + w) + d)) :
    (V m c main_v107 : FVec Ideal S2080x1 .f32) (ix2 x 0) = (0 : EReal) := by
  unfold V
  after_reads_at
  refine (dif_neg (by omega)).trans ?_
  refine (dif_neg (by omega)).trans ?_
  after_reads_at
  exact off_lane _ _ (by omega)

end Cert.Project

end
-- ==== Proof.ProjectTile.lean ====
module

public import proofs.«01_k».proof.Proof.Project

@[expose] public section

set_option maxRecDepth 16384

noncomputable section

/-! What the projection's body stores, and the arrays it leaves, at an index. -/

namespace Cert.Project

open Cert.Kernel4Ideal Cert.Kernel4Ideal.Gen Idealize.ShloMosaic Idealize.ShloMosaic.TcCoe Idealize.SL.Sem

variable (m : (ℓ : Loc nD τ sig) → Buf (Elt Ideal) ℓ)

/-! ## The loads -/

theorem stripe {w off : ℕ} (inb : ∀ a, (![0, off] : Fin 2 → ℕ) a + (![1024, w] : Fin 2 → ℕ) a ≤ S1024x4608.size a) (X : Vec Ideal S1024x4608 .bf16)
    (k : Fin 1024) (e : Fin w) (h : off + e.val < 4608) :
    View.ld X (Rect.unit (s := S1024x4608) ![0, off] ![1024, w] inb) (ix2 k e) = X (ix2 k ⟨off + e.val, h⟩) := by
  refine congrArg X ?_
  idx_ext
theorem band {h off : ℕ} (inb : ∀ a, (![off, 0] : Fin 2 → ℕ) a + (![h, 1024] : Fin 2 → ℕ) a ≤ S2080x1024.size a) (X : Vec Ideal S2080x1024 .bf16)
    (e : Fin h) (k : Fin 1024) (hx : off + e.val < 2080) :
    View.ld X (Rect.unit (s := S2080x1024) ![off, 0] ![h, 1024] inb) (ix2 e k) = X (ix2 ⟨off + e.val, hx⟩ k) := by
  refine congrArg X ?_
  idx_ext
theorem band' {h off : ℕ} (inb : ∀ a, (![off, 0] : Fin 2 → ℕ) a + (![h, 1] : Fin 2 → ℕ) a ≤ S2080x1.size a) (X : Vec Ideal S2080x1 .f32)
    (e : Fin h) (hx : off + e.val < 2080) :
    View.ld X (Rect.unit (s := S2080x1) ![off, 0] ![h, 1] inb) (ix2 e 0) = X (ix2 ⟨off + e.val, hx⟩ 0) := by
  refine congrArg X ?_
  idx_ext

theorem x_at (i : grid0.Coords) (x0 : Vec Ideal S256x1024 .f32) (x1 : Vec Ideal S1024x4608 .bf16) (x2 : Vec Ideal S2080x1024 .bf16) (x3 : Vec Ideal S2080x1 .f32) (r : Fin 256) (k : Fin 1024) :
    k0_pay18 i x0 x1 x2 x3 (ix2 r k) = x0 (ix2 r k) := by
  unfold k0_pay18 k0_pay2
  rw [View.ld_unit_lit _ x0 (by decide)]
  pointwise

/-! ## The products -/

theorem plus_zero {a b : EReal} (h : b = 0) : a + b = a := by rw [h, add_zero]
theorem either {p : Prop} [Decidable p] {a : p → EReal} {b : ¬p → EReal} {v : EReal} (ha : ∀ h, a h = v) (hb : ∀ h, b h = v) : dite p a b = v := by
  split
  · exact ha _
  · exact hb _

/-- Below lane 64 no lane is a position lane … -/
theorem not_lane : ∀ l : Fin 64, IntOp.cmpi .eq (BitVec.ofNat 32 l.val) 64#32 = 0#1 ∧ IntOp.cmpi .eq (BitVec.ofNat 32 l.val) 65#32 = 0#1 := by decide +kernel
/-- … and no lane is a block's. -/
theorem not_block (w : BitVec 32) (l : ℕ) (h : l < 64) :
    IntOp.cmpi .eq (IntOp.subi (BitVec.ofNat 32 l) 72#32) (IntOp.shrsi .vector (IntOp.andi w 2047#32) 6#32) = 0#1 := by
  have lo : ∀ l : Fin 64, 1000 < (IntOp.subi (BitVec.ofNat 32 l.val) 72#32).toNat := by decide +kernel
  have hi : ∀ n : Fin 2048, (IntOp.shrsi .vector (BitVec.ofNat 32 n.val) 6#32).toNat < 1000 := by decide +kernel
  have hn : (w &&& 2047#32).toNat < 2048 := by
    rw [BitVec.toNat_and]
    exact Nat.lt_of_le_of_lt Nat.and_le_right (by decide)
  have e : IntOp.andi w 2047#32 = BitVec.ofNat 32 (w &&& 2047#32).toNat := by
    rw [BitVec.ofNat_toNat, BitVec.setWidth_eq]; rfl
  have a := lo ⟨l, h⟩
  have b := hi ⟨_, hn⟩
  rw [← e] at b
  have ne : IntOp.subi (BitVec.ofNat 32 l) 72#32 ≠ IntOp.shrsi .vector (IntOp.andi w 2047#32) 6#32 := by
    intro c
    dsimp only at a
    rw [c] at a
    omega
  show BitVec.ofBool (_ == _) = 0#1
  rw [beq_false_of_ne ne]
  rfl

/-- So the position entries are zero there. -/
theorem pay4_at (i : grid0.Coords) (r : Fin 256) (l : Fin 128) (hl : l.val < 64) : k0_pay4 (F := Ideal) i (ix2 r l) = (0 : EReal) := by
  unfold k0_pay4
  pointwise
  rw [(not_lane ⟨l.val, hl⟩).1, (not_lane ⟨l.val, hl⟩).2]
  rfl

theorem block_zero (w : BitVec 32) (l : ℕ) (h : l < 64) : (Scalar.select (IntOp.cmpi .eq (IntOp.subi (BitVec.ofNat 32 l) 72#32)
    (IntOp.shrsi .vector (IntOp.andi w 2047#32) 6#32)) (1 : EReal) 0 : EReal) = 0 := by
  rw [not_block w l h]
  rfl

theorem pay5_at (i : grid0.Coords) (v : Vec Ideal S256x1024 .f32) (w : Vec Ideal S1024x256 .bf16) (r : Fin 256) (e : Fin 256) (he : e.val % 128 < 64) :
    k0_pay5 i v w (ix2 r e) = ∑ k : Fin 1024, v (ix2 r k) * w (ix2 k e) := by
  unfold k0_pay5 k0_pay2 k0_pay3
  pointwise
  refine plus_zero (either (fun h => ?_) (fun h => ?_))
  · exact (congrArg₂ (· + ·) (pay4_at i r _ (by dsimp only; omega)) (block_zero _ _ (by omega))).trans (add_zero _)
  · exact (congrArg₂ (· + ·) (pay4_at i r _ (by dsimp only; omega)) (block_zero _ _ (by omega))).trans (add_zero _)

theorem pay7_at (v : FVec Ideal S256x1024 .bf16) (u : FVec Ideal S256x128 .f32) (w : Vec Ideal S1024x256 .bf16) (r : Fin 256) (e : Fin 256)
    (hu : ∀ l : Fin 128, l.val < 64 → u (ix2 r l) = (0 : EReal)) (he : e.val % 128 < 64) :
    k0_pay7 v u (k0_pay6 w) (constant S256x256 .f32 0x00000000#32) (ix2 r e) = ∑ k : Fin 1024, v (ix2 r k) * w (ix2 k e) := by
  unfold k0_pay7 k0_pay6
  pointwise
  exact plus_zero (either (fun h => hu _ (by dsimp only; omega)) (fun h => hu _ (by dsimp only; omega)))

theorem pay10_at (v : FVec Ideal S256x1024 .bf16) (u : FVec Ideal S256x128 .f32) (w : Vec Ideal S1024x1024 .bf16) (r : Fin 256) (e : Fin 1024)
    (hu : ∀ l : Fin 128, l.val < 64 → u (ix2 r l) = (0 : EReal)) (he : e.val % 128 < 64) :
    k0_pay10 v u w (ix2 r e) = ∑ k : Fin 1024, v (ix2 r k) * w (ix2 k e) := by
  unfold k0_pay10
  pointwise
  refine plus_zero ?_
  iterate 7 refine either (fun h => hu _ (by dsimp only; omega)) (fun h => ?_)
  exact hu _ (by dsimp only; omega)
theorem pay8_at (v : FVec Ideal S256x1024 .bf16) (w : Vec Ideal S1024x256 .bf16) (r : Fin 256) (e : Fin 256) :
    k0_pay8 v w (ix2 r e) = ∑ k : Fin 1024, v (ix2 r k) * w (ix2 k e) := by
  unfold k0_pay8
  pointwise
theorem pay9_at (v : FVec Ideal S256x1024 .bf16) (w : Vec Ideal S1024x256 .bf16) (r : Fin 256) (e : Fin 256) :
    k0_pay9 v w (ix2 r e) = ∑ k : Fin 1024, v (ix2 r k) * w (ix2 k e) := by
  unfold k0_pay9
  pointwise
theorem pay11_at (v : FVec Ideal S256x1024 .bf16) (w : Vec Ideal S1024x512 .bf16) (r : Fin 256) (e : Fin 512) :
    k0_pay11 v w (ix2 r e) = ∑ k : Fin 1024, v (ix2 r k) * w (ix2 k e) := by
  unfold k0_pay11
  pointwise
theorem pay13_at (v : FVec Ideal S256x1024 .bf16) (w : Vec Ideal S1024x1024 .bf16) (r : Fin 256) (e : Fin 1024) :
    k0_pay13 (k0_pay12 v w) (ix2 r e) = Ideal.logistic (∑ k : Fin 1024, v (ix2 r k) * w (ix2 k e)) := by
  unfold k0_pay13 k0_pay12
  pointwise
theorem pay14_at (v : FVec Ideal S256x1024 .bf16) (w : Vec Ideal S1024x1024 .bf16) (r : Fin 256) (e : Fin 1024) :
    k0_pay14 v w (ix2 r e) = Ideal.logistic (∑ k : Fin 1024, v (ix2 r k) * w (ix2 k e)) := by
  unfold k0_pay14
  pointwise
theorem pay15_at (v : FVec Ideal S256x1024 .bf16) (w : Vec Ideal S1024x1024 .bf16) (q : Vec Ideal S1024x1 .f32) (e : Fin 1024) (r : Fin 256) :
    k0_pay15 v w q (ix2 e r) = (∑ k : Fin 1024, w (ix2 e k) * v (ix2 r k)) + q (ix2 e 0) := by
  unfold k0_pay15
  pointwise
theorem pay16_at (v : FVec Ideal S256x1024 .bf16) (w : Vec Ideal S32x1024 .bf16) (q : Vec Ideal S32x1 .f32) (e : Fin 32) (r : Fin 256) :
    k0_pay16 v w q (ix2 e r) = Ideal.logistic ((∑ k : Fin 1024, w (ix2 e k) * v (ix2 r k)) + q (ix2 e 0)) := by
  unfold k0_pay16
  pointwise
theorem pay17_at (v : FVec Ideal S256x1024 .bf16) (w : Vec Ideal S1024x1024 .bf16) (q : Vec Ideal S1024x1 .f32) (e : Fin 1024) (r : Fin 256) :
    k0_pay1 (k0_pay17 v w) q (ix2 e r) = (∑ k : Fin 1024, w (ix2 e k) * v (ix2 r k)) + q (ix2 e 0) := by
  unfold k0_pay1 k0_pay17
  pointwise

/-! ## What the body stores -/

theorem body4_at (i : grid0.Coords) (x0 : Vec Ideal S256x1024 .f32) (x1 : Vec Ideal S1024x4608 .bf16) (x2 : Vec Ideal S2080x1024 .bf16) (x3 : Vec Ideal S2080x1 .f32) (r : Fin 256) (e : Fin 256) (he : e.val % 128 < 64) :
    out0_4 i x0 x1 x2 x3 (ix2 r e) = ∑ k : Fin 1024, x0 (ix2 r k) * x1 (ix2 k ⟨0 + e.val, by omega⟩) := by
  unfold out0_4
  rw [View.canon_cons_unit_lit _ _ _ (by decide)]
  refine (pay5_at i _ _ r e he).trans ((Finset.sum_congr rfl fun k _ => ?_))
  rw [View.ld_unit_lit _ x0 (by decide), stripe _ x1 k e (by omega)]
theorem body5_at (i : grid0.Coords) (x0 : Vec Ideal S256x1024 .f32) (x1 : Vec Ideal S1024x4608 .bf16) (x2 : Vec Ideal S2080x1024 .bf16) (x3 : Vec Ideal S2080x1 .f32) (r : Fin 256) (e : Fin 256) (he : e.val % 128 < 64) :
    out0_5 i x0 x1 x2 x3 (ix2 r e) = ∑ k : Fin 1024, x0 (ix2 r k) * x1 (ix2 k ⟨256 + e.val, by omega⟩) := by
  unfold out0_5
  rw [View.canon_cons_unit_lit _ _ _ (by decide)]
  refine (pay7_at _ _ _ r e (fun l hl => pay4_at i r l hl) he).trans ((Finset.sum_congr rfl fun k _ => ?_))
  rw [x_at, stripe _ x1 k e (by omega)]
theorem body6_at (i : grid0.Coords) (x0 : Vec Ideal S256x1024 .f32) (x1 : Vec Ideal S1024x4608 .bf16) (x2 : Vec Ideal S2080x1024 .bf16) (x3 : Vec Ideal S2080x1 .f32) (r : Fin 256) (e : Fin 256) :
    out0_6 i x0 x1 x2 x3 (ix2 r e) = ∑ k : Fin 1024, x0 (ix2 r k) * x1 (ix2 k ⟨512 + e.val, by omega⟩) := by
  unfold out0_6
  rw [View.canon_cons_unit_lit _ _ _ (by decide)]
  refine (pay8_at _ _ r e).trans ((Finset.sum_congr rfl fun k _ => ?_))
  rw [x_at, stripe _ x1 k e (by omega)]
theorem body7_at (i : grid0.Coords) (x0 : Vec Ideal S256x1024 .f32) (x1 : Vec Ideal S1024x4608 .bf16) (x2 : Vec Ideal S2080x1024 .bf16) (x3 : Vec Ideal S2080x1 .f32) (r : Fin 256) (e : Fin 256) :
    out0_7 i x0 x1 x2 x3 (ix2 r e) = ∑ k : Fin 1024, x0 (ix2 r k) * x1 (ix2 k ⟨768 + e.val, by omega⟩) := by
  unfold out0_7
  rw [View.canon_cons_unit_lit _ _ _ (by decide)]
  refine (pay9_at _ _ r e).trans ((Finset.sum_congr rfl fun k _ => ?_))
  rw [x_at, stripe _ x1 k e (by omega)]
theorem body8_at (i : grid0.Coords) (x0 : Vec Ideal S256x1024 .f32) (x1 : Vec Ideal S1024x4608 .bf16) (x2 : Vec Ideal S2080x1024 .bf16) (x3 : Vec Ideal S2080x1 .f32) (r : Fin 256) (e : Fin 1024) (he : e.val % 128 < 64) :
    out0_8 i x0 x1 x2 x3 (ix2 r e) = ∑ k : Fin 1024, x0 (ix2 r k) * x1 (ix2 k ⟨1024 + e.val, by omega⟩) := by
  unfold out0_8
  rw [View.canon_cons_unit_lit _ _ _ (by decide)]
  refine (pay10_at _ _ _ r e (fun l hl => pay4_at i r l hl) he).trans ((Finset.sum_congr rfl fun k _ => ?_))
  rw [x_at, stripe _ x1 k e (by omega)]
theorem body9_at (i : grid0.Coords) (x0 : Vec Ideal S256x1024 .f32) (x1 : Vec Ideal S1024x4608 .bf16) (x2 : Vec Ideal S2080x1024 .bf16) (x3 : Vec Ideal S2080x1 .f32) (r : Fin 256) (e : Fin 512) :
    out0_9 i x0 x1 x2 x3 (ix2 r e) = ∑ k : Fin 1024, x0 (ix2 r k) * x1 (ix2 k ⟨2048 + e.val, by omega⟩) := by
  unfold out0_9
  rw [View.canon_cons_unit_lit _ _ _ (by decide)]
  refine (pay11_at _ _ r e).trans ((Finset.sum_congr rfl fun k _ => ?_))
  rw [x_at, stripe _ x1 k e (by omega)]
theorem body10_at (i : grid0.Coords) (x0 : Vec Ideal S256x1024 .f32) (x1 : Vec Ideal S1024x4608 .bf16) (x2 : Vec Ideal S2080x1024 .bf16) (x3 : Vec Ideal S2080x1 .f32) (r : Fin 256) (e : Fin 1024) :
    out0_10 i x0 x1 x2 x3 (ix2 r e) = Ideal.logistic (∑ k : Fin 1024, x0 (ix2 r k) * x1 (ix2 k ⟨2560 + e.val, by omega⟩)) := by
  unfold out0_10
  rw [View.canon_cons_unit_lit _ _ _ (by decide)]
  refine (pay13_at _ _ r e).trans (congrArg Ideal.logistic (Finset.sum_congr rfl fun k _ => ?_))
  rw [x_at, stripe _ x1 k e (by omega)]
theorem body11_at (i : grid0.Coords) (x0 : Vec Ideal S256x1024 .f32) (x1 : Vec Ideal S1024x4608 .bf16) (x2 : Vec Ideal S2080x1024 .bf16) (x3 : Vec Ideal S2080x1 .f32) (r : Fin 256) (e : Fin 1024) :
    out0_11 i x0 x1 x2 x3 (ix2 r e) = Ideal.logistic (∑ k : Fin 1024, x0 (ix2 r k) * x1 (ix2 k ⟨3584 + e.val, by omega⟩)) := by
  unfold out0_11
  rw [View.canon_cons_unit_lit _ _ _ (by decide)]
  refine (pay14_at _ _ r e).trans (congrArg Ideal.logistic (Finset.sum_congr rfl fun k _ => ?_))
  rw [x_at, stripe _ x1 k e (by omega)]
theorem body12_at (i : grid0.Coords) (x0 : Vec Ideal S256x1024 .f32) (x1 : Vec Ideal S1024x4608 .bf16) (x2 : Vec Ideal S2080x1024 .bf16) (x3 : Vec Ideal S2080x1 .f32) (e : Fin 1024) (r : Fin 256) :
    out0_12 i x0 x1 x2 x3 (ix2 e r) = (∑ k : Fin 1024, x2 (ix2 ⟨0 + e.val, by omega⟩ k) * x0 (ix2 r k)) + x3 (ix2 ⟨0 + e.val, by omega⟩ 0) := by
  unfold out0_12
  rw [View.canon_cons_unit_lit _ _ _ (by decide)]
  refine (pay15_at _ _ _ e r).trans ((congrArg₂ (fun a b : EReal => a + b) (Finset.sum_congr rfl fun k _ => ?_) (band' _ x3 e (by omega))))
  rw [x_at, band _ x2 e k (by omega)]
theorem body13_at (i : grid0.Coords) (x0 : Vec Ideal S256x1024 .f32) (x1 : Vec Ideal S1024x4608 .bf16) (x2 : Vec Ideal S2080x1024 .bf16) (x3 : Vec Ideal S2080x1 .f32) (e : Fin 32) (r : Fin 256) :
    out0_13 i x0 x1 x2 x3 (ix2 e r) = Ideal.logistic ((∑ k : Fin 1024, x2 (ix2 ⟨1024 + e.val, by omega⟩ k) * x0 (ix2 r k)) + x3 (ix2 ⟨1024 + e.val, by omega⟩ 0)) := by
  unfold out0_13
  rw [View.canon_cons_unit_lit _ _ _ (by decide)]
  refine (pay16_at _ _ _ e r).trans (congrArg Ideal.logistic (congrArg₂ (fun a b : EReal => a + b) (Finset.sum_congr rfl fun k _ => ?_) (band' _ x3 e (by omega))))
  rw [x_at, band _ x2 e k (by omega)]
theorem body14_at (i : grid0.Coords) (x0 : Vec Ideal S256x1024 .f32) (x1 : Vec Ideal S1024x4608 .bf16) (x2 : Vec Ideal S2080x1024 .bf16) (x3 : Vec Ideal S2080x1 .f32) (e : Fin 1024) (r : Fin 256) :
    out0_14 i x0 x1 x2 x3 (ix2 e r) = (∑ k : Fin 1024, x2 (ix2 ⟨1056 + e.val, by omega⟩ k) * x0 (ix2 r k)) + x3 (ix2 ⟨1056 + e.val, by omega⟩ 0) := by
  unfold out0_14
  rw [View.canon_cons_unit_lit _ _ _ (by decide)]
  refine (pay17_at _ _ _ e r).trans ((congrArg₂ (fun a b : EReal => a + b) (Finset.sum_congr rfl fun k _ => ?_) (band' _ x3 e (by omega))))
  rw [x_at, band _ x2 e k (by omega)]

/-! ## The blocks of a tile -/

theorem v0_at (c : Dev nD) (r : Fin 16384) (l : Fin 1024) : (V m c main_v64 : FVec Ideal S16384x1024 .f32) (ix2 r l)
    = ax m c (ix3 ⟨r.val / 2048, by omega⟩ ⟨r.val % 2048, by omega⟩ l) := by
  unfold V
  after_reads_at

theorem idx : ∀ t : Fin cfg0.N, win0_0.index t = ![(grid0.coords t 0).val, 0]
    ∧ win0_1.index t = ![0, 0] ∧ win0_2.index t = ![0, 0] ∧ win0_3.index t = ![0, 0] :=
  (by decide +kernel : ∀ t : Fin grid0.N, _)

/-- A grid point's place among the row blocks. -/
abbrev gi (t : Fin cfg0.N) : Fin 64 := ⟨(grid0.coords t 0).val, (grid0.coords t 0).isLt⟩

/-- The arranged weights, their turned rows, and what is added to those. -/
abbrev wcol (c : Dev nD) : FVec Ideal S1024x4608 .bf16 := V m c main_v60
abbrev wrow (c : Dev nD) : FVec Ideal S2080x1024 .bf16 := V m c main_v63
abbrev waug (c : Dev nD) : FVec Ideal S2080x1 .f32 := V m c main_v107

theorem blk0_at (c : Dev nD) (t : Fin cfg0.N) (r : Fin 256) (l : Fin 1024) : (iblk m c 0 t : Vec Ideal S256x1024 .f32) (ix2 r l)
    = ax m c (ix3 ⟨((gi t).val * 256 + r.val) / 2048, by omega⟩ ⟨((gi t).val * 256 + r.val) % 2048, by omega⟩ l) := by
  refine Eq.trans ?_ (v0_at m c ⟨(gi t).val * 256 + r.val, by omega⟩ l)
  blk_ext [iblk, idx t]
theorem blk1_at (c : Dev nD) (t : Fin cfg0.N) (k : Fin 1024) (e : Fin 4608) : (iblk m c 1 t : Vec Ideal S1024x4608 .bf16) (ix2 k e)
    = wcol m c (ix2 k e) := by
  blk_ext [iblk, idx t]
theorem blk2_at (c : Dev nD) (t : Fin cfg0.N) (e : Fin 2080) (k : Fin 1024) : (iblk m c 2 t : Vec Ideal S2080x1024 .bf16) (ix2 e k)
    = wrow m c (ix2 e k) := by
  blk_ext [iblk, idx t]
theorem blk3_at (c : Dev nD) (t : Fin cfg0.N) (e : Fin 2080) : (iblk m c 3 t : Vec Ideal S2080x1 .f32) (ix2 e 0)
    = waug m c (ix2 e 0) := by
  blk_ext [iblk, idx t]

/-- A token's product with a column of the arranged weights, zero outside. -/
def colsum (c : Dev nD) (n x : ℕ) : EReal := if h : n < 16384 ∧ x < 4608 then
  ∑ k : Fin 1024, ax m c (ix3 ⟨n / 2048, by omega⟩ ⟨n % 2048, by omega⟩ k) * wcol m c (ix2 k ⟨x, h.2⟩) else 0
/-- And with a row of the turned ones, with what is added to that row. -/
def rowsum (c : Dev nD) (x n : ℕ) : EReal := if h : n < 16384 ∧ x < 2080 then
  (∑ k : Fin 1024, wrow m c (ix2 ⟨x, h.2⟩ k) * ax m c (ix3 ⟨n / 2048, by omega⟩ ⟨n % 2048, by omega⟩ k))
    + waug m c (ix2 ⟨x, h.2⟩ 0) else 0

theorem tile4_at (c : Dev nD) (t : Fin cfg0.N) (r : Fin 256) (e : Fin 256) (he : e.val % 128 < 64) :
    ((dats m 0 c).after 4 t : Vec Ideal S256x256 .bf16) (ix2 r e) = colsum m c ((gi t).val * 256 + r.val) (0 + e.val) := by
  rw [after0_4, body4_at _ _ _ _ _ r e he, colsum, dif_pos ⟨by omega, by omega⟩]
  simp only [blk0_at, blk1_at]
theorem tile5_at (c : Dev nD) (t : Fin cfg0.N) (r : Fin 256) (e : Fin 256) (he : e.val % 128 < 64) :
    ((dats m 0 c).after 5 t : Vec Ideal S256x256 .bf16) (ix2 r e) = colsum m c ((gi t).val * 256 + r.val) (256 + e.val) := by
  rw [after0_5, body5_at _ _ _ _ _ r e he, colsum, dif_pos ⟨by omega, by omega⟩]
  simp only [blk0_at, blk1_at]
theorem tile6_at (c : Dev nD) (t : Fin cfg0.N) (r : Fin 256) (e : Fin 256) :
    ((dats m 0 c).after 6 t : Vec Ideal S256x256 .bf16) (ix2 r e) = colsum m c ((gi t).val * 256 + r.val) (512 + e.val) := by
  rw [after0_6, body6_at _ _ _ _ _ r e, colsum, dif_pos ⟨by omega, by omega⟩]
  simp only [blk0_at, blk1_at]
theorem tile7_at (c : Dev nD) (t : Fin cfg0.N) (r : Fin 256) (e : Fin 256) :
    ((dats m 0 c).after 7 t : Vec Ideal S256x256 .bf16) (ix2 r e) = colsum m c ((gi t).val * 256 + r.val) (768 + e.val) := by
  rw [after0_7, body7_at _ _ _ _ _ r e, colsum, dif_pos ⟨by omega, by omega⟩]
  simp only [blk0_at, blk1_at]
theorem tile8_at (c : Dev nD) (t : Fin cfg0.N) (r : Fin 256) (e : Fin 1024) (he : e.val % 128 < 64) :
    ((dats m 0 c).after 8 t : Vec Ideal S256x1024 .bf16) (ix2 r e) = colsum m c ((gi t).val * 256 + r.val) (1024 + e.val) := by
  rw [after0_8, body8_at _ _ _ _ _ r e he, colsum, dif_pos ⟨by omega, by omega⟩]
  simp only [blk0_at, blk1_at]
theorem tile9_at (c : Dev nD) (t : Fin cfg0.N) (r : Fin 256) (e : Fin 512) :
    ((dats m 0 c).after 9 t : Vec Ideal S256x512 .bf16) (ix2 r e) = colsum m c ((gi t).val * 256 + r.val) (2048 + e.val) := by
  rw [after0_9, body9_at _ _ _ _ _ r e, colsum, dif_pos ⟨by omega, by omega⟩]
  simp only [blk0_at, blk1_at]
theorem tile10_at (c : Dev nD) (t : Fin cfg0.N) (r : Fin 256) (e : Fin 1024) :
    ((dats m 0 c).after 10 t : Vec Ideal S256x1024 .bf16) (ix2 r e) = Ideal.logistic (colsum m c ((gi t).val * 256 + r.val) (2560 + e.val)) := by
  rw [after0_10, body10_at _ _ _ _ _ r e, colsum, dif_pos ⟨by omega, by omega⟩]
  simp only [blk0_at, blk1_at]
theorem tile11_at (c : Dev nD) (t : Fin cfg0.N) (r : Fin 256) (e : Fin 1024) :
    ((dats m 0 c).after 11 t : Vec Ideal S256x1024 .bf16) (ix2 r e) = Ideal.logistic (colsum m c ((gi t).val * 256 + r.val) (3584 + e.val)) := by
  rw [after0_11, body11_at _ _ _ _ _ r e, colsum, dif_pos ⟨by omega, by omega⟩]
  simp only [blk0_at, blk1_at]
theorem tile12_at (c : Dev nD) (t : Fin cfg0.N) (e : Fin 1024) (r : Fin 256) :
    ((dats m 0 c).after 12 t : Vec Ideal S1024x256 .bf16) (ix2 e r) = rowsum m c (0 + e.val) ((gi t).val * 256 + r.val) := by
  rw [after0_12, body12_at _ _ _ _ _ e r, rowsum, dif_pos ⟨by omega, by omega⟩]
  simp only [blk0_at, blk2_at, blk3_at]
theorem tile13_at (c : Dev nD) (t : Fin cfg0.N) (e : Fin 32) (r : Fin 256) :
    ((dats m 0 c).after 13 t : Vec Ideal S32x256 .f32) (ix2 e r) = Ideal.logistic (rowsum m c (1024 + e.val) ((gi t).val * 256 + r.val)) := by
  rw [after0_13, body13_at _ _ _ _ _ e r, rowsum, dif_pos ⟨by omega, by omega⟩]
  simp only [blk0_at, blk2_at, blk3_at]
theorem tile14_at (c : Dev nD) (t : Fin cfg0.N) (e : Fin 1024) (r : Fin 256) :
    ((dats m 0 c).after 14 t : Vec Ideal S1024x256 .bf16) (ix2 e r) = rowsum m c (1056 + e.val) ((gi t).val * 256 + r.val) := by
  rw [after0_14, body14_at _ _ _ _ _ e r, rowsum, dif_pos ⟨by omega, by omega⟩]
  simp only [blk0_at, blk2_at, blk3_at]

/-! ## The arrays the call leaves -/

theorem idx' : ∀ t : Fin cfg0.N, win0_4.index t = ![(grid0.coords t 0).val, 0] ∧ win0_5.index t = ![(grid0.coords t 0).val, 0] ∧ win0_6.index t = ![(grid0.coords t 0).val, 0] ∧ win0_7.index t = ![(grid0.coords t 0).val, 0] ∧ win0_8.index t = ![(grid0.coords t 0).val, 0] ∧ win0_9.index t = ![(grid0.coords t 0).val, 0] ∧ win0_10.index t = ![(grid0.coords t 0).val, 0] ∧ win0_11.index t = ![(grid0.coords t 0).val, 0] ∧ win0_12.index t = ![0, (grid0.coords t 0).val] ∧ win0_13.index t = ![0, (grid0.coords t 0).val] ∧ win0_14.index t = ![0, (grid0.coords t 0).val] :=
  (by decide +kernel : ∀ t : Fin grid0.N, _)

theorem array4 (c : Dev nD) (n : Fin 16384) (x : Fin 256) (hx : x.val % 128 < 64) :
    ((dats m 0 c).arrAt 4 cfg0.N : FVec Ideal S16384x256 .bf16) (ix2 n x) = colsum m c n.val (x.val) := by
  refine (dats m 0 c).arrAt_forall_of_covers 4 (fun (y : S16384x256.Idx) (v : EReal) => (y 1).val % 128 < 64 → v = colsum m c (y 0).val ((y 1).val)) (by decide +kernel)
    (fun t hf y => ?_) (ix2 n x) (Memref.isWhole_whole _) hx
  blk_simp
  idx_vars y
  have e := (idx' t).1
  have e0 : win0_4.index t 0 = (gi t).val := by rw [e]; rfl
  have e1 : win0_4.index t 1 = 0 := by rw [e]; rfl
  have f0 : win0_4.index t 0 * 256 + y0.val = (gi t).val * 256 + y0.val := by rw [e0]
  have f1 : win0_4.index t 1 * 256 + y1.val = y1.val := by simp only [e1, Nat.zero_mul, Nat.zero_add]
  rw [f0, f1]
  exact fun he => by simpa only [Nat.zero_add] using tile4_at m c t y0 y1 he
theorem array5 (c : Dev nD) (n : Fin 16384) (x : Fin 256) (hx : x.val % 128 < 64) :
    ((dats m 0 c).arrAt 5 cfg0.N : FVec Ideal S16384x256 .bf16) (ix2 n x) = colsum m c n.val (256 + x.val) := by
  refine (dats m 0 c).arrAt_forall_of_covers 5 (fun (y : S16384x256.Idx) (v : EReal) => (y 1).val % 128 < 64 → v = colsum m c (y 0).val (256 + (y 1).val)) (by decide +kernel)
    (fun t hf y => ?_) (ix2 n x) (Memref.isWhole_whole _) hx
  blk_simp
  idx_vars y
  have e := (idx' t).2.1
  have e0 : win0_5.index t 0 = (gi t).val := by rw [e]; rfl
  have e1 : win0_5.index t 1 = 0 := by rw [e]; rfl
  have f0 : win0_5.index t 0 * 256 + y0.val = (gi t).val * 256 + y0.val := by rw [e0]
  have f1 : win0_5.index t 1 * 256 + y1.val = y1.val := by simp only [e1, Nat.zero_mul, Nat.zero_add]
  rw [f0, f1]
  exact fun he => tile5_at m c t y0 y1 he
theorem array6 (c : Dev nD) (n : Fin 16384) (x : Fin 256) :
    ((dats m 0 c).arrAt 6 cfg0.N : FVec Ideal S16384x256 .bf16) (ix2 n x) = colsum m c n.val (512 + x.val) := by
  refine (dats m 0 c).arrAt_forall_of_covers 6 (fun (y : S16384x256.Idx) (v : EReal) => v = colsum m c (y 0).val (512 + (y 1).val)) (by decide +kernel)
    (fun t hf y => ?_) (ix2 n x)
  blk_simp
  idx_vars y
  have e := (idx' t).2.2.1
  have e0 : win0_6.index t 0 = (gi t).val := by rw [e]; rfl
  have e1 : win0_6.index t 1 = 0 := by rw [e]; rfl
  have f0 : win0_6.index t 0 * 256 + y0.val = (gi t).val * 256 + y0.val := by rw [e0]
  have f1 : win0_6.index t 1 * 256 + y1.val = y1.val := by simp only [e1, Nat.zero_mul, Nat.zero_add]
  rw [f0, f1]
  exact tile6_at m c t y0 y1
theorem array7 (c : Dev nD) (n : Fin 16384) (x : Fin 256) :
    ((dats m 0 c).arrAt 7 cfg0.N : FVec Ideal S16384x256 .bf16) (ix2 n x) = colsum m c n.val (768 + x.val) := by
  refine (dats m 0 c).arrAt_forall_of_covers 7 (fun (y : S16384x256.Idx) (v : EReal) => v = colsum m c (y 0).val (768 + (y 1).val)) (by decide +kernel)
    (fun t hf y => ?_) (ix2 n x)
  blk_simp
  idx_vars y
  have e := (idx' t).2.2.2.1
  have e0 : win0_7.index t 0 = (gi t).val := by rw [e]; rfl
  have e1 : win0_7.index t 1 = 0 := by rw [e]; rfl
  have f0 : win0_7.index t 0 * 256 + y0.val = (gi t).val * 256 + y0.val := by rw [e0]
  have f1 : win0_7.index t 1 * 256 + y1.val = y1.val := by simp only [e1, Nat.zero_mul, Nat.zero_add]
  rw [f0, f1]
  exact tile7_at m c t y0 y1
theorem array8 (c : Dev nD) (n : Fin 16384) (x : Fin 1024) (hx : x.val % 128 < 64) :
    ((dats m 0 c).arrAt 8 cfg0.N : FVec Ideal S16384x1024 .bf16) (ix2 n x) = colsum m c n.val (1024 + x.val) := by
  refine (dats m 0 c).arrAt_forall_of_covers 8 (fun (y : S16384x1024.Idx) (v : EReal) => (y 1).val % 128 < 64 → v = colsum m c (y 0).val (1024 + (y 1).val)) (by decide +kernel)
    (fun t hf y => ?_) (ix2 n x) (Memref.isWhole_whole _) hx
  blk_simp
  idx_vars y
  have e := (idx' t).2.2.2.2.1
  have e0 : win0_8.index t 0 = (gi t).val := by rw [e]; rfl
  have e1 : win0_8.index t 1 = 0 := by rw [e]; rfl
  have f0 : win0_8.index t 0 * 256 + y0.val = (gi t).val * 256 + y0.val := by rw [e0]
  have f1 : win0_8.index t 1 * 1024 + y1.val = y1.val := by simp only [e1, Nat.zero_mul, Nat.zero_add]
  rw [f0, f1]
  exact fun he => tile8_at m c t y0 y1 he
theorem array9 (c : Dev nD) (n : Fin 16384) (x : Fin 512) :
    ((dats m 0 c).arrAt 9 cfg0.N : FVec Ideal S16384x512 .bf16) (ix2 n x) = colsum m c n.val (2048 + x.val) := by
  refine (dats m 0 c).arrAt_forall_of_covers 9 (fun (y : S16384x512.Idx) (v : EReal) => v = colsum m c (y 0).val (2048 + (y 1).val)) (by decide +kernel)
    (fun t hf y => ?_) (ix2 n x)
  blk_simp
  idx_vars y
  have e := (idx' t).2.2.2.2.2.1
  have e0 : win0_9.index t 0 = (gi t).val := by rw [e]; rfl
  have e1 : win0_9.index t 1 = 0 := by rw [e]; rfl
  have f0 : win0_9.index t 0 * 256 + y0.val = (gi t).val * 256 + y0.val := by rw [e0]
  have f1 : win0_9.index t 1 * 512 + y1.val = y1.val := by simp only [e1, Nat.zero_mul, Nat.zero_add]
  rw [f0, f1]
  exact tile9_at m c t y0 y1
theorem array10 (c : Dev nD) (n : Fin 16384) (x : Fin 1024) :
    ((dats m 0 c).arrAt 10 cfg0.N : FVec Ideal S16384x1024 .bf16) (ix2 n x) = Ideal.logistic (colsum m c n.val (2560 + x.val)) := by
  refine (dats m 0 c).arrAt_forall_of_covers 10 (fun (y : S16384x1024.Idx) (v : EReal) => v = Ideal.logistic (colsum m c (y 0).val (2560 + (y 1).val))) (by decide +kernel)
    (fun t hf y => ?_) (ix2 n x)
  blk_simp
  idx_vars y
  have e := (idx' t).2.2.2.2.2.2.1
  have e0 : win0_10.index t 0 = (gi t).val := by rw [e]; rfl
  have e1 : win0_10.index t 1 = 0 := by rw [e]; rfl
  have f0 : win0_10.index t 0 * 256 + y0.val = (gi t).val * 256 + y0.val := by rw [e0]
  have f1 : win0_10.index t 1 * 1024 + y1.val = y1.val := by simp only [e1, Nat.zero_mul, Nat.zero_add]
  rw [f0, f1]
  exact tile10_at m c t y0 y1
theorem array11 (c : Dev nD) (n : Fin 16384) (x : Fin 1024) :
    ((dats m 0 c).arrAt 11 cfg0.N : FVec Ideal S16384x1024 .bf16) (ix2 n x) = Ideal.logistic (colsum m c n.val (3584 + x.val)) := by
  refine (dats m 0 c).arrAt_forall_of_covers 11 (fun (y : S16384x1024.Idx) (v : EReal) => v = Ideal.logistic (colsum m c (y 0).val (3584 + (y 1).val))) (by decide +kernel)
    (fun t hf y => ?_) (ix2 n x)
  blk_simp
  idx_vars y
  have e := (idx' t).2.2.2.2.2.2.2.1
  have e0 : win0_11.index t 0 = (gi t).val := by rw [e]; rfl
  have e1 : win0_11.index t 1 = 0 := by rw [e]; rfl
  have f0 : win0_11.index t 0 * 256 + y0.val = (gi t).val * 256 + y0.val := by rw [e0]
  have f1 : win0_11.index t 1 * 1024 + y1.val = y1.val := by simp only [e1, Nat.zero_mul, Nat.zero_add]
  rw [f0, f1]
  exact tile11_at m c t y0 y1
theorem array12 (c : Dev nD) (x : Fin 1024) (n : Fin 16384) :
    ((dats m 0 c).arrAt 12 cfg0.N : FVec Ideal S1024x16384 .bf16) (ix2 x n) = rowsum m c (x.val) n.val := by
  refine (dats m 0 c).arrAt_forall_of_covers 12 (fun (y : S1024x16384.Idx) (v : EReal) => v = rowsum m c ((y 0).val) (y 1).val) (by decide +kernel)
    (fun t hf y => ?_) (ix2 x n)
  blk_simp
  idx_vars y
  have e := (idx' t).2.2.2.2.2.2.2.2.1
  have e0 : win0_12.index t 0 = 0 := by rw [e]; rfl
  have e1 : win0_12.index t 1 = (gi t).val := by rw [e]; rfl
  have f0 : win0_12.index t 0 * 1024 + y0.val = y0.val := by simp only [e0, Nat.zero_mul, Nat.zero_add]
  have f1 : win0_12.index t 1 * 256 + y1.val = (gi t).val * 256 + y1.val := by rw [e1]
  rw [f0, f1]
  exact by simpa only [Nat.zero_add] using tile12_at m c t y0 y1
theorem array13 (c : Dev nD) (x : Fin 32) (n : Fin 16384) :
    ((dats m 0 c).arrAt 13 cfg0.N : FVec Ideal S32x16384 .f32) (ix2 x n) = Ideal.logistic (rowsum m c (1024 + x.val) n.val) := by
  refine (dats m 0 c).arrAt_forall_of_covers 13 (fun (y : S32x16384.Idx) (v : EReal) => v = Ideal.logistic (rowsum m c (1024 + (y 0).val) (y 1).val)) (by decide +kernel)
    (fun t hf y => ?_) (ix2 x n)
  blk_simp
  idx_vars y
  have e := (idx' t).2.2.2.2.2.2.2.2.2.1
  have e0 : win0_13.index t 0 = 0 := by rw [e]; rfl
  have e1 : win0_13.index t 1 = (gi t).val := by rw [e]; rfl
  have f0 : win0_13.index t 0 * 32 + y0.val = y0.val := by simp only [e0, Nat.zero_mul, Nat.zero_add]
  have f1 : win0_13.index t 1 * 256 + y1.val = (gi t).val * 256 + y1.val := by rw [e1]
  rw [f0, f1]
  exact tile13_at m c t y0 y1
theorem array14 (c : Dev nD) (x : Fin 1024) (n : Fin 16384) :
    ((dats m 0 c).arrAt 14 cfg0.N : FVec Ideal S1024x16384 .bf16) (ix2 x n) = rowsum m c (1056 + x.val) n.val := by
  refine (dats m 0 c).arrAt_forall_of_covers 14 (fun (y : S1024x16384.Idx) (v : EReal) => v = rowsum m c (1056 + (y 0).val) (y 1).val) (by decide +kernel)
    (fun t hf y => ?_) (ix2 x n)
  blk_simp
  idx_vars y
  have e := (idx' t).2.2.2.2.2.2.2.2.2.2
  have e0 : win0_14.index t 0 = 0 := by rw [e]; rfl
  have e1 : win0_14.index t 1 = (gi t).val := by rw [e]; rfl
  have f0 : win0_14.index t 0 * 1024 + y0.val = y0.val := by simp only [e0, Nat.zero_mul, Nat.zero_add]
  have f1 : win0_14.index t 1 * 256 + y1.val = (gi t).val * 256 + y1.val := by rw [e1]
  rw [f0, f1]
  exact tile14_at m c t y0 y1

end Cert.Project

end
-- ==== Proof.ProjectOut.lean ====
module

public import proofs.«01_k».proof.Proof.ProjectTile

@[expose] public section

set_option maxRecDepth 16384

noncomputable section

/-! The projection's thirteen results, after the host has cut the arrays back. -/

namespace Cert.Project

open Cert.Kernel4Ideal Cert.Kernel4Ideal.Gen Idealize.ShloMosaic Idealize.ShloMosaic.TcCoe Idealize.SL.Sem

/-- A token's product with a column of the weight. -/
def prod (X : FVec Ideal S8x2048x1024 .f32) (W : FVec Ideal S1024x4888 .f32) (i : Fin 8) (t : Fin 2048) (x : ℕ) : EReal :=
  ∑ k : Fin 1024, X (ix3 i t k) * ent W k x

/-- An eighth, which scales the queries. -/
theorem eighth : Ideal.ofBits .f32 0x3E000000#32 = ((1 / 8 : ℝ) : EReal) := by
  simp [Ideal.ofBits, Ideal.ieee, -EReal.coe_mul]
  norm_num

/-- A real factor that isn't negative comes out of a sum. -/
theorem sum_scaled {n : ℕ} (f : Fin n → EReal) (s : ℝ) (hs : 0 ≤ s) : ∑ k, f k * (s : EReal) = (∑ k, f k) * (s : EReal) := by
  have hs' : (0 : EReal) ≤ (s : EReal) := by exact_mod_cast hs
  induction n with
  | zero => simp
  | succ n ih =>
    rw [Fin.sum_univ_castSucc, Fin.sum_univ_castSucc, ih fun k => f k.castSucc, mul_comm (∑ k, f _), mul_comm (f _), mul_comm (_ + _),
      EReal.left_distrib_of_nonneg_of_ne_top hs' (EReal.coe_ne_top s)]

variable (m : (ℓ : Loc nD τ sig) → Buf (Elt Ideal) ℓ)

theorem colsum_eq (c : Dev nD) (i : Fin 8) (t : Fin 2048) (n x y : ℕ) (hn : n = i.val * 2048 + t.val) (hx : x < 4608)
    (h : ∀ k, wcol m c (ix2 k ⟨x, hx⟩) = ent (aw m c) k y) : colsum m c n x = prod (ax m c) (aw m c) i t y := by
  subst hn
  unfold colsum prod
  rw [dif_pos ⟨by omega, hx⟩]
  refine Finset.sum_congr rfl fun k _ => ?_
  rw [h k]
  refine congrArg (· * ent (aw m c) k y) (congrArg (ax m c) ?_)
  idx_ext
theorem rowsum_eq (c : Dev nD) (i : Fin 8) (t : Fin 2048) (n x y : ℕ) (hn : n = i.val * 2048 + t.val) (hx : x < 2080)
    (h : ∀ k, wrow m c (ix2 ⟨x, hx⟩ k) = ent (aw m c) k y) (ha : waug m c (ix2 ⟨x, hx⟩ 0) = (0 : EReal)) :
    rowsum m c x n = prod (ax m c) (aw m c) i t y := by
  subst hn
  unfold rowsum prod
  rw [dif_pos ⟨by omega, hx⟩, ha]
  refine (add_zero _).trans (Finset.sum_congr rfl fun k _ => ?_)
  rw [h k]
  refine (mul_comm _ _).trans (congrArg (· * ent (aw m c) k y) (congrArg (ax m c) ?_))
  idx_ext
theorem rowsum_scaled (c : Dev nD) (i : Fin 8) (t : Fin 2048) (n x y : ℕ) (hn : n = i.val * 2048 + t.val) (hx : x < 2080)
    (h : ∀ k, wrow m c (ix2 ⟨x, hx⟩ k) = ent (aw m c) k y * Ideal.ofBits .f32 0x3E000000#32) (ha : waug m c (ix2 ⟨x, hx⟩ 0) = (0 : EReal)) :
    rowsum m c x n = prod (ax m c) (aw m c) i t y * Ideal.ofBits .f32 0x3E000000#32 := by
  subst hn
  unfold rowsum prod
  rw [dif_pos ⟨by omega, hx⟩, ha]
  simp only [h]
  rw [eighth, ← sum_scaled _ _ (by norm_num)]
  refine (add_zero _).trans (Finset.sum_congr rfl fun k _ => ?_)
  refine (mul_comm _ _).trans ((mul_assoc _ _ _).symm.trans (congrArg (· * ((1 / 8 : ℝ) : EReal)) (congrArg (· * ent (aw m c) k y) (congrArg (ax m c) ?_))))
  idx_ext

/-- The widened rows of heads in pairs, cut back: the element that each place is read from. -/
theorem unpaired_at (Z : FVec Ideal S16384x1024 .bf16) (i : Fin 8) (t : Fin 2048) (e : Fin 512) :
    (shapeCast S8x2048x512 (transpose S16384x2x4x64 [0, 2, 1, 3] (shapeCast S16384x4x2x64 (shapeCast S8x2048x512
      (extractStridedSlice S16384x8x64 ![0, 0, 0] (shapeCast S16384x8x128 Z shapeCasts_S16384x1024_S16384x8x128)
        slices_S16384x8x128_S16384x8x64_0_0_0) shapeCasts_S16384x8x64_S8x2048x512) shapeCasts_S8x2048x512_S16384x4x2x64)
      transposes_S16384x4x2x64_S16384x2x4x64_0_2_1_3) shapeCasts_S16384x2x4x64_S8x2048x512 : FVec Ideal S8x2048x512 .bf16) (ix3 i t e)
      = Z (ix2 ⟨i.val * 2048 + t.val, by omega⟩ ⟨128 * (2 * (e.val / 64 % 4) + e.val / 256) + e.val % 64, by omega⟩) := by
  pointwise
  refine congrArg Z ?_
  idx_ext

/-- Result 0. -/
def out0 (c : Dev nD) : S8x2048x512.Idx → EReal := fun y => prod (ax m c) (aw m c) (y 0) (y 1) ((y 2).val) * Ideal.ofBits .f32 0x3E000000#32
theorem tail0 (c : Dev nD) : Pipeline.afterTail₀ cfgs (dats m) 0 (V0 m) [hostOps1] c main_v116 = (out0 m c : FVec Ideal S8x2048x512 .bf16) := by
  have h : Pipeline.withArrays spec0 c (V0 m c) (fun w => (dats m 0 c).arrAt w cfg0.N) (Proc.devRef .tc main_v108_8)
      = (dats m 0 c).arrAt 12 cfg0.N := Pipeline.withArrays_arr spec0 (by decide) c (V0 m c) _ 12
  unfold Pipeline.afterTail₀
  show StableHlo.after hostOps1 _ _ = _
  funext y
  idx_vars y
  after_reads_at
  refine (congrFun h _).trans ((array12 m c _ _).trans ?_)
  show _ = prod (ax m c) (aw m c) y0 y1 (y2.val) * Ideal.ofBits .f32 0x3E000000#32
  exact rowsum_scaled m c y0 y1 _ _ _ (by first | omega | (dsimp only <;> omega)) (by first | omega | (dsimp only <;> omega)) (fun k => (qn_row m c k (y2.val / 64) (y2.val % 64) (by omega) (by omega) ⟨_, _⟩ (by first | omega | (dsimp only <;> omega))).trans (congrArg (fun z => ent _ k z * _) (by omega))) (qn_aug m c (y2.val / 64) (y2.val % 64) (by omega) (by omega) ⟨_, _⟩ (by first | omega | (dsimp only <;> omega)))
/-- Result 1. -/
def out1 (c : Dev nD) : S8x2048x128.Idx → EReal := fun y => prod (ax m c) (aw m c) (y 0) (y 1) (512 + (y 2).val)
theorem tail1 (c : Dev nD) : Pipeline.afterTail₀ cfgs (dats m) 0 (V0 m) [hostOps1] c main_v120 = (out1 m c : FVec Ideal S8x2048x128 .bf16) := by
  have h : Pipeline.withArrays spec0 c (V0 m c) (fun w => (dats m 0 c).arrAt w cfg0.N) (Proc.devRef .tc main_v108_3)
      = (dats m 0 c).arrAt 7 cfg0.N := Pipeline.withArrays_arr spec0 (by decide) c (V0 m c) _ 7
  unfold Pipeline.afterTail₀
  show StableHlo.after hostOps1 _ _ = _
  funext y
  idx_vars y
  after_reads_at
  refine (congrFun h _).trans ((array7 m c _ _).trans ?_)
  show _ = prod (ax m c) (aw m c) y0 y1 (512 + y2.val)
  exact colsum_eq m c y0 y1 _ _ _ (by first | omega | (dsimp only <;> omega)) (by first | omega | (dsimp only <;> omega)) fun k => (kc_col m c k (y2.val / 64) (y2.val % 64) (by omega) (by omega) ⟨_, _⟩ (by first | omega | (dsimp only <;> omega))).trans (congrArg (ent _ k) (by omega))
/-- Result 2. -/
def out2 (c : Dev nD) : S8x2048x128.Idx → EReal := fun y => prod (ax m c) (aw m c) (y 0) (y 1) (640 + (y 2).val)
theorem tail2 (c : Dev nD) : Pipeline.afterTail₀ cfgs (dats m) 0 (V0 m) [hostOps1] c main_v124 = (out2 m c : FVec Ideal S8x2048x128 .bf16) := by
  have h : Pipeline.withArrays spec0 c (V0 m c) (fun w => (dats m 0 c).arrAt w cfg0.N) (Proc.devRef .tc main_v108_3)
      = (dats m 0 c).arrAt 7 cfg0.N := Pipeline.withArrays_arr spec0 (by decide) c (V0 m c) _ 7
  unfold Pipeline.afterTail₀
  show StableHlo.after hostOps1 _ _ = _
  funext y
  idx_vars y
  after_reads_at
  refine (congrFun h _).trans ((array7 m c _ _).trans ?_)
  show _ = prod (ax m c) (aw m c) y0 y1 (640 + y2.val)
  exact colsum_eq m c y0 y1 _ _ _ (by first | omega | (dsimp only <;> omega)) (by first | omega | (dsimp only <;> omega)) fun k => (vc_col m c k (y2.val / 64) (y2.val % 64) (by omega) (by omega) ⟨_, _⟩ (by first | omega | (dsimp only <;> omega))).trans (congrArg (ent _ k) (by omega))
/-- Result 3. -/
def out3 (c : Dev nD) : S8x2048x128.Idx → EReal := fun y => prod (ax m c) (aw m c) (y 0) (y 1) (768 + (y 2).val)
theorem tail3 (c : Dev nD) : Pipeline.afterTail₀ cfgs (dats m) 0 (V0 m) [hostOps1] c main_v127 = (out3 m c : FVec Ideal S8x2048x128 .bf16) := by
  have h : Pipeline.withArrays spec0 c (V0 m c) (fun w => (dats m 0 c).arrAt w cfg0.N) (Proc.devRef .tc main_v108_0)
      = (dats m 0 c).arrAt 4 cfg0.N := Pipeline.withArrays_arr spec0 (by decide) c (V0 m c) _ 4
  unfold Pipeline.afterTail₀
  show StableHlo.after hostOps1 _ _ = _
  funext y
  idx_vars y
  after_reads_at
  refine (congrFun h _).trans ((array4 m c _ _ (by first | omega | (dsimp only <;> omega))).trans ?_)
  show _ = prod (ax m c) (aw m c) y0 y1 (768 + y2.val)
  exact colsum_eq m c y0 y1 _ _ _ (by first | omega | (dsimp only <;> omega)) (by first | omega | (dsimp only <;> omega)) fun k => (ksel_col m c k (y2.val / 64) (y2.val % 64) (by omega) (by omega) ⟨_, _⟩ (by first | omega | (dsimp only <;> omega))).trans (congrArg (ent _ k) (by omega))
/-- Result 4. -/
def out4 (c : Dev nD) : S8x2048x128.Idx → EReal := fun y => prod (ax m c) (aw m c) (y 0) (y 1) (896 + (y 2).val)
theorem tail4 (c : Dev nD) : Pipeline.afterTail₀ cfgs (dats m) 0 (V0 m) [hostOps1] c main_v131 = (out4 m c : FVec Ideal S8x2048x128 .bf16) := by
  have h : Pipeline.withArrays spec0 c (V0 m c) (fun w => (dats m 0 c).arrAt w cfg0.N) (Proc.devRef .tc main_v108_2)
      = (dats m 0 c).arrAt 6 cfg0.N := Pipeline.withArrays_arr spec0 (by decide) c (V0 m c) _ 6
  unfold Pipeline.afterTail₀
  show StableHlo.after hostOps1 _ _ = _
  funext y
  idx_vars y
  after_reads_at
  refine (congrFun h _).trans ((array6 m c _ _).trans ?_)
  show _ = prod (ax m c) (aw m c) y0 y1 (896 + y2.val)
  exact colsum_eq m c y0 y1 _ _ _ (by first | omega | (dsimp only <;> omega)) (by first | omega | (dsimp only <;> omega)) fun k => (vs_col m c k (y2.val / 64) (y2.val % 64) (by omega) (by omega) ⟨_, _⟩ (by first | omega | (dsimp only <;> omega))).trans (congrArg (ent _ k) (by omega))
/-- Result 5. -/
def out5 (c : Dev nD) : S8x2048x128.Idx → EReal := fun y => prod (ax m c) (aw m c) (y 0) (y 1) (1024 + (y 2).val)
theorem tail5 (c : Dev nD) : Pipeline.afterTail₀ cfgs (dats m) 0 (V0 m) [hostOps1] c main_v134 = (out5 m c : FVec Ideal S8x2048x128 .bf16) := by
  have h : Pipeline.withArrays spec0 c (V0 m c) (fun w => (dats m 0 c).arrAt w cfg0.N) (Proc.devRef .tc main_v108_1)
      = (dats m 0 c).arrAt 5 cfg0.N := Pipeline.withArrays_arr spec0 (by decide) c (V0 m c) _ 5
  unfold Pipeline.afterTail₀
  show StableHlo.after hostOps1 _ _ = _
  funext y
  idx_vars y
  after_reads_at
  refine (congrFun h _).trans ((array5 m c _ _ (by first | omega | (dsimp only <;> omega))).trans ?_)
  show _ = prod (ax m c) (aw m c) y0 y1 (1024 + y2.val)
  exact colsum_eq m c y0 y1 _ _ _ (by first | omega | (dsimp only <;> omega)) (by first | omega | (dsimp only <;> omega)) fun k => (kwin_col m c k (y2.val / 64) (y2.val % 64) (by omega) (by omega) ⟨_, _⟩ (by first | omega | (dsimp only <;> omega))).trans (congrArg (ent _ k) (by omega))
/-- Result 6. -/
def out6 (c : Dev nD) : S8x2048x128.Idx → EReal := fun y => prod (ax m c) (aw m c) (y 0) (y 1) (1152 + (y 2).val)
theorem tail6 (c : Dev nD) : Pipeline.afterTail₀ cfgs (dats m) 0 (V0 m) [hostOps1] c main_v138 = (out6 m c : FVec Ideal S8x2048x128 .bf16) := by
  have h : Pipeline.withArrays spec0 c (V0 m c) (fun w => (dats m 0 c).arrAt w cfg0.N) (Proc.devRef .tc main_v108_2)
      = (dats m 0 c).arrAt 6 cfg0.N := Pipeline.withArrays_arr spec0 (by decide) c (V0 m c) _ 6
  unfold Pipeline.afterTail₀
  show StableHlo.after hostOps1 _ _ = _
  funext y
  idx_vars y
  after_reads_at
  refine (congrFun h _).trans ((array6 m c _ _).trans ?_)
  show _ = prod (ax m c) (aw m c) y0 y1 (1152 + y2.val)
  exact colsum_eq m c y0 y1 _ _ _ (by first | omega | (dsimp only <;> omega)) (by first | omega | (dsimp only <;> omega)) fun k => (vw_col m c k (y2.val / 64) (y2.val % 64) (by omega) (by omega) ⟨_, _⟩ (by first | omega | (dsimp only <;> omega))).trans (congrArg (ent _ k) (by omega))
/-- Result 7. -/
def out7 (c : Dev nD) : S8x2048x24.Idx → EReal := fun y => Ideal.logistic (prod (ax m c) (aw m c) (y 0) (y 1) (1280 + (y 2).val))
theorem tail7 (c : Dev nD) : Pipeline.afterTail₀ cfgs (dats m) 0 (V0 m) [hostOps1] c main_v112 = (out7 m c : FVec Ideal S8x2048x24 .f32) := by
  have h : Pipeline.withArrays spec0 c (V0 m c) (fun w => (dats m 0 c).arrAt w cfg0.N) (Proc.devRef .tc main_v108_9)
      = (dats m 0 c).arrAt 13 cfg0.N := Pipeline.withArrays_arr spec0 (by decide) c (V0 m c) _ 13
  unfold Pipeline.afterTail₀
  show StableHlo.after hostOps1 _ _ = _
  funext y
  idx_vars y
  after_reads_at
  refine (congrFun h _).trans ((array13 m c _ _).trans ?_)
  show _ = Ideal.logistic (prod (ax m c) (aw m c) y0 y1 (1280 + y2.val))
  exact congrArg Ideal.logistic (rowsum_eq m c y0 y1 _ _ _ (by first | omega | (dsimp only <;> omega)) (by first | omega | (dsimp only <;> omega)) (fun k => (g_row m c k (y2.val / 12) (y2.val % 12) (by omega) (by omega) ⟨_, _⟩ (by first | omega | (dsimp only <;> omega))).trans (congrArg (ent _ k) (by omega))) (g_aug m c (y2.val / 12) (y2.val % 12) (by omega) (by omega) ⟨_, _⟩ (by first | omega | (dsimp only <;> omega))))
/-- Result 8. -/
def out8 (c : Dev nD) : S8x2048x512.Idx → EReal := fun y => prod (ax m c) (aw m c) (y 0) (y 1) (1304 + (y 2).val) * Ideal.ofBits .f32 0x3E000000#32
set_option maxHeartbeats 1600000 in
theorem tail8 (c : Dev nD) : Pipeline.afterTail₀ cfgs (dats m) 0 (V0 m) [hostOps1] c main_v145 = (out8 m c : FVec Ideal S8x2048x512 .bf16) := by
  have h : Pipeline.withArrays spec0 c (V0 m c) (fun w => (dats m 0 c).arrAt w cfg0.N) (Proc.devRef .tc main_v108_10)
      = (dats m 0 c).arrAt 14 cfg0.N := Pipeline.withArrays_arr spec0 (by decide) c (V0 m c) _ 14
  unfold Pipeline.afterTail₀
  show StableHlo.after hostOps1 _ _ = _
  funext y
  idx_vars y
  after_reads_at
  refine (congrFun h _).trans ((array14 m c _ _).trans ?_)
  show _ = prod (ax m c) (aw m c) y0 y1 (1304 + y2.val) * Ideal.ofBits .f32 0x3E000000#32
  exact rowsum_scaled m c y0 y1 _ _ _ (by first | omega | (dsimp only <;> omega)) (by first | omega | (dsimp only <;> omega)) (fun k => (qd_row m c k (y2.val / 64 % 4) (y2.val / 256) (y2.val % 64) (by omega) (by omega) (by omega) ⟨_, _⟩ (by first | omega | (dsimp only <;> omega))).trans (congrArg (fun z => ent _ k z * _) (by omega))) (qd_aug m c (y2.val / 64 % 4) (y2.val / 256) (y2.val % 64) (by omega) (by omega) (by omega) ⟨_, _⟩ (by first | omega | (dsimp only <;> omega)))
/-- Result 9. -/
def out9 (c : Dev nD) : S8x2048x512.Idx → EReal := fun y => prod (ax m c) (aw m c) (y 0) (y 1) (1816 + (y 2).val)
theorem tail9 (c : Dev nD) : Pipeline.afterTail₀ cfgs (dats m) 0 (V0 m) [hostOps1] c main_v151 = (out9 m c : FVec Ideal S8x2048x512 .bf16) := by
  have h : Pipeline.withArrays spec0 c (V0 m c) (fun w => (dats m 0 c).arrAt w cfg0.N) (Proc.devRef .tc main_v108_4)
      = (dats m 0 c).arrAt 8 cfg0.N := Pipeline.withArrays_arr spec0 (by decide) c (V0 m c) _ 8
  obtain ⟨Z, hZ⟩ : ∃ Z : FVec Ideal S16384x1024 .bf16, (dats m 0 c).arrAt 8 cfg0.N = Z := ⟨_, rfl⟩
  rw [hZ] at h
  unfold Pipeline.afterTail₀
  show StableHlo.after hostOps1 _ _ = _
  after_reads_simp
  rw [show Pipeline.withArrays (cfgs 0).spec c (V0 m c) (fun w => (dats m 0 c).arrAt w (cfgs 0).N) (Proc.devRef .tc main_v108_4) = Z from h]
  funext y
  idx_vars y
  refine (unpaired_at Z y0 y1 y2).trans ?_
  refine (congrFun hZ.symm _).trans ((array8 m c _ _ (by first | omega | (dsimp only <;> omega))).trans ?_)
  show _ = prod (ax m c) (aw m c) y0 y1 (1816 + y2.val)
  exact colsum_eq m c y0 y1 _ _ _ (by first | omega | (dsimp only <;> omega)) (by first | omega | (dsimp only <;> omega)) fun k => (kd_col m c k (y2.val / 64 % 4) (y2.val / 256) (y2.val % 64) (by omega) (by omega) (by omega) ⟨_, _⟩ (by first | omega | (dsimp only <;> omega))).trans (congrArg (ent _ k) (by omega))
/-- Result 10. -/
def out10 (c : Dev nD) : S8x2048x512.Idx → EReal := fun y => prod (ax m c) (aw m c) (y 0) (y 1) (2328 + (y 2).val)
theorem tail10 (c : Dev nD) : Pipeline.afterTail₀ cfgs (dats m) 0 (V0 m) [hostOps1] c main_v152 = (out10 m c : FVec Ideal S8x2048x512 .bf16) := by
  have h : Pipeline.withArrays spec0 c (V0 m c) (fun w => (dats m 0 c).arrAt w cfg0.N) (Proc.devRef .tc main_v108_5)
      = (dats m 0 c).arrAt 9 cfg0.N := Pipeline.withArrays_arr spec0 (by decide) c (V0 m c) _ 9
  unfold Pipeline.afterTail₀
  show StableHlo.after hostOps1 _ _ = _
  funext y
  idx_vars y
  after_reads_at
  refine (congrFun h _).trans ((array9 m c _ _).trans ?_)
  show _ = prod (ax m c) (aw m c) y0 y1 (2328 + y2.val)
  exact colsum_eq m c y0 y1 _ _ _ (by first | omega | (dsimp only <;> omega)) (by first | omega | (dsimp only <;> omega)) fun k => (vd_col m c k y2.val (by omega) ⟨_, _⟩ (by first | omega | (dsimp only <;> omega))).trans (congrArg (ent _ k) (by omega))
/-- Result 11. -/
def out11 (c : Dev nD) : S8x2048x1024.Idx → EReal := fun y => Ideal.logistic (prod (ax m c) (aw m c) (y 0) (y 1) (2840 + (y 2).val))
theorem tail11 (c : Dev nD) : Pipeline.afterTail₀ cfgs (dats m) 0 (V0 m) [hostOps1] c main_v153 = (out11 m c : FVec Ideal S8x2048x1024 .bf16) := by
  have h : Pipeline.withArrays spec0 c (V0 m c) (fun w => (dats m 0 c).arrAt w cfg0.N) (Proc.devRef .tc main_v108_6)
      = (dats m 0 c).arrAt 10 cfg0.N := Pipeline.withArrays_arr spec0 (by decide) c (V0 m c) _ 10
  unfold Pipeline.afterTail₀
  show StableHlo.after hostOps1 _ _ = _
  funext y
  idx_vars y
  after_reads_at
  refine (congrFun h _).trans ((array10 m c _ _).trans ?_)
  show _ = Ideal.logistic (prod (ax m c) (aw m c) y0 y1 (2840 + y2.val))
  exact congrArg Ideal.logistic (colsum_eq m c y0 y1 _ _ _ (by first | omega | (dsimp only <;> omega)) (by first | omega | (dsimp only <;> omega)) fun k => (ga_col m c k y2.val (by omega) ⟨_, _⟩ (by first | omega | (dsimp only <;> omega))).trans (congrArg (ent _ k) (by omega)))
/-- Result 12. -/
def out12 (c : Dev nD) : S8x2048x1024.Idx → EReal := fun y => Ideal.logistic (prod (ax m c) (aw m c) (y 0) (y 1) (3864 + (y 2).val))
theorem tail12 (c : Dev nD) : Pipeline.afterTail₀ cfgs (dats m) 0 (V0 m) [hostOps1] c main_v154 = (out12 m c : FVec Ideal S8x2048x1024 .bf16) := by
  have h : Pipeline.withArrays spec0 c (V0 m c) (fun w => (dats m 0 c).arrAt w cfg0.N) (Proc.devRef .tc main_v108_7)
      = (dats m 0 c).arrAt 11 cfg0.N := Pipeline.withArrays_arr spec0 (by decide) c (V0 m c) _ 11
  unfold Pipeline.afterTail₀
  show StableHlo.after hostOps1 _ _ = _
  funext y
  idx_vars y
  after_reads_at
  refine (congrFun h _).trans ((array11 m c _ _).trans ?_)
  show _ = Ideal.logistic (prod (ax m c) (aw m c) y0 y1 (3864 + y2.val))
  exact congrArg Ideal.logistic (colsum_eq m c y0 y1 _ _ _ (by first | omega | (dsimp only <;> omega)) (by first | omega | (dsimp only <;> omega)) fun k => (gb_col m c k y2.val (by omega) ⟨_, _⟩ (by first | omega | (dsimp only <;> omega))).trans (congrArg (ent _ k) (by omega)))
/-- The run: the result arrays, and the arguments unchanged. -/
theorem run (ρ : Dev nD → PrngReg) : θ_run defs (onTc (τ := τ) (main (F := Ideal))) ⟨m, fun _ => 0, ρ⟩ (fun r => ∀ c : Dev nD,
    r.2.mem ((c.tc : Thread nD τ).loc main_v116) = (out0 m c : FVec Ideal S8x2048x512 .bf16)
    ∧ r.2.mem ((c.tc : Thread nD τ).loc main_v120) = (out1 m c : FVec Ideal S8x2048x128 .bf16)
    ∧ r.2.mem ((c.tc : Thread nD τ).loc main_v124) = (out2 m c : FVec Ideal S8x2048x128 .bf16)
    ∧ r.2.mem ((c.tc : Thread nD τ).loc main_v127) = (out3 m c : FVec Ideal S8x2048x128 .bf16)
    ∧ r.2.mem ((c.tc : Thread nD τ).loc main_v131) = (out4 m c : FVec Ideal S8x2048x128 .bf16)
    ∧ r.2.mem ((c.tc : Thread nD τ).loc main_v134) = (out5 m c : FVec Ideal S8x2048x128 .bf16)
    ∧ r.2.mem ((c.tc : Thread nD τ).loc main_v138) = (out6 m c : FVec Ideal S8x2048x128 .bf16)
    ∧ r.2.mem ((c.tc : Thread nD τ).loc main_v112) = (out7 m c : FVec Ideal S8x2048x24 .f32)
    ∧ r.2.mem ((c.tc : Thread nD τ).loc main_v145) = (out8 m c : FVec Ideal S8x2048x512 .bf16)
    ∧ r.2.mem ((c.tc : Thread nD τ).loc main_v151) = (out9 m c : FVec Ideal S8x2048x512 .bf16)
    ∧ r.2.mem ((c.tc : Thread nD τ).loc main_v152) = (out10 m c : FVec Ideal S8x2048x512 .bf16)
    ∧ r.2.mem ((c.tc : Thread nD τ).loc main_v153) = (out11 m c : FVec Ideal S8x2048x1024 .bf16)
    ∧ r.2.mem ((c.tc : Thread nD τ).loc main_v154) = (out12 m c : FVec Ideal S8x2048x1024 .bf16)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h c).2 main_v116 (Pipeline.mem_restRefs_of main_v116 (by decide) (by decide))).trans (tail0 m c),
      ((h c).2 main_v120 (Pipeline.mem_restRefs_of main_v120 (by decide) (by decide))).trans (tail1 m c),
      ((h c).2 main_v124 (Pipeline.mem_restRefs_of main_v124 (by decide) (by decide))).trans (tail2 m c),
      ((h c).2 main_v127 (Pipeline.mem_restRefs_of main_v127 (by decide) (by decide))).trans (tail3 m c),
      ((h c).2 main_v131 (Pipeline.mem_restRefs_of main_v131 (by decide) (by decide))).trans (tail4 m c),
      ((h c).2 main_v134 (Pipeline.mem_restRefs_of main_v134 (by decide) (by decide))).trans (tail5 m c),
      ((h c).2 main_v138 (Pipeline.mem_restRefs_of main_v138 (by decide) (by decide))).trans (tail6 m c),
      ((h c).2 main_v112 (Pipeline.mem_restRefs_of main_v112 (by decide) (by decide))).trans (tail7 m c),
      ((h c).2 main_v145 (Pipeline.mem_restRefs_of main_v145 (by decide) (by decide))).trans (tail8 m c),
      ((h c).2 main_v151 (Pipeline.mem_restRefs_of main_v151 (by decide) (by decide))).trans (tail9 m c),
      ((h c).2 main_v152 (Pipeline.mem_restRefs_of main_v152 (by decide) (by decide))).trans (tail10 m c),
      ((h c).2 main_v153 (Pipeline.mem_restRefs_of main_v153 (by decide) (by decide))).trans (tail11 m c),
      ((h c).2 main_v154 (Pipeline.mem_restRefs_of main_v154 (by decide) (by decide))).trans (tail12 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Project

end
-- ==== Proof.ProjectRef.lean ====
module

public import proofs.«01_k».proof.Proof.ProjectOut
public import proofs.«01_k».proof.Proof.Gen.Reference4Ideal.Run
public import proofs.«01_k».proof.Defs

@[expose] public section

set_option maxRecDepth 16384

noncomputable section

/-! The projection's reference, at an index, and the claim. -/

namespace Cert.ProjectRef

open Cert.Reference4Ideal Cert.Reference4Ideal.Gen Idealize.ShloMosaic Idealize.ShloMosaic.TcCoe Idealize.SL.Sem Idealize.ShloMosaic.StableHlo
open Cert.Project (prod ent ent_eq)

variable (X : FVec Ideal S8x2048x1024 .f32) (W : FVec Ideal S1024x4888 .f32)

/-- The product at a column. -/
theorem product_at (i : Fin 8) (t : Fin 2048) (x : Fin 4888) (y : ℕ) (h : x.val = y) :
    (Host.dotGeneral (F := Ideal) dot_S8x2048x1024_S1024x4888_S8x2048x4888_2_0_01_1_n_n none X W : FVec Ideal S8x2048x4888 .f32) (ix3 i t x) = prod X W i t y := by
  pointwise
  exact Finset.sum_congr rfl fun k _ => congrArg (X (ix3 i t k) * ·) (ent_eq W k k x rfl h)

theorem result0_at (i : Fin 8) (t : Fin 2048) (e : Fin 512) :
    (truncf .bf16 (mulf (extractStridedSlice S8x2048x512 ![0, 0, 0] (Host.dotGeneral (F := Ideal) dot_S8x2048x1024_S1024x4888_S8x2048x4888_2_0_01_1_n_n none X W) slices_S8x2048x4888_S8x2048x512_0_0_0) (broadcastInDim S8x2048x512 ![] bcast_S_S8x2048x512 (constant S_ .f32 0x3E000000#32))) bitsLt_bf16_f32 : FVec Ideal S8x2048x512 .bf16) (ix3 i t e) = prod X W i t (e.val) * Ideal.ofBits .f32 0x3E000000#32 := by
  generalize hP : (Host.dotGeneral (F := Ideal) dot_S8x2048x1024_S1024x4888_S8x2048x4888_2_0_01_1_n_n none X W : FVec Ideal S8x2048x4888 .f32) = P
  pointwise
  rw [← hP]
  exact congrArg (· * Ideal.ofBits .f32 0x3E000000#32) (product_at X W i t ⟨_, _⟩ _ (by dsimp only <;> omega))
theorem result1_at (i : Fin 8) (t : Fin 2048) (e : Fin 128) :
    (truncf .bf16 (extractStridedSlice S8x2048x128 ![0, 0, 0] (extractStridedSlice S8x2048x768 ![0, 0, 512] (Host.dotGeneral (F := Ideal) dot_S8x2048x1024_S1024x4888_S8x2048x4888_2_0_01_1_n_n none X W) slices_S8x2048x4888_S8x2048x768_0_0_512) slices_S8x2048x768_S8x2048x128_0_0_0) bitsLt_bf16_f32 : FVec Ideal S8x2048x128 .bf16) (ix3 i t e) = prod X W i t (512 + e.val) := by
  generalize hP : (Host.dotGeneral (F := Ideal) dot_S8x2048x1024_S1024x4888_S8x2048x4888_2_0_01_1_n_n none X W : FVec Ideal S8x2048x4888 .f32) = P
  pointwise
  rw [← hP]
  exact product_at X W i t ⟨_, _⟩ _ (by dsimp only <;> omega)
theorem result2_at (i : Fin 8) (t : Fin 2048) (e : Fin 128) :
    (truncf .bf16 (extractStridedSlice S8x2048x128 ![0, 0, 128] (extractStridedSlice S8x2048x768 ![0, 0, 512] (Host.dotGeneral (F := Ideal) dot_S8x2048x1024_S1024x4888_S8x2048x4888_2_0_01_1_n_n none X W) slices_S8x2048x4888_S8x2048x768_0_0_512) slices_S8x2048x768_S8x2048x128_0_0_128) bitsLt_bf16_f32 : FVec Ideal S8x2048x128 .bf16) (ix3 i t e) = prod X W i t (640 + e.val) := by
  generalize hP : (Host.dotGeneral (F := Ideal) dot_S8x2048x1024_S1024x4888_S8x2048x4888_2_0_01_1_n_n none X W : FVec Ideal S8x2048x4888 .f32) = P
  pointwise
  rw [← hP]
  exact product_at X W i t ⟨_, _⟩ _ (by dsimp only <;> omega)
theorem result3_at (i : Fin 8) (t : Fin 2048) (e : Fin 128) :
    (truncf .bf16 (extractStridedSlice S8x2048x128 ![0, 0, 256] (extractStridedSlice S8x2048x768 ![0, 0, 512] (Host.dotGeneral (F := Ideal) dot_S8x2048x1024_S1024x4888_S8x2048x4888_2_0_01_1_n_n none X W) slices_S8x2048x4888_S8x2048x768_0_0_512) slices_S8x2048x768_S8x2048x128_0_0_256) bitsLt_bf16_f32 : FVec Ideal S8x2048x128 .bf16) (ix3 i t e) = prod X W i t (768 + e.val) := by
  generalize hP : (Host.dotGeneral (F := Ideal) dot_S8x2048x1024_S1024x4888_S8x2048x4888_2_0_01_1_n_n none X W : FVec Ideal S8x2048x4888 .f32) = P
  pointwise
  rw [← hP]
  exact product_at X W i t ⟨_, _⟩ _ (by dsimp only <;> omega)
theorem result4_at (i : Fin 8) (t : Fin 2048) (e : Fin 128) :
    (truncf .bf16 (extractStridedSlice S8x2048x128 ![0, 0, 384] (extractStridedSlice S8x2048x768 ![0, 0, 512] (Host.dotGeneral (F := Ideal) dot_S8x2048x1024_S1024x4888_S8x2048x4888_2_0_01_1_n_n none X W) slices_S8x2048x4888_S8x2048x768_0_0_512) slices_S8x2048x768_S8x2048x128_0_0_384) bitsLt_bf16_f32 : FVec Ideal S8x2048x128 .bf16) (ix3 i t e) = prod X W i t (896 + e.val) := by
  generalize hP : (Host.dotGeneral (F := Ideal) dot_S8x2048x1024_S1024x4888_S8x2048x4888_2_0_01_1_n_n none X W : FVec Ideal S8x2048x4888 .f32) = P
  pointwise
  rw [← hP]
  exact product_at X W i t ⟨_, _⟩ _ (by dsimp only <;> omega)
theorem result5_at (i : Fin 8) (t : Fin 2048) (e : Fin 128) :
    (truncf .bf16 (extractStridedSlice S8x2048x128 ![0, 0, 512] (extractStridedSlice S8x2048x768 ![0, 0, 512] (Host.dotGeneral (F := Ideal) dot_S8x2048x1024_S1024x4888_S8x2048x4888_2_0_01_1_n_n none X W) slices_S8x2048x4888_S8x2048x768_0_0_512) slices_S8x2048x768_S8x2048x128_0_0_512) bitsLt_bf16_f32 : FVec Ideal S8x2048x128 .bf16) (ix3 i t e) = prod X W i t (1024 + e.val) := by
  generalize hP : (Host.dotGeneral (F := Ideal) dot_S8x2048x1024_S1024x4888_S8x2048x4888_2_0_01_1_n_n none X W : FVec Ideal S8x2048x4888 .f32) = P
  pointwise
  rw [← hP]
  exact product_at X W i t ⟨_, _⟩ _ (by dsimp only <;> omega)
theorem result6_at (i : Fin 8) (t : Fin 2048) (e : Fin 128) :
    (truncf .bf16 (extractStridedSlice S8x2048x128 ![0, 0, 640] (extractStridedSlice S8x2048x768 ![0, 0, 512] (Host.dotGeneral (F := Ideal) dot_S8x2048x1024_S1024x4888_S8x2048x4888_2_0_01_1_n_n none X W) slices_S8x2048x4888_S8x2048x768_0_0_512) slices_S8x2048x768_S8x2048x128_0_0_640) bitsLt_bf16_f32 : FVec Ideal S8x2048x128 .bf16) (ix3 i t e) = prod X W i t (1152 + e.val) := by
  generalize hP : (Host.dotGeneral (F := Ideal) dot_S8x2048x1024_S1024x4888_S8x2048x4888_2_0_01_1_n_n none X W : FVec Ideal S8x2048x4888 .f32) = P
  pointwise
  rw [← hP]
  exact product_at X W i t ⟨_, _⟩ _ (by dsimp only <;> omega)
theorem result7_at (i : Fin 8) (t : Fin 2048) (e : Fin 24) :
    (Host.divf (broadcastInDim S8x2048x24 ![] bcast_S_S8x2048x24 (constant S_ .f32 0x3F800000#32)) (addf (broadcastInDim S8x2048x24 ![] bcast_S_S8x2048x24 (constant S_ .f32 0x3F800000#32)) (Host.exp (Host.negf (extractStridedSlice S8x2048x24 ![0, 0, 1280] (Host.dotGeneral (F := Ideal) dot_S8x2048x1024_S1024x4888_S8x2048x4888_2_0_01_1_n_n none X W) slices_S8x2048x4888_S8x2048x24_0_0_1280)))) : FVec Ideal S8x2048x24 .f32) (ix3 i t e) = Ideal.logistic (prod X W i t (1280 + e.val)) := by
  generalize hP : (Host.dotGeneral (F := Ideal) dot_S8x2048x1024_S1024x4888_S8x2048x4888_2_0_01_1_n_n none X W : FVec Ideal S8x2048x4888 .f32) = P
  pointwise
  rw [← hP]
  exact congrArg Ideal.logistic (product_at X W i t ⟨_, _⟩ _ (by dsimp only <;> omega))
theorem result8_at (i : Fin 8) (t : Fin 2048) (e : Fin 512) :
    (truncf .bf16 (mulf (extractStridedSlice S8x2048x512 ![0, 0, 1304] (Host.dotGeneral (F := Ideal) dot_S8x2048x1024_S1024x4888_S8x2048x4888_2_0_01_1_n_n none X W) slices_S8x2048x4888_S8x2048x512_0_0_1304) (broadcastInDim S8x2048x512 ![] bcast_S_S8x2048x512 (constant S_ .f32 0x3E000000#32))) bitsLt_bf16_f32 : FVec Ideal S8x2048x512 .bf16) (ix3 i t e) = prod X W i t (1304 + e.val) * Ideal.ofBits .f32 0x3E000000#32 := by
  generalize hP : (Host.dotGeneral (F := Ideal) dot_S8x2048x1024_S1024x4888_S8x2048x4888_2_0_01_1_n_n none X W : FVec Ideal S8x2048x4888 .f32) = P
  pointwise
  rw [← hP]
  exact congrArg (· * Ideal.ofBits .f32 0x3E000000#32) (product_at X W i t ⟨_, _⟩ _ (by dsimp only <;> omega))
theorem result9_at (i : Fin 8) (t : Fin 2048) (e : Fin 512) :
    (truncf .bf16 (extractStridedSlice S8x2048x512 ![0, 0, 1816] (Host.dotGeneral (F := Ideal) dot_S8x2048x1024_S1024x4888_S8x2048x4888_2_0_01_1_n_n none X W) slices_S8x2048x4888_S8x2048x512_0_0_1816) bitsLt_bf16_f32 : FVec Ideal S8x2048x512 .bf16) (ix3 i t e) = prod X W i t (1816 + e.val) := by
  generalize hP : (Host.dotGeneral (F := Ideal) dot_S8x2048x1024_S1024x4888_S8x2048x4888_2_0_01_1_n_n none X W : FVec Ideal S8x2048x4888 .f32) = P
  pointwise
  rw [← hP]
  exact product_at X W i t ⟨_, _⟩ _ (by dsimp only <;> omega)
theorem result10_at (i : Fin 8) (t : Fin 2048) (e : Fin 512) :
    (truncf .bf16 (extractStridedSlice S8x2048x512 ![0, 0, 2328] (Host.dotGeneral (F := Ideal) dot_S8x2048x1024_S1024x4888_S8x2048x4888_2_0_01_1_n_n none X W) slices_S8x2048x4888_S8x2048x512_0_0_2328) bitsLt_bf16_f32 : FVec Ideal S8x2048x512 .bf16) (ix3 i t e) = prod X W i t (2328 + e.val) := by
  generalize hP : (Host.dotGeneral (F := Ideal) dot_S8x2048x1024_S1024x4888_S8x2048x4888_2_0_01_1_n_n none X W : FVec Ideal S8x2048x4888 .f32) = P
  pointwise
  rw [← hP]
  exact product_at X W i t ⟨_, _⟩ _ (by dsimp only <;> omega)
theorem result11_at (i : Fin 8) (t : Fin 2048) (e : Fin 1024) :
    (truncf .bf16 (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 2840] (Host.dotGeneral (F := Ideal) dot_S8x2048x1024_S1024x4888_S8x2048x4888_2_0_01_1_n_n none X W) slices_S8x2048x4888_S8x2048x1024_0_0_2840))))) bitsLt_bf16_f32 : FVec Ideal S8x2048x1024 .bf16) (ix3 i t e) = Ideal.logistic (prod X W i t (2840 + e.val)) := by
  generalize hP : (Host.dotGeneral (F := Ideal) dot_S8x2048x1024_S1024x4888_S8x2048x4888_2_0_01_1_n_n none X W : FVec Ideal S8x2048x4888 .f32) = P
  pointwise
  rw [← hP]
  exact congrArg Ideal.logistic (product_at X W i t ⟨_, _⟩ _ (by dsimp only <;> omega))
theorem result12_at (i : Fin 8) (t : Fin 2048) (e : Fin 1024) :
    (truncf .bf16 (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 3864] (Host.dotGeneral (F := Ideal) dot_S8x2048x1024_S1024x4888_S8x2048x4888_2_0_01_1_n_n none X W) slices_S8x2048x4888_S8x2048x1024_0_0_3864))))) bitsLt_bf16_f32 : FVec Ideal S8x2048x1024 .bf16) (ix3 i t e) = Ideal.logistic (prod X W i t (3864 + e.val)) := by
  generalize hP : (Host.dotGeneral (F := Ideal) dot_S8x2048x1024_S1024x4888_S8x2048x4888_2_0_01_1_n_n none X W : FVec Ideal S8x2048x4888 .f32) = P
  pointwise
  rw [← hP]
  exact congrArg Ideal.logistic (product_at X W i t ⟨_, _⟩ _ (by dsimp only <;> omega))

theorem algebraic : Cert.algebraic_Kernel4Ideal_Reference4Ideal (hKernel4Ideal := Cert.Kernel4Ideal.Gen.facts)
    (hReference4Ideal := Cert.Reference4Ideal.Gen.facts) := by
  intro m ρ m' ρ' hpre hagree
  refine ⟨_, _, _, _, _, _, _, _, _, _, _, _, _, Cert.Project.run m ρ, ?_⟩
  refine (θ_run Cert.Reference4Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2.1.trans ?_, (h c).2.2.2.2.2.2.2.2.2.2.2.2.2⟩) (Cert.Reference4Ideal.Value.run (F := Ideal) m' ρ')
  · obtain ⟨h0, h1⟩ := hagree c
    rw [h0, h1]
    funext y
    idx_vars y
    exact result0_at _ _ y0 y1 y2
  · obtain ⟨h0, h1⟩ := hagree c
    rw [h0, h1]
    funext y
    idx_vars y
    exact result1_at _ _ y0 y1 y2
  · obtain ⟨h0, h1⟩ := hagree c
    rw [h0, h1]
    funext y
    idx_vars y
    exact result2_at _ _ y0 y1 y2
  · obtain ⟨h0, h1⟩ := hagree c
    rw [h0, h1]
    funext y
    idx_vars y
    exact result3_at _ _ y0 y1 y2
  · obtain ⟨h0, h1⟩ := hagree c
    rw [h0, h1]
    funext y
    idx_vars y
    exact result4_at _ _ y0 y1 y2
  · obtain ⟨h0, h1⟩ := hagree c
    rw [h0, h1]
    funext y
    idx_vars y
    exact result5_at _ _ y0 y1 y2
  · obtain ⟨h0, h1⟩ := hagree c
    rw [h0, h1]
    funext y
    idx_vars y
    exact result6_at _ _ y0 y1 y2
  · obtain ⟨h0, h1⟩ := hagree c
    rw [h0, h1]
    funext y
    idx_vars y
    exact result7_at _ _ y0 y1 y2
  · obtain ⟨h0, h1⟩ := hagree c
    rw [h0, h1]
    funext y
    idx_vars y
    exact result8_at _ _ y0 y1 y2
  · obtain ⟨h0, h1⟩ := hagree c
    rw [h0, h1]
    funext y
    idx_vars y
    exact result9_at _ _ y0 y1 y2
  · obtain ⟨h0, h1⟩ := hagree c
    rw [h0, h1]
    funext y
    idx_vars y
    exact result10_at _ _ y0 y1 y2
  · obtain ⟨h0, h1⟩ := hagree c
    rw [h0, h1]
    funext y
    idx_vars y
    exact result11_at _ _ y0 y1 y2
  · obtain ⟨h0, h1⟩ := hagree c
    rw [h0, h1]
    funext y
    idx_vars y
    exact result12_at _ _ y0 y1 y2

end Cert.ProjectRef

end
-- ==== Proof.Compress.lean ====
module

public import proofs.«01_k».proof.Proof.Gen.Kernel5Ideal.Frame
public import Idealize.ShloMosaic.Lib.Pipeline.ValueKit
public import Idealize.ShloMosaic.Lib.StableHlo.ReadAt

@[expose] public section

set_option maxRecDepth 16384

noncomputable section

/-! The compression call: each block of 32 tokens' keys or values through a network with one hidden layer, at an index. -/

namespace Cert.Compress

open Cert.Kernel5Ideal Cert.Kernel5Ideal.Gen Idealize.ShloMosaic Idealize.ShloMosaic.TcCoe Idealize.SL.Sem

/-- The hidden layer's function. -/
def gelu (x : EReal) : EReal := Ideal.ofBits .f32 0x3F000000#32 * x * (1 + Ideal.erf (x * Ideal.ofBits .f32 0x3F3504F3#32))

/-- A block's hidden sum, from its two halves of 16 tokens with 64 lanes each. -/
def hidden (x y pa pb wa wb : Fin 1024 → EReal) : EReal := (∑ f, (x f + pa f) * wa f) + ∑ f, (y f + pb f) * wb f

/-- The row after a row; the last one's is the first. -/
abbrev next (b : Fin 128) : Fin 128 := ⟨(b.val + 1) % 128, by omega⟩

theorem next_eq (b : Fin 128) (h : (b.val + 128 - 127) % 128 < 128) : (⟨(b.val + 128 - 127) % 128, h⟩ : Fin 128) = next b := Fin.ext (by dsimp only; omega)

/-! ## The body -/

theorem keys_at (x : Vec Ideal S1x1x1x128x1024 .bf16) (pa pb : Vec Ideal S1x1024 .f32) (wa wb : Vec Ideal S1024x256 .bf16) (w : Vec Ideal S256x64 .bf16)
    (b : Fin 128) (e : Fin 64) : k0_pay5 (k0_pay4 x pa pb wa wb w) (ix4 0 0 b e)
      = ∑ j : Fin 256, gelu (hidden (fun f => x (ix5 0 0 0 b f)) (fun f => x (ix5 0 0 0 (next b) f))
          (fun f => pa (ix2 0 f)) (fun f => pb (ix2 0 f)) (fun f => wa (ix2 f j)) (fun f => wb (ix2 f j))) * w (ix2 j e) := by
  unfold k0_pay5 k0_pay4
  pointwise
  simp only [next_eq]
  rfl
theorem values_at (x : Vec Ideal S1x1x1x128x1024 .bf16) (pa pb : Vec Ideal S1x1024 .f32) (wa wb : Vec Ideal S1024x256 .bf16) (w : Vec Ideal S256x64 .bf16)
    (b : Fin 128) (e : Fin 64) : k0_pay1 (k0_pay6 x pa pb wa wb) (k0_pay7 w) (constant S128x64 .f32 0x00000000#32) (ix4 0 0 b e)
      = ∑ j : Fin 256, gelu (hidden (fun f => x (ix5 0 0 0 b f)) (fun f => x (ix5 0 0 0 (next b) f))
          (fun f => pa (ix2 0 f)) (fun f => pb (ix2 0 f)) (fun f => wa (ix2 f j)) (fun f => wb (ix2 f j))) * w (ix2 j e) := by
  unfold k0_pay1 k0_pay6 k0_pay7
  pointwise
  simp only [next_eq]
  rfl

theorem half_at {o : ℕ} (inb : ∀ a, (![0, 0, o, 0, 0] : Fin 5 → ℕ) a + S1x1x1x128x1024.size a ≤ S1x1x2x128x1024.size a) (X : Vec Ideal S1x1x2x128x1024 .bf16)
    (b : Fin 128) (f : Fin 1024) (h : o < 2) :
    View.ld X (Rect.unit (s := S1x1x2x128x1024) ![0, 0, o, 0, 0] S1x1x1x128x1024.size inb) (ix5 0 0 0 b f) = X (ix5 0 0 ⟨o, h⟩ b f) := by
  refine congrArg X ?_
  idx_ext
theorem pos_at {o : ℕ} (inb : ∀ a, (![o, 0] : Fin 2 → ℕ) a + S1x1024.size a ≤ S2x1024.size a) (X : Vec Ideal S2x1024 .f32) (f : Fin 1024) (h : o < 2) :
    View.ld X (Rect.unit (s := S2x1024) ![o, 0] S1x1024.size inb) (ix2 0 f) = X (ix2 ⟨o, h⟩ f) := by
  refine congrArg X ?_
  idx_ext
theorem rows_at {o : ℕ} (inb : ∀ a, (![o, 0] : Fin 2 → ℕ) a + S1024x256.size a ≤ S2048x256.size a) (X : Vec Ideal S2048x256 .bf16) (f : Fin 1024) (j : Fin 256)
    (h : o + f.val < 2048) : View.ld X (Rect.unit (s := S2048x256) ![o, 0] S1024x256.size inb) (ix2 f j) = X (ix2 ⟨o + f.val, h⟩ j) := by
  refine congrArg X ?_
  idx_ext

/-- A row's network, from half `s` of the block, the position rows and the two weights. -/
def net (X : Vec Ideal S1x1x2x128x1024 .bf16) (s : Fin 2) (P : Vec Ideal S2x1024 .f32) (W : Vec Ideal S2048x256 .bf16) (U : Vec Ideal S256x64 .bf16)
    (b : Fin 128) (e : Fin 64) : EReal :=
  ∑ j : Fin 256, gelu (hidden (fun f => X (ix5 0 0 s b f)) (fun f => X (ix5 0 0 s (next b) f)) (fun f => P (ix2 0 f)) (fun f => P (ix2 1 f))
    (fun f => W (ix2 ⟨0 + f.val, by omega⟩ j)) (fun f => W (ix2 ⟨1024 + f.val, by omega⟩ j))) * U (ix2 j e)

theorem outside {o : ℕ} (inb : ∀ a, (![0, 0, 0, o] : Fin 4 → ℕ) a + S1x1x128x64.size a ≤ S1x1x128x256.size a) (b : Fin 128) (l : Fin 256)
    (h : l.val < o ∨ o + 64 ≤ l.val) : (ix4 0 0 b l : S1x1x128x256.Idx) ∉ (Rect.unit (s := S1x1x128x256) ![0, 0, 0, o] S1x1x128x64.size inb).set := by
  intro hm
  have q := (Rect.mem_set_unit.1 hm) 3
  have q1 : o ≤ l.val := q.1
  have q2 : l.val < o + 64 := q.2
  omega

/-- Four stores that don't meet: the last is read in its lanes … -/
theorem stored_keys (p0 p1 p2 p3 : Vec Ideal S1x1x128x64 .bf16) (b : Fin 128) (e : Fin 64) :
    View.canon ([⟨r0_10, p0⟩, ⟨r0_9, p1⟩, ⟨r0_8, p2⟩, ⟨r0_6, p3⟩] : List (View.Piece (Elt Ideal) S1x1x128x256 .bf16)) (ix4 0 0 b ⟨0 + e.val, by omega⟩) = p3 (ix4 0 0 b e) := by
  have n10 : (ix4 0 0 b ⟨0 + e.val, by omega⟩ : S1x1x128x256.Idx) ∉ r0_10.set := outside inb_S1x1x128x256_S1x1x128x64_0_0_0_192 b ⟨0 + e.val, by omega⟩ (.inl (by dsimp only; omega))
  have n9 : (ix4 0 0 b ⟨0 + e.val, by omega⟩ : S1x1x128x256.Idx) ∉ r0_9.set := outside inb_S1x1x128x256_S1x1x128x64_0_0_0_64 b ⟨0 + e.val, by omega⟩ (.inl (by dsimp only; omega))
  have n8 : (ix4 0 0 b ⟨0 + e.val, by omega⟩ : S1x1x128x256.Idx) ∉ r0_8.set := outside inb_S1x1x128x256_S1x1x128x64_0_0_0_128 b ⟨0 + e.val, by omega⟩ (.inl (by dsimp only; omega))
  refine (View.canon_cons_of_not_mem (⟨r0_10, p0⟩ : View.Piece (Elt Ideal) S1x1x128x256 .bf16) _ n10).trans ?_
  refine (View.canon_cons_of_not_mem (⟨r0_9, p1⟩ : View.Piece (Elt Ideal) S1x1x128x256 .bf16) _ n9).trans ?_
  refine (View.canon_cons_of_not_mem (⟨r0_8, p2⟩ : View.Piece (Elt Ideal) S1x1x128x256 .bf16) _ n8).trans ?_
  have q : (ix4 0 0 b ⟨0 + e.val, by omega⟩ : S1x1x128x256.Idx) = r0_6.emb (ix4 0 0 b e) := by
    idx_ext
  rw [q]
  exact View.canon_cons_emb r0_6 p3 _ (ix4 0 0 b e)
/-- … and the third in its own. -/
theorem stored_values (p0 p1 p2 p3 : Vec Ideal S1x1x128x64 .bf16) (b : Fin 128) (e : Fin 64) :
    View.canon ([⟨r0_10, p0⟩, ⟨r0_9, p1⟩, ⟨r0_8, p2⟩, ⟨r0_6, p3⟩] : List (View.Piece (Elt Ideal) S1x1x128x256 .bf16)) (ix4 0 0 b ⟨128 + e.val, by omega⟩) = p2 (ix4 0 0 b e) := by
  have n10 : (ix4 0 0 b ⟨128 + e.val, by omega⟩ : S1x1x128x256.Idx) ∉ r0_10.set := outside inb_S1x1x128x256_S1x1x128x64_0_0_0_192 b ⟨128 + e.val, by omega⟩ (.inl (by dsimp only; omega))
  have n9 : (ix4 0 0 b ⟨128 + e.val, by omega⟩ : S1x1x128x256.Idx) ∉ r0_9.set := outside inb_S1x1x128x256_S1x1x128x64_0_0_0_64 b ⟨128 + e.val, by omega⟩ (.inr (by dsimp only; omega))
  refine (View.canon_cons_of_not_mem (⟨r0_10, p0⟩ : View.Piece (Elt Ideal) S1x1x128x256 .bf16) _ n10).trans ?_
  refine (View.canon_cons_of_not_mem (⟨r0_9, p1⟩ : View.Piece (Elt Ideal) S1x1x128x256 .bf16) _ n9).trans ?_
  have q : (ix4 0 0 b ⟨128 + e.val, by omega⟩ : S1x1x128x256.Idx) = r0_8.emb (ix4 0 0 b e) := by
    idx_ext
  rw [q]
  exact View.canon_cons_emb r0_8 p2 _ (ix4 0 0 b e)
theorem body_keys (x0 : Vec Ideal S1x1x2x128x1024 .bf16) (x1 x2 : Vec Ideal S2x1024 .f32) (x3 : Vec Ideal S2048x256 .bf16) (x4 : Vec Ideal S256x64 .bf16)
    (x5 : Vec Ideal S2048x256 .bf16) (x6 : Vec Ideal S256x64 .bf16) (b : Fin 128) (e : Fin 64) :
    out0_7 x0 x1 x2 x3 x4 x5 x6 (ix4 0 0 b ⟨0 + e.val, by omega⟩) = net x0 0 x1 x3 x4 b e := by
  refine (stored_keys _ _ _ _ b e).trans ((keys_at _ _ _ _ _ _ b e).trans ?_)
  unfold net
  refine Finset.sum_congr rfl fun j _ => ?_
  rw [View.ld_unit_lit _ x4 (by decide)]
  refine congrArg (fun z : EReal => gelu z * x4 (ix2 j e)) ?_
  simp only [half_at _ x0 _ _ (show 0 < 2 by decide), pos_at _ x1 _ (show 0 < 2 by decide), pos_at _ x1 _ (show 1 < 2 by decide)]
  refine congrArg₂ (hidden _ _ _ _) (funext fun f => ?_) (funext fun f => ?_)
  · exact rows_at _ x3 f j (by omega)
  · exact rows_at _ x3 f j (by omega)
theorem body_values (x0 : Vec Ideal S1x1x2x128x1024 .bf16) (x1 x2 : Vec Ideal S2x1024 .f32) (x3 : Vec Ideal S2048x256 .bf16) (x4 : Vec Ideal S256x64 .bf16)
    (x5 : Vec Ideal S2048x256 .bf16) (x6 : Vec Ideal S256x64 .bf16) (b : Fin 128) (e : Fin 64) :
    out0_7 x0 x1 x2 x3 x4 x5 x6 (ix4 0 0 b ⟨128 + e.val, by omega⟩) = net x0 1 x2 x5 x6 b e := by
  refine (stored_values _ _ _ _ b e).trans ((values_at _ _ _ _ _ _ b e).trans ?_)
  unfold net
  refine Finset.sum_congr rfl fun j _ => ?_
  rw [View.ld_unit_lit _ x6 (by decide)]
  refine congrArg (fun z : EReal => gelu z * x6 (ix2 j e)) ?_
  simp only [half_at _ x0 _ _ (show 1 < 2 by decide), pos_at _ x2 _ (show 0 < 2 by decide), pos_at _ x2 _ (show 1 < 2 by decide)]
  refine congrArg₂ (hidden _ _ _ _) (funext fun f => ?_) (funext fun f => ?_)
  · exact rows_at _ x5 f j (by omega)
  · exact rows_at _ x5 f j (by omega)

/-! ## The host's arrays -/

variable (m : (ℓ : Loc nD τ sig) → Buf (Elt Ideal) ℓ)

abbrev a0 (c : Dev nD) : FVec Ideal S8x2048x128 .f32 := m ((c : Thread nD τ).loc main_arg0)
abbrev a1 (c : Dev nD) : FVec Ideal S8x2048x128 .f32 := m ((c : Thread nD τ).loc main_arg1)
abbrev a2 (c : Dev nD) : FVec Ideal S32x64 .f32 := m ((c : Thread nD τ).loc main_arg2)
abbrev a3 (c : Dev nD) : FVec Ideal S32x64 .f32 := m ((c : Thread nD τ).loc main_arg3)
abbrev a4 (c : Dev nD) : FVec Ideal S2048x256 .f32 := m ((c : Thread nD τ).loc main_arg4)
abbrev a5 (c : Dev nD) : FVec Ideal S256x64 .f32 := m ((c : Thread nD τ).loc main_arg5)
abbrev a6 (c : Dev nD) : FVec Ideal S2048x256 .f32 := m ((c : Thread nD τ).loc main_arg6)
abbrev a7 (c : Dev nD) : FVec Ideal S256x64 .f32 := m ((c : Thread nD τ).loc main_arg7)

theorem v8_keys (c : Dev nD) (i : Fin 8) (g s : Fin 2) (b : Fin 128) (f : Fin 1024) (hs : s.val = 0) :
    (V m c main_v8 : FVec Ideal S8x2x2x128x1024 .bf16) (ix5 i g s b f) = a0 m c (ix3 i ⟨b.val * 16 + f.val / 64, by omega⟩ ⟨g.val * 64 + f.val % 64, by omega⟩) := by
  unfold V
  after_reads_at
  refine (dif_pos (by omega)).trans ?_
  after_reads_at
theorem v8_values (c : Dev nD) (i : Fin 8) (g s : Fin 2) (b : Fin 128) (f : Fin 1024) (hs : s.val = 1) :
    (V m c main_v8 : FVec Ideal S8x2x2x128x1024 .bf16) (ix5 i g s b f) = a1 m c (ix3 i ⟨b.val * 16 + f.val / 64, by omega⟩ ⟨g.val * 64 + f.val % 64, by omega⟩) := by
  unfold V
  after_reads_at
  refine (dif_neg (by omega)).trans ?_
  after_reads_at
theorem v9_at (c : Dev nD) (h : Fin 2) (f : Fin 1024) : (V m c main_v9 : FVec Ideal S2x1024 .f32) (ix2 h f)
    = a2 m c (ix2 ⟨h.val * 16 + f.val / 64, by omega⟩ ⟨f.val % 64, by omega⟩) := by
  unfold V
  after_reads_at
theorem v10_at (c : Dev nD) (h : Fin 2) (f : Fin 1024) : (V m c main_v10 : FVec Ideal S2x1024 .f32) (ix2 h f)
    = a3 m c (ix2 ⟨h.val * 16 + f.val / 64, by omega⟩ ⟨f.val % 64, by omega⟩) := by
  unfold V
  after_reads_at
theorem v11_at (c : Dev nD) (l : Fin 2048) (e : Fin 256) : (V m c main_v11 : FVec Ideal S2048x256 .bf16) (ix2 l e) = a4 m c (ix2 l e) := by
  unfold V
  after_reads_at
theorem v12_at (c : Dev nD) (l : Fin 256) (e : Fin 64) : (V m c main_v12 : FVec Ideal S256x64 .bf16) (ix2 l e) = a5 m c (ix2 l e) := by
  unfold V
  after_reads_at
theorem v13_at (c : Dev nD) (l : Fin 2048) (e : Fin 256) : (V m c main_v13 : FVec Ideal S2048x256 .bf16) (ix2 l e) = a6 m c (ix2 l e) := by
  unfold V
  after_reads_at
theorem v14_at (c : Dev nD) (l : Fin 256) (e : Fin 64) : (V m c main_v14 : FVec Ideal S256x64 .bf16) (ix2 l e) = a7 m c (ix2 l e) := by
  unfold V
  after_reads_at

/-! ## The blocks of a point -/

theorem idx : ∀ t : Fin cfg0.N, win0_0.index t = ![(grid0.coords t 0).val, (grid0.coords t 1).val, 0, 0, 0]
    ∧ win0_1.index t = ![0, 0] ∧ win0_2.index t = ![0, 0] ∧ win0_3.index t = ![0, 0] ∧ win0_4.index t = ![0, 0] ∧ win0_5.index t = ![0, 0] ∧ win0_6.index t = ![0, 0]
    ∧ win0_7.index t = ![(grid0.coords t 0).val, (grid0.coords t 1).val, 0, 0] :=
  (by decide +kernel : ∀ t : Fin grid0.N, _)

abbrev gi (t : Fin cfg0.N) : Fin 8 := ⟨(grid0.coords t 0).val, (grid0.coords t 0).isLt⟩
abbrev gg (t : Fin cfg0.N) : Fin 2 := ⟨(grid0.coords t 1).val, (grid0.coords t 1).isLt⟩

theorem blk0_keys (c : Dev nD) (t : Fin cfg0.N) (b : Fin 128) (f : Fin 1024) : (iblk m c 0 t : Vec Ideal S1x1x2x128x1024 .bf16) (ix5 0 0 0 b f)
    = a0 m c (ix3 (gi t) ⟨b.val * 16 + f.val / 64, by omega⟩ ⟨(gg t).val * 64 + f.val % 64, by omega⟩) := by
  refine Eq.trans ?_ (v8_keys m c (gi t) (gg t) 0 b f rfl)
  blk_ext [iblk, idx t]
theorem blk0_values (c : Dev nD) (t : Fin cfg0.N) (b : Fin 128) (f : Fin 1024) : (iblk m c 0 t : Vec Ideal S1x1x2x128x1024 .bf16) (ix5 0 0 1 b f)
    = a1 m c (ix3 (gi t) ⟨b.val * 16 + f.val / 64, by omega⟩ ⟨(gg t).val * 64 + f.val % 64, by omega⟩) := by
  refine Eq.trans ?_ (v8_values m c (gi t) (gg t) 1 b f rfl)
  blk_ext [iblk, idx t]
theorem blk1_at (c : Dev nD) (t : Fin cfg0.N) (h : Fin 2) (f : Fin 1024) : (iblk m c 1 t : Vec Ideal S2x1024 .f32) (ix2 h f)
    = a2 m c (ix2 ⟨h.val * 16 + f.val / 64, by omega⟩ ⟨f.val % 64, by omega⟩) := by
  refine Eq.trans ?_ (v9_at m c h f)
  blk_ext [iblk, idx t]
theorem blk2_at (c : Dev nD) (t : Fin cfg0.N) (h : Fin 2) (f : Fin 1024) : (iblk m c 2 t : Vec Ideal S2x1024 .f32) (ix2 h f)
    = a3 m c (ix2 ⟨h.val * 16 + f.val / 64, by omega⟩ ⟨f.val % 64, by omega⟩) := by
  refine Eq.trans ?_ (v10_at m c h f)
  blk_ext [iblk, idx t]
theorem blk3_at (c : Dev nD) (t : Fin cfg0.N) (l : Fin 2048) (e : Fin 256) : (iblk m c 3 t : Vec Ideal S2048x256 .bf16) (ix2 l e) = a4 m c (ix2 l e) := by
  refine Eq.trans ?_ (v11_at m c l e)
  blk_ext [iblk, idx t]
theorem blk4_at (c : Dev nD) (t : Fin cfg0.N) (l : Fin 256) (e : Fin 64) : (iblk m c 4 t : Vec Ideal S256x64 .bf16) (ix2 l e) = a5 m c (ix2 l e) := by
  refine Eq.trans ?_ (v12_at m c l e)
  blk_ext [iblk, idx t]
theorem blk5_at (c : Dev nD) (t : Fin cfg0.N) (l : Fin 2048) (e : Fin 256) : (iblk m c 5 t : Vec Ideal S2048x256 .bf16) (ix2 l e) = a6 m c (ix2 l e) := by
  refine Eq.trans ?_ (v13_at m c l e)
  blk_ext [iblk, idx t]
theorem blk6_at (c : Dev nD) (t : Fin cfg0.N) (l : Fin 256) (e : Fin 64) : (iblk m c 6 t : Vec Ideal S256x64 .bf16) (ix2 l e) = a7 m c (ix2 l e) := by
  refine Eq.trans ?_ (v14_at m c l e)
  blk_ext [iblk, idx t]

/-- The compressed keys or values at a batch, a group, a row and a lane; the last row, which is cut off, meets the first. -/
def compressed (K : FVec Ideal S8x2048x128 .f32) (P : FVec Ideal S32x64 .f32) (W : FVec Ideal S2048x256 .f32) (U : FVec Ideal S256x64 .f32)
    (i : Fin 8) (g : Fin 2) (b : Fin 128) (e : Fin 64) : EReal :=
  ∑ j : Fin 256, gelu (hidden (fun f => K (ix3 i ⟨b.val * 16 + f.val / 64, by omega⟩ ⟨g.val * 64 + f.val % 64, by omega⟩))
    (fun f => K (ix3 i ⟨(next b).val * 16 + f.val / 64, by omega⟩ ⟨g.val * 64 + f.val % 64, by omega⟩))
    (fun f => P (ix2 ⟨(0 : Fin 2).val * 16 + f.val / 64, by omega⟩ ⟨f.val % 64, by omega⟩)) (fun f => P (ix2 ⟨(1 : Fin 2).val * 16 + f.val / 64, by omega⟩ ⟨f.val % 64, by omega⟩))
    (fun f => W (ix2 ⟨0 + f.val, by omega⟩ j)) (fun f => W (ix2 ⟨1024 + f.val, by omega⟩ j))) * U (ix2 j e)

theorem tile_keys (c : Dev nD) (t : Fin cfg0.N) (b : Fin 128) (e : Fin 64) :
    ((dats m 0 c).after 7 t : Vec Ideal S1x1x128x256 .bf16) (ix4 0 0 b ⟨0 + e.val, by omega⟩) = compressed (a0 m c) (a2 m c) (a4 m c) (a5 m c) (gi t) (gg t) b e := by
  rw [after0_7, body_keys]
  unfold net compressed
  simp only [blk0_keys, blk1_at, blk3_at, blk4_at]
theorem tile_values (c : Dev nD) (t : Fin cfg0.N) (b : Fin 128) (e : Fin 64) :
    ((dats m 0 c).after 7 t : Vec Ideal S1x1x128x256 .bf16) (ix4 0 0 b ⟨128 + e.val, by omega⟩) = compressed (a1 m c) (a3 m c) (a6 m c) (a7 m c) (gi t) (gg t) b e := by
  rw [after0_7, body_values]
  unfold net compressed
  simp only [blk0_values, blk2_at, blk5_at, blk6_at]

theorem lane0 (e : Fin 64) : 0 + e.val < 256 := by omega
theorem lane128 (e : Fin 64) : 128 + e.val < 256 := by omega

/-- The array the call leaves, in the lanes of the keys and of the values. -/
theorem array (c : Dev nD) (i : Fin 8) (g : Fin 2) (b : Fin 128) (l : Fin 256) :
    (∀ e : Fin 64, l.val = 0 + e.val → ((dats m 0 c).arrAt 7 cfg0.N : FVec Ideal S8x2x128x256 .bf16) (ix4 i g b l) = compressed (a0 m c) (a2 m c) (a4 m c) (a5 m c) i g b e)
    ∧ ∀ e : Fin 64, l.val = 128 + e.val → ((dats m 0 c).arrAt 7 cfg0.N : FVec Ideal S8x2x128x256 .bf16) (ix4 i g b l) = compressed (a1 m c) (a3 m c) (a6 m c) (a7 m c) i g b e := by
  refine (dats m 0 c).arrAt_forall_of_covers 7 (fun (y : S8x2x128x256.Idx) (v : EReal) =>
    (∀ e : Fin 64, (y 3).val = 0 + e.val → v = compressed (a0 m c) (a2 m c) (a4 m c) (a5 m c) ⟨(y 0).val, (y 0).isLt⟩ ⟨(y 1).val, (y 1).isLt⟩ ⟨(y 2).val, (y 2).isLt⟩ e)
    ∧ ∀ e : Fin 64, (y 3).val = 128 + e.val → v = compressed (a1 m c) (a3 m c) (a6 m c) (a7 m c) ⟨(y 0).val, (y 0).isLt⟩ ⟨(y 1).val, (y 1).isLt⟩ ⟨(y 2).val, (y 2).isLt⟩ e)
    (by decide +kernel) (fun t hf y => ?_) (ix4 i g b l) (Memref.isWhole_whole _)
  blk_simp
  idx_vars y
  have q := (idx t).2.2.2.2.2.2.2
  have q0 : win0_7.index t 0 = (gi t).val := by rw [q]; rfl
  have q1 : win0_7.index t 1 = (gg t).val := by rw [q]; rfl
  have q2 : win0_7.index t 2 = 0 := by rw [q]; rfl
  have q3 : win0_7.index t 3 = 0 := by rw [q]; rfl
  obtain rfl : y0 = 0 := Subsingleton.elim _ _
  obtain rfl : y1 = 0 := Subsingleton.elim _ _
  have f2 : y2.val = win0_7.index t 2 * 128 + y2.val := by rw [q2, Nat.zero_mul, Nat.zero_add]
  refine ⟨fun e he => ?_, fun e he => ?_⟩
  · obtain rfl : y3 = ⟨0 + e.val, lane0 e⟩ := Fin.ext (by rw [q3] at he; dsimp only; omega)
    exact (tile_keys m c t y2 e).trans (congrFun (congr (congr (congrArg (compressed (a0 m c) (a2 m c) (a4 m c) (a5 m c)) (Fin.ext q0.symm)) (Fin.ext q1.symm)) (Fin.ext f2)) e)
  · obtain rfl : y3 = ⟨128 + e.val, lane128 e⟩ := Fin.ext (by rw [q3] at he; dsimp only; omega)
    exact (tile_values m c t y2 e).trans (congrFun (congr (congr (congrArg (compressed (a1 m c) (a3 m c) (a6 m c) (a7 m c)) (Fin.ext q0.symm)) (Fin.ext q1.symm)) (Fin.ext f2)) e)

/-! ## The results, after the host's last operations -/

/-- The kernel's result arrays. -/
def outKeys (c : Dev nD) : S8x2x127x64.Idx → EReal := fun y => compressed (a0 m c) (a2 m c) (a4 m c) (a5 m c) (y 0) (y 1) ⟨(y 2).val, Nat.lt_succ_of_lt (y 2).isLt⟩ (y 3)
def outValues (c : Dev nD) : S8x2x127x64.Idx → EReal := fun y => compressed (a1 m c) (a3 m c) (a6 m c) (a7 m c) (y 0) (y 1) ⟨(y 2).val, Nat.lt_succ_of_lt (y 2).isLt⟩ (y 3)

theorem tail_keys (c : Dev nD) : Pipeline.afterTail₀ cfgs (dats m) 0 (V0 m) [hostOps1] c main_v16 = (outKeys m c : FVec Ideal S8x2x127x64 .bf16) := by
  have h : Pipeline.withArrays spec0 c (V0 m c) (fun w => (dats m 0 c).arrAt w cfg0.N) (Proc.devRef .tc main_v15)
      = (dats m 0 c).arrAt 7 cfg0.N := Pipeline.withArrays_arr spec0 (by decide) c (V0 m c) _ 7
  unfold Pipeline.afterTail₀
  show StableHlo.after hostOps1 _ _ = _
  funext y
  idx_vars y
  after_reads_at
  exact (congrFun h _).trans ((array m c y0 y1 ⟨y2.val, by omega⟩ ⟨y3.val, by omega⟩).1 y3 (Nat.zero_add _).symm)
theorem tail_values (c : Dev nD) : Pipeline.afterTail₀ cfgs (dats m) 0 (V0 m) [hostOps1] c main_v17 = (outValues m c : FVec Ideal S8x2x127x64 .bf16) := by
  have h : Pipeline.withArrays spec0 c (V0 m c) (fun w => (dats m 0 c).arrAt w cfg0.N) (Proc.devRef .tc main_v15)
      = (dats m 0 c).arrAt 7 cfg0.N := Pipeline.withArrays_arr spec0 (by decide) c (V0 m c) _ 7
  unfold Pipeline.afterTail₀
  show StableHlo.after hostOps1 _ _ = _
  funext y
  idx_vars y
  after_reads_at
  exact (congrFun h _).trans ((array m c y0 y1 ⟨y2.val, by omega⟩ ⟨128 + y3.val, by omega⟩).2 y3 rfl)

/-- The run: the result arrays, and the arguments unchanged. -/
theorem run (ρ : Dev nD → PrngReg) : θ_run defs (onTc (τ := τ) (main (F := Ideal))) ⟨m, fun _ => 0, ρ⟩ (fun r => ∀ c : Dev nD,
    r.2.mem ((c.tc : Thread nD τ).loc main_v16) = (outKeys m c : FVec Ideal S8x2x127x64 .bf16)
    ∧ r.2.mem ((c.tc : Thread nD τ).loc main_v17) = (outValues m c : FVec Ideal S8x2x127x64 .bf16)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ h c => ⟨((h c).2 main_v16 (Pipeline.mem_restRefs_of main_v16 (by decide) (by decide))).trans (tail_keys m c),
      ((h c).2 main_v17 (Pipeline.mem_restRefs_of main_v17 (by decide) (by decide))).trans (tail_values m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.Compress

end
-- ==== Proof.CompressRef.lean ====
module

public import proofs.«01_k».proof.Proof.Compress
public import proofs.«01_k».proof.Proof.Gen.Reference5Ideal.Run
public import proofs.«01_k».proof.Defs

@[expose] public section

set_option maxRecDepth 16384

noncomputable section

/-! The compression call's reference, at an index, and the claim. -/

namespace Cert.CompressRef

open Cert.Reference5Ideal Cert.Reference5Ideal.Gen Idealize.ShloMosaic Idealize.ShloMosaic.TcCoe Idealize.SL.Sem Idealize.ShloMosaic.StableHlo

/-- The blocks' tokens, as the reference computes them. -/
def tok : IVec S127x32x1 32 := (broadcastInDim S127x32x1 ![0, 1] bcast_S127x32_S127x32x1_0_1 (select (cmpi .slt (addi (broadcastInDim S127x32 ![0, 1] bcast_S127x1_S127x32_0_1 (muli (broadcastInDim S127x1 ![0] bcast_S127_S127x1_0 (iotaInDim S127 32 0)) (broadcastInDim S127x1 ![] bcast_S_S127x1 (constantI S_ 32 16#32)))) (broadcastInDim S127x32 ![0, 1] bcast_S1x32_S127x32_0_1 (broadcastInDim S1x32 ![1] bcast_S32_S1x32_1 (iotaInDim S32 32 0)))) (broadcastInDim S127x32 ![] bcast_S_S127x32 (constantI S_ 32 0#32))) (addi (addi (broadcastInDim S127x32 ![0, 1] bcast_S127x1_S127x32_0_1 (muli (broadcastInDim S127x1 ![0] bcast_S127_S127x1_0 (iotaInDim S127 32 0)) (broadcastInDim S127x1 ![] bcast_S_S127x1 (constantI S_ 32 16#32)))) (broadcastInDim S127x32 ![0, 1] bcast_S1x32_S127x32_0_1 (broadcastInDim S1x32 ![1] bcast_S32_S1x32_1 (iotaInDim S32 32 0)))) (broadcastInDim S127x32 ![] bcast_S_S127x32 (constantI S_ 32 2048#32))) (addi (broadcastInDim S127x32 ![0, 1] bcast_S127x1_S127x32_0_1 (muli (broadcastInDim S127x1 ![0] bcast_S127_S127x1_0 (iotaInDim S127 32 0)) (broadcastInDim S127x1 ![] bcast_S_S127x1 (constantI S_ 32 16#32)))) (broadcastInDim S127x32 ![0, 1] bcast_S1x32_S127x32_0_1 (broadcastInDim S1x32 ![1] bcast_S32_S1x32_1 (iotaInDim S32 32 0))))))

theorem tok_at (b : Fin 127) (u : Fin 32) : min (tok (ix3 b u 0)).toInt.toNat 2047 = b.val * 16 + u.val := by
  unfold tok
  pointwise
  revert b u
  decide +kernel

/-! ## The gather -/

/-- An axis that's read whole. -/
theorem whole_at (t : IVec S127x32x1 32) (j : S8x2x127x32x64.Idx) (a : Fin 4) (ha : a ≠ 2) (n : ℕ)
    (hn : GatherDims.offCoord gather_S8x2x2048x64_S127x32x1_S8x2x127x32x64_014_2_n_n_2_2_82164 j a = n) : (gather_S8x2x2048x64_S127x32x1_S8x2x127x32x64_014_2_n_n_2_2_82164.operandIdx j t a).val = n := by
  show GatherDims.start gather_S8x2x2048x64_S127x32x1_S8x2x127x32x64_014_2_n_n_2_2_82164 j t a + GatherDims.batchCoord gather_S8x2x2048x64_S127x32x1_S8x2x127x32x64_014_2_n_n_2_2_82164 j a + GatherDims.offCoord gather_S8x2x2048x64_S127x32x1_S8x2x127x32x64_014_2_n_n_2_2_82164 j a = n
  rw [hn, GatherDims.batchCoord_eq_zero _ _ _ List.not_mem_nil]
  unfold GatherDims.start
  rw [dif_neg (show a ∉ GatherDims.startIndexMap gather_S8x2x2048x64_S127x32x1_S8x2x127x32x64_014_2_n_n_2_2_82164 from fun h => ha (List.mem_singleton.1 h))]
  simp only [Nat.zero_add, Nat.add_zero]

/-- The gather of every block's tokens, at an index. -/
theorem gather_at (x : FVec Ideal S8x2x2048x64 .f32) (t : IVec S127x32x1 32) (i : Fin 8) (g : Fin 2) (b : Fin 127) (u : Fin 32) (l : Fin 64) (n : Fin 2048)
    (hn : min (t (ix3 b u 0)).toInt.toNat 2047 = n.val) : Host.gather gather_S8x2x2048x64_S127x32x1_S8x2x127x32x64_014_2_n_n_2_2_82164 x t (ix5 i g b u l) = x (ix4 i g n l) := by
  unfold Host.gather
  refine congrArg x ?_
  funext a
  refine Fin.ext ?_
  match a with
  | ⟨0, _⟩ => exact whole_at t _ 0 (by decide) _ ((dif_pos (show (0 : Fin 4) ∈ ([0, 1, 3] : List (Fin 4)) by decide)).trans rfl)
  | ⟨1, _⟩ => exact whole_at t _ 1 (by decide) _ ((dif_pos (show (1 : Fin 4) ∈ ([0, 1, 3] : List (Fin 4)) by decide)).trans rfl)
  | ⟨2, _⟩ =>
    refine Eq.trans ?_ hn
    show GatherDims.start gather_S8x2x2048x64_S127x32x1_S8x2x127x32x64_014_2_n_n_2_2_82164 _ t 2 + GatherDims.batchCoord gather_S8x2x2048x64_S127x32x1_S8x2x127x32x64_014_2_n_n_2_2_82164 _ 2 + GatherDims.offCoord gather_S8x2x2048x64_S127x32x1_S8x2x127x32x64_014_2_n_n_2_2_82164 _ 2 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (2 : Fin 4) ∈ GatherDims.startIndexMap gather_S8x2x2048x64_S127x32x1_S8x2x127x32x64_014_2_n_n_2_2_82164 from List.mem_singleton.mpr rfl)]
    refine (Nat.add_zero _).trans ((Nat.add_zero _).trans ?_)
    refine congrArg (fun k => min (t k).toInt.toNat 2047) ?_
    funext c
    refine Fin.ext ?_
    match c with
    | ⟨0, _⟩ => rfl
    | ⟨1, _⟩ => rfl
    | ⟨2, _⟩ => rfl
  | ⟨3, _⟩ => exact whole_at t _ 3 (by decide) _ ((dif_pos (show (3 : Fin 4) ∈ ([0, 1, 3] : List (Fin 4)) by decide)).trans rfl)

/-- Every block's tokens' rows. -/
abbrev blocks (K : FVec Ideal S8x2048x128 .f32) : FVec Ideal S8x2x127x32x64 .f32 :=
  Host.gather gather_S8x2x2048x64_S127x32x1_S8x2x127x32x64_014_2_n_n_2_2_82164 (transpose S8x2x2048x64 [0, 2, 1, 3] (shapeCast _ K shapeCasts_S8x2048x128_S8x2048x2x64) transposes_S8x2048x2x64_S8x2x2048x64_0_2_1_3) tok

theorem blocks_at (K : FVec Ideal S8x2048x128 .f32) (i : Fin 8) (g : Fin 2) (b : Fin 127) (u : Fin 32) (l : Fin 64) :
    blocks K (ix5 i g b u l) = K (ix3 i ⟨b.val * 16 + u.val, by omega⟩ ⟨g.val * 64 + l.val, by omega⟩) := by
  refine (gather_at _ tok i g b u l ⟨b.val * 16 + u.val, by omega⟩ (tok_at b u)).trans ?_
  pointwise

/-! ## The network -/

/-- The hidden layer's function, by the complementary error function of the other sign. -/
theorem gelu_eq (x : EReal) : Ideal.ofBits .f32 0x3F000000#32 * x * Ideal.erfc (-x * Ideal.ofBits .f32 0x3F3504F3#32) = Cert.Compress.gelu x := by
  unfold Cert.Compress.gelu
  rw [EReal.neg_mul, Ideal.erfc_neg]

/-- A block's sum over its 32 tokens, by its two halves. -/
theorem hidden_eq (K : FVec Ideal S8x2048x128 .f32) (P : FVec Ideal S32x64 .f32) (W : FVec Ideal S2048x256 .f32) (i : Fin 8) (g : Fin 2) (b : Fin 127) (j : Fin 256) :
    (∑ x : Fin 2048, (blocks K (ix5 i g b ⟨x.val / 64, by omega⟩ ⟨x.val % 64, by omega⟩) + P (ix2 ⟨x.val / 64, by omega⟩ ⟨x.val % 64, by omega⟩)) * W (ix2 x j))
      = Cert.Compress.hidden (fun f => K (ix3 i ⟨b.val * 16 + f.val / 64, by omega⟩ ⟨g.val * 64 + f.val % 64, by omega⟩))
        (fun f => K (ix3 i ⟨(b.val + 1) % 128 * 16 + f.val / 64, by omega⟩ ⟨g.val * 64 + f.val % 64, by omega⟩))
        (fun f => P (ix2 ⟨0 * 16 + f.val / 64, by omega⟩ ⟨f.val % 64, by omega⟩)) (fun f => P (ix2 ⟨1 * 16 + f.val / 64, by omega⟩ ⟨f.val % 64, by omega⟩))
        (fun f => W (ix2 ⟨0 + f.val, by omega⟩ j)) (fun f => W (ix2 ⟨1024 + f.val, by omega⟩ j)) := by
  refine (Fin.sum_univ_add (a := 1024) (b := 1024) _).trans ?_
  unfold Cert.Compress.hidden
  refine congrArg₂ (fun a b : EReal => a + b) (Finset.sum_congr rfl fun f _ => ?_) (Finset.sum_congr rfl fun f _ => ?_)
  · refine congrArg₂ (fun a b : EReal => a * b) (congrArg₂ (fun a b : EReal => a + b) ((blocks_at K i g b _ _).trans ?_) ?_) ?_
    · refine congrArg K ?_
      idx_ext
    · refine congrArg P ?_
      idx_ext
    · refine congrArg W ?_
      idx_ext
  · refine congrArg₂ (fun a b : EReal => a * b) (congrArg₂ (fun a b : EReal => a + b) ((blocks_at K i g b _ _).trans ?_) ?_) ?_
    · refine congrArg K ?_
      idx_ext
    · refine congrArg P ?_
      idx_ext
    · refine congrArg W ?_
      idx_ext

/-- A result's term, of its four arguments, at an index. -/
theorem result_at (K : FVec Ideal S8x2048x128 .f32) (P : FVec Ideal S32x64 .f32) (W : FVec Ideal S2048x256 .f32) (U : FVec Ideal S256x64 .f32)
    (G : FVec Ideal S8x2x127x32x64 .f32) (hG : G = blocks K) (i : Fin 8) (g : Fin 2) (b : Fin 127) (e : Fin 64) :
    (truncf .bf16 (Host.dotGeneral dot_S8x2x127x256_S256x64_S8x2x127x64_3_0_012_1_n_n none (mulf (mulf (broadcastInDim S8x2x127x256 ![] bcast_S_S8x2x127x256 (constant S_ .f32 0x3F000000#32)) (Host.dotGeneral dot_S8x2x127x2048_S2048x256_S8x2x127x256_3_0_012_1_n_n none (shapeCast _ (addf G (broadcastInDim S8x2x127x32x64 ![0, 1, 2, 3, 4] bcast_S1x1x1x32x64_S8x2x127x32x64_0_1_2_3_4 (broadcastInDim S1x1x1x32x64 ![3, 4] bcast_S32x64_S1x1x1x32x64_3_4 P))) shapeCasts_S8x2x127x32x64_S8x2x127x2048) W)) (Host.erfc (mulf (Host.negf (Host.dotGeneral dot_S8x2x127x2048_S2048x256_S8x2x127x256_3_0_012_1_n_n none (shapeCast _ (addf G (broadcastInDim S8x2x127x32x64 ![0, 1, 2, 3, 4] bcast_S1x1x1x32x64_S8x2x127x32x64_0_1_2_3_4 (broadcastInDim S1x1x1x32x64 ![3, 4] bcast_S32x64_S1x1x1x32x64_3_4 P))) shapeCasts_S8x2x127x32x64_S8x2x127x2048) W)) (broadcastInDim S8x2x127x256 ![] bcast_S_S8x2x127x256 (constant S_ .f32 0x3F3504F3#32))))) U) bitsLt_bf16_f32 : FVec Ideal S8x2x127x64 .bf16) (ix4 i g b e)
    = Cert.Compress.compressed K P W U i g ⟨b.val, by omega⟩ e := by
  pointwise
  unfold Cert.Compress.compressed
  refine Finset.sum_congr rfl fun j _ => ?_
  rw [gelu_eq, hG, hidden_eq]
  rfl

theorem algebraic : Cert.algebraic_Kernel5Ideal_Reference5Ideal (hKernel5Ideal := Cert.Kernel5Ideal.Gen.facts)
    (hReference5Ideal := Cert.Reference5Ideal.Gen.facts) := by
  intro m ρ m' ρ' hpre hagree
  refine ⟨_, _, Cert.Compress.run m ρ, ?_⟩
  refine (θ_run Cert.Reference5Ideal.defs _ _).mono (fun _ h c => ⟨(h c).1.trans ?_, (h c).2.1.trans ?_, (h c).2.2⟩) (Cert.Reference5Ideal.Value.run (F := Ideal) m' ρ')
  · obtain ⟨h0, h1, h2, h3, h4, h5, h6, h7⟩ := hagree c
    unfold Value.res_main_v62
    rw [h0, h2, h4, h5]
    funext y
    idx_vars y
    exact result_at _ _ _ _ _ rfl y0 y1 y2 y3
  · obtain ⟨h0, h1, h2, h3, h4, h5, h6, h7⟩ := hagree c
    unfold Value.res_main_v63
    rw [h1, h3, h6, h7]
    funext y
    idx_vars y
    exact result_at _ _ _ _ _ rfl y0 y1 y2 y3

end Cert.CompressRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite
public import proofs.«01_k».proof.Proof.Gen.KernelIdeal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Algebraic
public import proofs.«01_k».proof.Proof.FinalRef
public import proofs.«01_k».proof.Proof.MergeRef
public import proofs.«01_k».proof.Proof.ProjectRef
public import proofs.«01_k».proof.Proof.CompressRef
public import Idealize.ShloMosaic.Adequacy
public import Idealize.ShloMosaic.Init

@[expose] public section

noncomputable section

namespace Cert.Proof

open Idealize.ShloMosaic Idealize.SL.Sem Cert.Kernel

/-- The reference of the differential attention runs, from every memory. -/
theorem reference_runs : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference of the final call runs, from every memory. -/
theorem reference2_runs : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The reference of the merge runs, from every memory. -/
theorem reference3_runs : Cert.quiescent_Reference3Ideal (hReference3Ideal := Cert.Reference3Ideal.Gen.facts) := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- The reference of the projection runs, from every memory. -/
theorem reference4_runs : Cert.quiescent_Reference4Ideal (hReference4Ideal := Cert.Reference4Ideal.Gen.facts) := fun m ρ _ =>
  (θ_run Cert.Reference4Ideal.defs _ _).mono (fun r h => ⟨fun c => (h c).2.2.2.2.2.2.2.2.2.2.2.2.2, Idealize.ShloMosaic.sem_eq_zero_of_no_sems (by decide) r.2⟩)
    (Cert.Reference4Ideal.Value.run (F := Ideal) m ρ)

theorem reference5_runs : Cert.quiescent_Reference5Ideal (hReference5Ideal := Cert.Reference5Ideal.Gen.facts) := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.facts,
  fun m ρ _ => Cert.Kernel.Gen.frame m ρ,
  fun m ρ _ => Cert.KernelIdeal.Gen.frame m ρ,
  fun m ρ _ => Cert.KernelIdeal.Gen.frame m ρ,
  reference_runs,
  fun m ρ _ => reference_runs m ρ trivial,
  fun m ρ _ => Cert.Kernel2.Gen.frame m ρ,
  fun m ρ _ => Cert.Kernel2Ideal.Gen.frame m ρ,
  reference2_runs,
  fun m ρ _ => Cert.Kernel3.Gen.frame m ρ,
  fun m ρ _ => Cert.Kernel3Ideal.Gen.frame m ρ,
  reference3_runs,
  fun m ρ _ => Cert.Kernel4.Gen.frame m ρ,
  fun m ρ _ => Cert.Kernel4Ideal.Gen.frame m ρ,
  reference4_runs,
  fun m ρ _ => Cert.Kernel5.Gen.frame m ρ,
  fun m ρ _ => Cert.Kernel5Ideal.Gen.frame m ρ,
  reference5_runs,
  ⟨IdealRules.named_const.statement Cert.KernelIdeal.κ "m_init" .f32 0xF149F2CA#32 ⊥ rfl,
    IdealRules.named_const.statement Cert.KernelIdeal.κ "masked" .f32 0xF1800000#32 ⊥ rfl⟩,
  Cert.Hand.algebraic,
  trivial,
  Cert.FinalRef.algebraic,
  trivial,
  Cert.MergeRef.algebraic,
  trivial,
  Cert.ProjectRef.algebraic,
  trivial,
  Cert.CompressRef.algebraic⟩

end Cert.Proof

end
